-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S3072x1024 : Shape := ⟨2, ![3072, 1024]⟩
abbrev S_ : Shape := ⟨0, ![]⟩

class Facts : Prop where
  concatenates_S1024x1024_S1024x1024_S1024x1024_S3072x1024_d0 : Shape.Concatenates [S1024x1024, S1024x1024, S1024x1024] S3072x1024 0
  bcast_S_S3072x1024 : S_.BroadcastsInDim S3072x1024 (![] : Fin 0 → Fin S3072x1024.rank)

variable [Facts]

def fn {F : FTy → Type} [FloatOps F] (main_arg0 : FVec F S1024x1024 .bf16) (main_arg1 : FVec F S1024x1024 .bf16) (main_arg2 : FVec F S1024x1024 .bf16) (main_arg3 : FVec F S1024x1024 .bf16) (main_arg4 : FVec F S1024x1024 .bf16) : IVec S3072x1024 1 :=
  let main_v0 : FVec F S3072x1024 .bf16 := concatenate S3072x1024 0 [⟨S1024x1024, main_arg0⟩, ⟨S1024x1024, main_arg1⟩, ⟨S1024x1024, main_arg2⟩] concatenates_S1024x1024_S1024x1024_S1024x1024_S3072x1024_d0
  let main_v1 : FVec F S3072x1024 .bf16 := Host.absf main_v0
  let main_cst : FVec F S_ .bf16 := constant S_ .bf16 0x7F80#16
  let main_v2 : FVec F S3072x1024 .bf16 := broadcastInDim S3072x1024 ![] bcast_S_S3072x1024 main_cst
  let main_v3 : IVec S3072x1024 1 := cmpf .olt main_v1 main_v2
  main_v3
-- ==== Pre_finite_ReferenceIdeal.lean ====
abbrev S1024x1024 : Shape := ⟨2, ![1024, 1024]⟩
abbrev S4096x1024 : Shape := ⟨2, ![4096, 1024]⟩
abbrev S6144x1024 : Shape := ⟨2, ![6144, 1024]⟩
abbrev S_ : Shape := ⟨0, ![]⟩

class Facts : Prop where
  concatenates_S1024x1024_S1024x1024_S4096x1024_S6144x1024_d0 : Shape.Concatenates [S1024x1024, S1024x1024, S4096x1024] S6144x1024 0
  bcast_S_S6144x1024 : S_.BroadcastsInDim S6144x1024 (![] : Fin 0 → Fin S6144x1024.rank)

variable [Facts]

def fn {F : FTy → Type} [FloatOps F] (main_arg0 : FVec F S1024x1024 .bf16) (main_arg1 : FVec F S1024x1024 .bf16) (main_arg2 : FVec F S4096x1024 .bf16) (main_arg3 : FVec F S4096x1024 .bf16) (main_arg4 : FVec F S1024x1024 .bf16) : IVec S6144x1024 1 :=
  let main_v0 : FVec F S6144x1024 .bf16 := concatenate S6144x1024 0 [⟨S1024x1024, main_arg0⟩, ⟨S1024x1024, main_arg1⟩, ⟨S4096x1024, main_arg2⟩] concatenates_S1024x1024_S1024x1024_S4096x1024_S6144x1024_d0
  let main_v1 : FVec F S6144x1024 .bf16 := Host.absf main_v0
  let main_cst : FVec F S_ .bf16 := constant S_ .bf16 0x7F80#16
  let main_v2 : FVec F S6144x1024 .bf16 := broadcastInDim S6144x1024 ![] bcast_S_S6144x1024 main_cst
  let main_v3 : IVec S6144x1024 1 := cmpf .olt main_v1 main_v2
  main_v3
-- ==== Kernel.lean ====
abbrev S1024x1024 : Shape := ⟨2, ![1024, 1024]⟩
abbrev S1024x8 : Shape := ⟨2, ![1024, 8]⟩
abbrev S4x160x1024 : Shape := ⟨3, ![4, 160, 1024]⟩
abbrev S4x160x8 : Shape := ⟨3, ![4, 160, 8]⟩
abbrev S6 : Shape := ⟨1, ![6]⟩
abbrev S3 : Shape := ⟨1, ![3]⟩
abbrev S2 : Shape := ⟨1, ![2]⟩
abbrev S3x4 : Shape := ⟨2, ![3, 4]⟩
abbrev S4x4 : Shape := ⟨2, ![4, 4]⟩
abbrev S1024x128 : Shape := ⟨2, ![1024, 128]⟩
abbrev S1024 : Shape := ⟨1, ![1024]⟩
abbrev S1024x1 : Shape := ⟨2, ![1024, 1]⟩
abbrev S_ : Shape := ⟨0, ![]⟩
abbrev S1 : Shape := ⟨1, ![1]⟩
abbrev S512x1024 : Shape := ⟨2, ![512, 1024]⟩
abbrev S1x1 : Shape := ⟨2, ![1, 1]⟩
abbrev S1x32x1024 : Shape := ⟨3, ![1, 32, 1024]⟩
abbrev S32x1024 : Shape := ⟨2, ![32, 1024]⟩
abbrev S1x32x8 : Shape := ⟨3, ![1, 32, 8]⟩
abbrev S32x8 : Shape := ⟨2, ![32, 8]⟩
abbrev S1x128x1024 : Shape := ⟨3, ![1, 128, 1024]⟩
abbrev S128x1024 : Shape := ⟨2, ![128, 1024]⟩
abbrev S1x128x8 : Shape := ⟨3, ![1, 128, 8]⟩
abbrev S128x8 : Shape := ⟨2, ![128, 8]⟩

abbrev nBuf : Space → Nat
  | .hbm => 6
  | .vmem => 14
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x8, .f32⟩
  | .local _ .vmem, ⟨8, _⟩ => ⟨S1024x1024, .bf16⟩
  | .local _ .vmem, ⟨9, _⟩ => ⟨S1024x8, .f32⟩
  | .local _ .vmem, ⟨10, _⟩ => ⟨S4x160x1024, .bf16⟩
  | .local _ .vmem, ⟨11, _⟩ => ⟨S4x160x8, .f32⟩
  | .local _ .vmem, ⟨12, _⟩ => ⟨S1024x1024, .f32⟩
  | .local _ .vmem, ⟨13, _⟩ => ⟨S1024x8, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 2 → Bool
  | ⟨0, _⟩ => false
  | ⟨1, _⟩ => true
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 2 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_119 : BitVec 32 := 1#32
  let v235 : BitVec 32 := Scalar.addi v2 c1_i32_119
  let c4_i32_120 : BitVec 32 := 4#32
  let c0_i32 : BitVec 32 := 0#32
  let v236 : BitVec 1 := Scalar.cmpi .eq c4_i32_120 c0_i32
  let c1_i32_121 : BitVec 32 := 1#32
  let v237 : BitVec 32 := Scalar.select v236 c1_i32_121 c4_i32_120
  let v238 : BitVec 32 := Scalar.remsi v235 v237
  let c0_i32_123 : BitVec 32 := 0#32
  let v240 : BitVec 1 := Scalar.cmpi .slt v238 c0_i32_123
  let c0_i32_124 : BitVec 32 := 0#32
  let v241 : BitVec 1 := Scalar.cmpi .slt v237 c0_i32_124
  let v242 : BitVec 1 := Scalar.xori v240 v241
  let c0_i32_122 : BitVec 32 := 0#32
  let v239 : BitVec 1 := Scalar.cmpi .ne v238 c0_i32_122
  let v243 : BitVec 1 := Scalar.andi v242 v239
  let v244 : BitVec 32 := Scalar.addi v238 v237
  let v245 : BitVec 32 := Scalar.select v243 v244 v238
  let c1_i32_126 : BitVec 32 := 1#32
  let v246 : BitVec 32 := Scalar.muli v245 c1_i32_126
  let v247 : BitVec 32 := Scalar.addi c0_i32_127 v246
  v247.toNat
def k0_dev2 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v248 : BitVec 32 := Scalar.addi v2 c2_i32
  let c4_i32_128 : BitVec 32 := 4#32
  let c0_i32_129 : BitVec 32 := 0#32
  let v249 : BitVec 1 := Scalar.cmpi .eq c4_i32_128 c0_i32_129
  let c1_i32_130 : BitVec 32 := 1#32
  let v250 : BitVec 32 := Scalar.select v249 c1_i32_130 c4_i32_128
  let v251 : BitVec 32 := Scalar.remsi v248 v250
  let c0_i32_132 : BitVec 32 := 0#32
  let v253 : BitVec 1 := Scalar.cmpi .slt v251 c0_i32_132
  let c0_i32_133 : BitVec 32 := 0#32
  let v254 : BitVec 1 := Scalar.cmpi .slt v250 c0_i32_133
  let v255 : BitVec 1 := Scalar.xori v253 v254
  let c0_i32_131 : BitVec 32 := 0#32
  let v252 : BitVec 1 := Scalar.cmpi .ne v251 c0_i32_131
  let v256 : BitVec 1 := Scalar.andi v255 v252
  let v257 : BitVec 32 := Scalar.addi v251 v250
  let v258 : BitVec 32 := Scalar.select v256 v257 v251
  let c1_i32_135 : BitVec 32 := 1#32
  let v259 : BitVec 32 := Scalar.muli v258 c1_i32_135
  let v260 : BitVec 32 := Scalar.addi c0_i32_136 v259
  v260.toNat
def k0_dev3 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v261 : BitVec 32 := Scalar.addi v2 c3_i32
  let c4_i32_137 : BitVec 32 := 4#32
  let c0_i32_138 : BitVec 32 := 0#32
  let v262 : BitVec 1 := Scalar.cmpi .eq c4_i32_137 c0_i32_138
  let c1_i32_139 : BitVec 32 := 1#32
  let v263 : BitVec 32 := Scalar.select v262 c1_i32_139 c4_i32_137
  let v264 : BitVec 32 := Scalar.remsi v261 v263
  let c0_i32_141 : BitVec 32 := 0#32
  let v266 : BitVec 1 := Scalar.cmpi .slt v264 c0_i32_141
  let c0_i32_142 : BitVec 32 := 0#32
  let v267 : BitVec 1 := Scalar.cmpi .slt v263 c0_i32_142
  let v268 : BitVec 1 := Scalar.xori v266 v267
  let c0_i32_140 : BitVec 32 := 0#32
  let v265 : BitVec 1 := Scalar.cmpi .ne v264 c0_i32_140
  let v269 : BitVec 1 := Scalar.andi v268 v265
  let v270 : BitVec 32 := Scalar.addi v264 v263
  let v271 : BitVec 32 := Scalar.select v269 v270 v264
  let c1_i32_144 : BitVec 32 := 1#32
  let v272 : BitVec 32 := Scalar.muli v271 c1_i32_144
  let v273 : BitVec 32 := Scalar.addi c0_i32_145 v272
  v273.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_147 : BitVec 32 := 0#32
  let v274 : BitVec 1 := Scalar.cmpi .eq v2 c0_i32_147
  let v275 : BitVec 32 := Scalar.extui v274
  let c0_i32_148 : BitVec 32 := 0#32
  let v276 : BitVec 1 := Scalar.cmpi .ne v275 c0_i32_148
  v276

def k0_dev4 : Nat :=
  let c0_i32_184 : BitVec 32 := 0#32
  let c1_i32_182 : BitVec 32 := 1#32
  let c1_i32_183 : BitVec 32 := 1#32
  let v350 : BitVec 32 := Scalar.muli c1_i32_182 c1_i32_183
  let v351 : BitVec 32 := Scalar.addi c0_i32_184 v350
  v351.toNat
def k0_dev5 : Nat :=
  let c0_i32_193 : BitVec 32 := 0#32
  let c3_i32_191 : BitVec 32 := 3#32
  let c1_i32_192 : BitVec 32 := 1#32
  let v358 : BitVec 32 := Scalar.muli c3_i32_191 c1_i32_192
  let v359 : BitVec 32 := Scalar.addi c0_i32_193 v358
  v359.toNat
def k0_dev6 : Nat :=
  let c0_i32_201 : BitVec 32 := 0#32
  let c1_i32_199 : BitVec 32 := 1#32
  let c1_i32_200 : BitVec 32 := 1#32
  let v366 : BitVec 32 := Scalar.muli c1_i32_199 c1_i32_200
  let v367 : BitVec 32 := Scalar.addi c0_i32_201 v366
  v367.toNat
def k0_dev7 : Nat :=
  let c0_i32_210 : BitVec 32 := 0#32
  let c3_i32_208 : BitVec 32 := 3#32
  let c1_i32_209 : BitVec 32 := 1#32
  let v374 : BitVec 32 := Scalar.muli c3_i32_208 c1_i32_209
  let v375 : BitVec 32 := Scalar.addi c0_i32_210 v374
  v375.toNat
def k0_dev8 : Nat :=
  let c0_i32_219 : BitVec 32 := 0#32
  let c1_i32_217 : BitVec 32 := 1#32
  let c1_i32_218 : BitVec 32 := 1#32
  let v382 : BitVec 32 := Scalar.muli c1_i32_217 c1_i32_218
  let v383 : BitVec 32 := Scalar.addi c0_i32_219 v382
  v383.toNat
def k0_dev9 : Nat :=
  let c0_i32_223 : BitVec 32 := 0#32
  let c3_i32_221 : BitVec 32 := 3#32
  let c1_i32_222 : BitVec 32 := 1#32
  let v388 : BitVec 32 := Scalar.muli c3_i32_221 c1_i32_222
  let v389 : BitVec 32 := Scalar.addi c0_i32_223 v388
  v389.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_149 : BitVec 32 := 1#32
  let v277 : BitVec 1 := Scalar.cmpi .eq v2 c1_i32_149
  let v278 : BitVec 32 := Scalar.extui v277
  let c0_i32_150 : BitVec 32 := 0#32
  let v279 : BitVec 1 := Scalar.cmpi .ne v278 c0_i32_150
  v279

def k0_dev10 : Nat :=
  let c0_i32_187 : BitVec 32 := 0#32
  let c0_i32_185 : BitVec 32 := 0#32
  let c1_i32_186 : BitVec 32 := 1#32
  let v350 : BitVec 32 := Scalar.muli c0_i32_185 c1_i32_186
  let v351 : BitVec 32 := Scalar.addi c0_i32_187 v350
  v351.toNat
def k0_dev11 : Nat :=
  let c0_i32_199 : BitVec 32 := 0#32
  let c0_i32_197 : BitVec 32 := 0#32
  let c1_i32_198 : BitVec 32 := 1#32
  let v359 : BitVec 32 := Scalar.muli c0_i32_197 c1_i32_198
  let v360 : BitVec 32 := Scalar.addi c0_i32_199 v359
  v360.toNat
def k0_dev12 : Nat :=
  let c0_i32_211 : BitVec 32 := 0#32
  let c0_i32_209 : BitVec 32 := 0#32
  let c1_i32_210 : BitVec 32 := 1#32
  let v368 : BitVec 32 := Scalar.muli c0_i32_209 c1_i32_210
  let v369 : BitVec 32 := Scalar.addi c0_i32_211 v368
  v369.toNat
def k0_dev13 : Nat :=
  let c0_i32_222 : BitVec 32 := 0#32
  let c0_i32_220 : BitVec 32 := 0#32
  let c1_i32_221 : BitVec 32 := 1#32
  let v377 : BitVec 32 := Scalar.muli c0_i32_220 c1_i32_221
  let v378 : BitVec 32 := Scalar.addi c0_i32_222 v377
  v378.toNat
def k0_dev14 : Nat :=
  let c0_i32_234 : BitVec 32 := 0#32
  let c2_i32_232 : BitVec 32 := 2#32
  let c1_i32_233 : BitVec 32 := 1#32
  let v386 : BitVec 32 := Scalar.muli c2_i32_232 c1_i32_233
  let v387 : BitVec 32 := Scalar.addi c0_i32_234 v386
  v387.toNat
def k0_dev15 : Nat :=
  let c0_i32_246 : BitVec 32 := 0#32
  let c2_i32_244 : BitVec 32 := 2#32
  let c1_i32_245 : BitVec 32 := 1#32
  let v395 : BitVec 32 := Scalar.muli c2_i32_244 c1_i32_245
  let v396 : BitVec 32 := Scalar.addi c0_i32_246 v395
  v396.toNat
def k0_dev16 : Nat :=
  let c0_i32_258 : BitVec 32 := 0#32
  let c2_i32_256 : BitVec 32 := 2#32
  let c1_i32_257 : BitVec 32 := 1#32
  let v404 : BitVec 32 := Scalar.muli c2_i32_256 c1_i32_257
  let v405 : BitVec 32 := Scalar.addi c0_i32_258 v404
  v405.toNat
def k0_dev17 : Nat :=
  let c0_i32_270 : BitVec 32 := 0#32
  let c2_i32_268 : BitVec 32 := 2#32
  let c1_i32_269 : BitVec 32 := 1#32
  let v413 : BitVec 32 := Scalar.muli c2_i32_268 c1_i32_269
  let v414 : BitVec 32 := Scalar.addi c0_i32_270 v413
  v414.toNat
def k0_dev18 : Nat :=
  let c0_i32_282 : BitVec 32 := 0#32
  let c3_i32_280 : BitVec 32 := 3#32
  let c1_i32_281 : BitVec 32 := 1#32
  let v422 : BitVec 32 := Scalar.muli c3_i32_280 c1_i32_281
  let v423 : BitVec 32 := Scalar.addi c0_i32_282 v422
  v423.toNat
def k0_dev19 : Nat :=
  let c0_i32_294 : BitVec 32 := 0#32
  let c3_i32_292 : BitVec 32 := 3#32
  let c1_i32_293 : BitVec 32 := 1#32
  let v431 : BitVec 32 := Scalar.muli c3_i32_292 c1_i32_293
  let v432 : BitVec 32 := Scalar.addi c0_i32_294 v431
  v432.toNat
def k0_dev20 : Nat :=
  let c0_i32_306 : BitVec 32 := 0#32
  let c3_i32_304 : BitVec 32 := 3#32
  let c1_i32_305 : BitVec 32 := 1#32
  let v440 : BitVec 32 := Scalar.muli c3_i32_304 c1_i32_305
  let v441 : BitVec 32 := Scalar.addi c0_i32_306 v440
  v441.toNat
def k0_dev21 : Nat :=
  let c0_i32_318 : BitVec 32 := 0#32
  let c3_i32_316 : BitVec 32 := 3#32
  let c1_i32_317 : BitVec 32 := 1#32
  let v449 : BitVec 32 := Scalar.muli c3_i32_316 c1_i32_317
  let v450 : BitVec 32 := Scalar.addi c0_i32_318 v449
  v450.toNat
def k0_dev22 : Nat :=
  let c0_i32_336 : BitVec 32 := 0#32
  let c2_i32_334 : BitVec 32 := 2#32
  let c1_i32_335 : BitVec 32 := 1#32
  let v464 : BitVec 32 := Scalar.muli c2_i32_334 c1_i32_335
  let v465 : BitVec 32 := Scalar.addi c0_i32_336 v464
  v465.toNat
def k0_dev23 : Nat :=
  let c0_i32_350 : BitVec 32 := 0#32
  let c2_i32_348 : BitVec 32 := 2#32
  let c1_i32_349 : BitVec 32 := 1#32
  let v476 : BitVec 32 := Scalar.muli c2_i32_348 c1_i32_349
  let v477 : BitVec 32 := Scalar.addi c0_i32_350 v476
  v477.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_151 : BitVec 32 := 2#32
  let v280 : BitVec 1 := Scalar.cmpi .eq v2 c2_i32_151
  let v281 : BitVec 32 := Scalar.extui v280
  let c0_i32_152 : BitVec 32 := 0#32
  let v282 : BitVec 1 := Scalar.cmpi .ne v281 c0_i32_152
  v282

def k0_dev24 : Nat :=
  let c0_i32_187 : BitVec 32 := 0#32
  let c0_i32_185 : BitVec 32 := 0#32
  let c1_i32_186 : BitVec 32 := 1#32
  let v350 : BitVec 32 := Scalar.muli c0_i32_185 c1_i32_186
  let v351 : BitVec 32 := Scalar.addi c0_i32_187 v350
  v351.toNat
def k0_dev25 : Nat :=
  let c0_i32_199 : BitVec 32 := 0#32
  let c0_i32_197 : BitVec 32 := 0#32
  let c1_i32_198 : BitVec 32 := 1#32
  let v359 : BitVec 32 := Scalar.muli c0_i32_197 c1_i32_198
  let v360 : BitVec 32 := Scalar.addi c0_i32_199 v359
  v360.toNat
def k0_dev26 : Nat :=
  let c0_i32_211 : BitVec 32 := 0#32
  let c1_i32_209 : BitVec 32 := 1#32
  let c1_i32_210 : BitVec 32 := 1#32
  let v368 : BitVec 32 := Scalar.muli c1_i32_209 c1_i32_210
  let v369 : BitVec 32 := Scalar.addi c0_i32_211 v368
  v369.toNat
def k0_dev27 : Nat :=
  let c0_i32_223 : BitVec 32 := 0#32
  let c1_i32_221 : BitVec 32 := 1#32
  let c1_i32_222 : BitVec 32 := 1#32
  let v377 : BitVec 32 := Scalar.muli c1_i32_221 c1_i32_222
  let v378 : BitVec 32 := Scalar.addi c0_i32_223 v377
  v378.toNat
def k0_dev28 : Nat :=
  let c0_i32_235 : BitVec 32 := 0#32
  let c3_i32_233 : BitVec 32 := 3#32
  let c1_i32_234 : BitVec 32 := 1#32
  let v386 : BitVec 32 := Scalar.muli c3_i32_233 c1_i32_234
  let v387 : BitVec 32 := Scalar.addi c0_i32_235 v386
  v387.toNat
def k0_dev29 : Nat :=
  let c0_i32_247 : BitVec 32 := 0#32
  let c3_i32_245 : BitVec 32 := 3#32
  let c1_i32_246 : BitVec 32 := 1#32
  let v395 : BitVec 32 := Scalar.muli c3_i32_245 c1_i32_246
  let v396 : BitVec 32 := Scalar.addi c0_i32_247 v395
  v396.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_153 : BitVec 32 := 3#32
  let v283 : BitVec 1 := Scalar.cmpi .eq v2 c3_i32_153
  let v284 : BitVec 32 := Scalar.extui v283
  let c0_i32_154 : BitVec 32 := 0#32
  let v285 : BitVec 1 := Scalar.cmpi .ne v284 c0_i32_154
  v285

def k0_dev30 : Nat :=
  let c0_i32_187 : BitVec 32 := 0#32
  let c0_i32_185 : BitVec 32 := 0#32
  let c1_i32_186 : BitVec 32 := 1#32
  let v350 : BitVec 32 := Scalar.muli c0_i32_185 c1_i32_186
  let v351 : BitVec 32 := Scalar.addi c0_i32_187 v350
  v351.toNat
def k0_dev31 : Nat :=
  let c0_i32_199 : BitVec 32 := 0#32
  let c0_i32_197 : BitVec 32 := 0#32
  let c1_i32_198 : BitVec 32 := 1#32
  let v359 : BitVec 32 := Scalar.muli c0_i32_197 c1_i32_198
  let v360 : BitVec 32 := Scalar.addi c0_i32_199 v359
  v360.toNat
def k0_dev32 : Nat :=
  let c0_i32_211 : BitVec 32 := 0#32
  let c1_i32_209 : BitVec 32 := 1#32
  let c1_i32_210 : BitVec 32 := 1#32
  let v368 : BitVec 32 := Scalar.muli c1_i32_209 c1_i32_210
  let v369 : BitVec 32 := Scalar.addi c0_i32_211 v368
  v369.toNat
def k0_dev33 : Nat :=
  let c0_i32_223 : BitVec 32 := 0#32
  let c1_i32_221 : BitVec 32 := 1#32
  let c1_i32_222 : BitVec 32 := 1#32
  let v377 : BitVec 32 := Scalar.muli c1_i32_221 c1_i32_222
  let v378 : BitVec 32 := Scalar.addi c0_i32_223 v377
  v378.toNat
def k0_dev34 : Nat :=
  let c0_i32_235 : BitVec 32 := 0#32
  let c2_i32_233 : BitVec 32 := 2#32
  let c1_i32_234 : BitVec 32 := 1#32
  let v386 : BitVec 32 := Scalar.muli c2_i32_233 c1_i32_234
  let v387 : BitVec 32 := Scalar.addi c0_i32_235 v386
  v387.toNat
def k0_dev35 : Nat :=
  let c0_i32_247 : BitVec 32 := 0#32
  let c2_i32_245 : BitVec 32 := 2#32
  let c1_i32_246 : BitVec 32 := 1#32
  let v395 : BitVec 32 := Scalar.muli c2_i32_245 c1_i32_246
  let v396 : BitVec 32 := Scalar.addi c0_i32_247 v395
  v396.toNat
def k0_dev36 : Nat :=
  let c0_i32_264 : BitVec 32 := 0#32
  let c2_i32_262 : BitVec 32 := 2#32
  let c1_i32_263 : BitVec 32 := 1#32
  let v410 : BitVec 32 := Scalar.muli c2_i32_262 c1_i32_263
  let v411 : BitVec 32 := Scalar.addi c0_i32_264 v410
  v411.toNat
def k0_dev37 (d0 : Dev nD) : Nat :=
  let c0_i32_189_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_180_r0 : BitVec 32 := 1#32
  let v351_r0 : BitVec 32 := Scalar.addi v2 c1_i32_180_r0
  let c4_i32_181_r0 : BitVec 32 := 4#32
  let c0_i32_182_r0 : BitVec 32 := 0#32
  let v352_r0 : BitVec 1 := Scalar.cmpi .eq c4_i32_181_r0 c0_i32_182_r0
  let c1_i32_183_r0 : BitVec 32 := 1#32
  let v353_r0 : BitVec 32 := Scalar.select v352_r0 c1_i32_183_r0 c4_i32_181_r0
  let v354_r0 : BitVec 32 := Scalar.remsi v351_r0 v353_r0
  let c0_i32_185_r0 : BitVec 32 := 0#32
  let v356_r0 : BitVec 1 := Scalar.cmpi .slt v354_r0 c0_i32_185_r0
  let c0_i32_186_r0 : BitVec 32 := 0#32
  let v357_r0 : BitVec 1 := Scalar.cmpi .slt v353_r0 c0_i32_186_r0
  let v358_r0 : BitVec 1 := Scalar.xori v356_r0 v357_r0
  let c0_i32_184_r0 : BitVec 32 := 0#32
  let v355_r0 : BitVec 1 := Scalar.cmpi .ne v354_r0 c0_i32_184_r0
  let v359_r0 : BitVec 1 := Scalar.andi v358_r0 v355_r0
  let v360_r0 : BitVec 32 := Scalar.addi v354_r0 v353_r0
  let v361_r0 : BitVec 32 := Scalar.select v359_r0 v360_r0 v354_r0
  let c1_i32_188_r0 : BitVec 32 := 1#32
  let v362_r0 : BitVec 32 := Scalar.muli v361_r0 c1_i32_188_r0
  let v363_r0 : BitVec 32 := Scalar.addi c0_i32_189_r0 v362_r0
  v363_r0.toNat
def k0_dev38 (d0 : Dev nD) : Nat :=
  let c0_i32_199_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_190_r0 : BitVec 32 := 2#32
  let v364_r0 : BitVec 32 := Scalar.addi v2 c2_i32_190_r0
  let c4_i32_191_r0 : BitVec 32 := 4#32
  let c0_i32_192_r0 : BitVec 32 := 0#32
  let v365_r0 : BitVec 1 := Scalar.cmpi .eq c4_i32_191_r0 c0_i32_192_r0
  let c1_i32_193_r0 : BitVec 32 := 1#32
  let v366_r0 : BitVec 32 := Scalar.select v365_r0 c1_i32_193_r0 c4_i32_191_r0
  let v367_r0 : BitVec 32 := Scalar.remsi v364_r0 v366_r0
  let c0_i32_195_r0 : BitVec 32 := 0#32
  let v369_r0 : BitVec 1 := Scalar.cmpi .slt v367_r0 c0_i32_195_r0
  let c0_i32_196_r0 : BitVec 32 := 0#32
  let v370_r0 : BitVec 1 := Scalar.cmpi .slt v366_r0 c0_i32_196_r0
  let v371_r0 : BitVec 1 := Scalar.xori v369_r0 v370_r0
  let c0_i32_194_r0 : BitVec 32 := 0#32
  let v368_r0 : BitVec 1 := Scalar.cmpi .ne v367_r0 c0_i32_194_r0
  let v372_r0 : BitVec 1 := Scalar.andi v371_r0 v368_r0
  let v373_r0 : BitVec 32 := Scalar.addi v367_r0 v366_r0
  let v374_r0 : BitVec 32 := Scalar.select v372_r0 v373_r0 v367_r0
  let c1_i32_198_r0 : BitVec 32 := 1#32
  let v375_r0 : BitVec 32 := Scalar.muli v374_r0 c1_i32_198_r0
  let v376_r0 : BitVec 32 := Scalar.addi c0_i32_199_r0 v375_r0
  v376_r0.toNat
def k0_dev39 (d0 : Dev nD) : Nat :=
  let c0_i32_209_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_200_r0 : BitVec 32 := 3#32
  let v377_r0 : BitVec 32 := Scalar.addi v2 c3_i32_200_r0
  let c4_i32_201_r0 : BitVec 32 := 4#32
  let c0_i32_202_r0 : BitVec 32 := 0#32
  let v378_r0 : BitVec 1 := Scalar.cmpi .eq c4_i32_201_r0 c0_i32_202_r0
  let c1_i32_203_r0 : BitVec 32 := 1#32
  let v379_r0 : BitVec 32 := Scalar.select v378_r0 c1_i32_203_r0 c4_i32_201_r0
  let v380_r0 : BitVec 32 := Scalar.remsi v377_r0 v379_r0
  let c0_i32_205_r0 : BitVec 32 := 0#32
  let v382_r0 : BitVec 1 := Scalar.cmpi .slt v380_r0 c0_i32_205_r0
  let c0_i32_206_r0 : BitVec 32 := 0#32
  let v383_r0 : BitVec 1 := Scalar.cmpi .slt v379_r0 c0_i32_206_r0
  let v384_r0 : BitVec 1 := Scalar.xori v382_r0 v383_r0
  let c0_i32_204_r0 : BitVec 32 := 0#32
  let v381_r0 : BitVec 1 := Scalar.cmpi .ne v380_r0 c0_i32_204_r0
  let v385_r0 : BitVec 1 := Scalar.andi v384_r0 v381_r0
  let v386_r0 : BitVec 32 := Scalar.addi v380_r0 v379_r0
  let v387_r0 : BitVec 32 := Scalar.select v385_r0 v386_r0 v380_r0
  let c1_i32_208_r0 : BitVec 32 := 1#32
  let v388_r0 : BitVec 32 := Scalar.muli v387_r0 c1_i32_208_r0
  let v389_r0 : BitVec 32 := Scalar.addi c0_i32_209_r0 v388_r0
  v389_r0.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x1024 : Shape := ⟨2, ![1024, 1024]⟩
abbrev S4096x1024 : Shape := ⟨2, ![4096, 1024]⟩
abbrev S1x1024x1024 : Shape := ⟨3, ![1, 1024, 1024]⟩
abbrev S1x4096x8x128 : Shape := ⟨4, ![1, 4096, 8, 128]⟩
abbrev S1x1024x8x128 : Shape := ⟨4, ![1, 1024, 8, 128]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S_ : Shape := ⟨0, ![]⟩
abbrev S1x8x1024x4096 : Shape := ⟨4, ![1, 8, 1024, 4096]⟩
abbrev S1x1x1024x4096 : Shape := ⟨4, ![1, 1, 1024, 4096]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 80
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S1x1024x1024, .bf16⟩
  | .hbm, ⟨6, _⟩ => ⟨S1x1024x1024, .f32⟩
  | .hbm, ⟨7, _⟩ => ⟨S1x4096x8x128, .bf16⟩
  | .hbm, ⟨8, _⟩ => ⟨S1x4096x8x128, .f32⟩
  | .hbm, ⟨9, _⟩ => ⟨S1x4096x8x128, .bf16⟩
  | .hbm, ⟨10, _⟩ => ⟨S1x4096x8x128, .f32⟩
  | .hbm, ⟨11, _⟩ => ⟨S1024x1024, .f32⟩
  | .hbm, ⟨12, _⟩ => ⟨S1x1024x1024, .f32⟩
  | .hbm, ⟨13, _⟩ => ⟨S1x1024x1024, .bf16⟩
  | .hbm, ⟨14, _⟩ => ⟨S1x1024x8x128, .bf16⟩
  | .hbm, ⟨15, _⟩ => ⟨S1024, .i32⟩
  | .hbm, ⟨16, _⟩ => ⟨S1024x1, .i32⟩
  | .hbm, ⟨17, _⟩ => ⟨S4096, .i32⟩
  | .hbm, ⟨18, _⟩ => ⟨S1x4096, .i32⟩
  | .hbm, ⟨19, _⟩ => ⟨S1024x4096, .i32⟩
  | .hbm, ⟨20, _⟩ => ⟨S1024x4096, .i32⟩
  | .hbm, ⟨21, _⟩ => ⟨S1024x4096, .i32⟩
  | .hbm, ⟨22, _⟩ => ⟨S1024x4096, .i32⟩
  | .hbm, ⟨23, _⟩ => ⟨S_, .i32⟩
  | .hbm, ⟨24, _⟩ => ⟨S1024x4096, .i32⟩
  | .hbm, ⟨25, _⟩ => ⟨S1024x4096, .i1⟩
  | .hbm, ⟨26, _⟩ => ⟨S_, .i32⟩
  | .hbm, ⟨27, _⟩ => ⟨S1x4096, .i32⟩
  | .hbm, ⟨28, _⟩ => ⟨S1x4096, .i1⟩
  | .hbm, ⟨29, _⟩ => ⟨S_, .i32⟩
  | .hbm, ⟨30, _⟩ => ⟨S1024x1, .i32⟩
  | .hbm, ⟨31, _⟩ => ⟨S1024x1, .i1⟩
  | .hbm, ⟨32, _⟩ => ⟨S1024x4096, .i1⟩
  | .hbm, ⟨33, _⟩ => ⟨S1024x4096, .i1⟩
  | .hbm, ⟨34, _⟩ => ⟨S1024x4096, .i1⟩
  | .hbm, ⟨35, _⟩ => ⟨S1024x4096, .i1⟩
  | .hbm, ⟨36, _⟩ => ⟨S1x1024x8x128, .f32⟩
  | .hbm, ⟨37, _⟩ => ⟨S1x8x1024x4096, .f32⟩
  | .hbm, ⟨38, _⟩ => ⟨S1x8x1024x4096, .bf16⟩
  | .hbm, ⟨39, _⟩ => ⟨S1x8x1024x4096, .f32⟩
  | .hbm, ⟨40, _⟩ => ⟨S_, .f32⟩
  | .hbm, ⟨41, _⟩ => ⟨S1x8x1024x4096, .f32⟩
  | .hbm, ⟨42, _⟩ => ⟨S1x8x1024x4096, .f32⟩
  | .hbm, ⟨43, _⟩ => ⟨S1x1x1024x4096, .i1⟩
  | .hbm, ⟨44, _⟩ => ⟨S_, .f32⟩
  | .hbm, ⟨45, _⟩ => ⟨S_, .f32⟩
  | .hbm, ⟨46, _⟩ => ⟨S1x8x1024x4096, .i1⟩
  | .hbm, ⟨47, _⟩ => ⟨S1x8x1024x4096, .f32⟩
  | .hbm, ⟨48, _⟩ => ⟨S1x8x1024x4096, .f32⟩
  | .hbm, ⟨49, _⟩ => ⟨S_, .f32⟩
  | .hbm, ⟨50, _⟩ => ⟨S1x8x1024, .f32⟩
  | .hbm, ⟨51, _⟩ => ⟨S1x8x1024x1, .f32⟩
  | .hbm, ⟨52, _⟩ => ⟨S1x8x1024x4096, .f32⟩
  | .hbm, ⟨53, _⟩ => ⟨S1x8x1024x4096, .f32⟩
  | .hbm, ⟨54, _⟩ => ⟨S1x8x1024x4096, .f32⟩
  | .hbm, ⟨55, _⟩ => ⟨S_, .i1⟩
  | .hbm, ⟨56, _⟩ => ⟨S1024, .i1⟩
  | .hbm, ⟨57, _⟩ => ⟨S1x1x1024x1, .i1⟩
  | .hbm, ⟨58, _⟩ => ⟨S_, .f32⟩
  | .hbm, ⟨59, _⟩ => ⟨S1x8x1024, .f32⟩
  | .hbm, ⟨60, _⟩ => ⟨S1x8x1024x1, .f32⟩
  | .hbm, ⟨61, _⟩ => ⟨S_, .f32⟩
  | .hbm, ⟨62, _⟩ => ⟨S_, .f32⟩
  | .hbm, ⟨63, _⟩ => ⟨S1x8x1024x1, .i1⟩
  | .hbm, ⟨64, _⟩ => ⟨S1x8x1024x1, .f32⟩
  | .hbm, ⟨65, _⟩ => ⟨S1x8x1024x1, .f32⟩
  | .hbm, ⟨66, _⟩ => ⟨S1x8x1024x4096, .f32⟩
  | .hbm, ⟨67, _⟩ => ⟨S1x8x1024x4096, .f32⟩
  | .hbm, ⟨68, _⟩ => ⟨S1x1x1024x1, .i1⟩
  | .hbm, ⟨69, _⟩ => ⟨S_, .f32⟩
  | .hbm, ⟨70, _⟩ => ⟨S_, .f32⟩
  | .hbm, ⟨71, _⟩ => ⟨S1x8x1024x4096, .i1⟩
  | .hbm, ⟨72, _⟩ => ⟨S1x8x1024x4096, .f32⟩
  | .hbm, ⟨73, _⟩ => ⟨S1x8x1024x4096, .f32⟩
  | .hbm, ⟨74, _⟩ => ⟨S1x8x128x1024, .f32⟩
  | .hbm, ⟨75, _⟩ => ⟨S1x1024x8x128, .f32⟩
  | .hbm, ⟨76, _⟩ => ⟨S1x1024x1024, .f32⟩
  | .hbm, ⟨77, _⟩ => ⟨S1024x1024, .f32⟩
  | .hbm, ⟨78, _⟩ => ⟨S1x1024x1024, .f32⟩
  | .hbm, ⟨79, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_c_0 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Proof.RunI.Values.lean ====
/-
# What the sparse-attention kernel computes, buffer by buffer

Every device holds a quarter of the keys and values. It first computes, for its quarter alone and head by head, the
masked exponentials of the scores, their row sums and their product with the values; then the devices exchange those
partial sums (device 0 whole, the others only the rows that their quarter can reach) and every device adds what it was
sent, divides and multiplies by the output weights. This module names those contents as functions of the launch memory.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.RunI

open Cert.KernelIdeal Cert.KernelIdeal.Gen
open Idealize.ShloMosaic Idealize.ShloMosaic.TcCoe
open Idealize.ShloMosaic.ValueIdx

variable {F : FTy → Type} [FloatOps F]
variable (m : (ℓ : Loc nD τ sig) → Buf (Elt F) ℓ)

/-! ## The buffers -/

/-- The staged operands: the inputs, the query weights, the keys, the values, the output weights. -/
abbrev xM : Memref sig .tc .vmem S1024x1024 .bf16 := Memref.whole cc0_stg0_0
abbrev qM : Memref sig .tc .vmem S1024x1024 .bf16 := Memref.whole cc0_stg1_0
abbrev kM : Memref sig .tc .vmem S1024x1024 .bf16 := Memref.whole cc0_stg2_0
abbrev vM : Memref sig .tc .vmem S1024x1024 .bf16 := Memref.whole cc0_stg3_0
abbrev woM : Memref sig .tc .vmem S1024x1024 .bf16 := Memref.whole cc0_stg4_0
/-- The staged result. -/
abbrev outM : Memref sig .tc .vmem S1024x1024 .f32 := Memref.whole cc0_stg5_0
/-- The rounded sums that are sent, and the row sums that are sent. -/
abbrev aM : Memref sig .tc .vmem S1024x1024 .bf16 := Memref.whole cc0_scratch0
abbrev lM : Memref sig .tc .vmem S1024x8 .f32 := Memref.whole cc0_scratch1
/-- Where device 0's sums land. -/
abbrev baM : Memref sig .tc .vmem S1024x1024 .bf16 := Memref.whole cc0_scratch2
abbrev blM : Memref sig .tc .vmem S1024x8 .f32 := Memref.whole cc0_scratch3
/-- Where the other devices' rows land, one slot per sender. -/
abbrev saM : Memref sig .tc .vmem S4x160x1024 .bf16 := Memref.whole cc0_scratch4
abbrev slM : Memref sig .tc .vmem S4x160x8 .f32 := Memref.whole cc0_scratch5
/-- The running totals. -/
abbrev tM : Memref sig .tc .vmem S1024x1024 .f32 := Memref.whole cc0_scratch6
abbrev uM : Memref sig .tc .vmem S1024x8 .f32 := Memref.whole cc0_scratch7

/-! ## The rectangles that travel -/

/-- The upper and lower halves of the rows; the first 32 rows; the last 128; the same of the row sums; then the landing slots. -/
abbrev rTop : Rect S1024x1024 := Rect.unit (s := S1024x1024) ![0, 0] S512x1024.size inb_S1024x1024_S512x1024_0_0
abbrev rBot : Rect S1024x1024 := Rect.unit (s := S1024x1024) ![512, 0] S512x1024.size inb_S1024x1024_S512x1024_512_0
abbrev rG : Rect S1024x1024 := Rect.unit (s := S1024x1024) ![0, 0] S32x1024.size inb_S1024x1024_S32x1024_0_0
abbrev rB : Rect S1024x1024 := Rect.unit (s := S1024x1024) ![896, 0] S128x1024.size inb_S1024x1024_S128x1024_896_0
abbrev rlG : Rect S1024x8 := Rect.unit (s := S1024x8) ![0, 0] S32x8.size inb_S1024x8_S32x8_0_0
abbrev rlB : Rect S1024x8 := Rect.unit (s := S1024x8) ![896, 0] S128x8.size inb_S1024x8_S128x8_896_0
abbrev rs1 : Rect S4x160x1024 := Rect.unit (s := S4x160x1024) ![1, 0, 0] S1x32x1024.size inb_S4x160x1024_S1x32x1024_1_0_0
abbrev rs2 : Rect S4x160x1024 := Rect.unit (s := S4x160x1024) ![2, 0, 0] S1x32x1024.size inb_S4x160x1024_S1x32x1024_2_0_0
abbrev rs3 : Rect S4x160x1024 := Rect.unit (s := S4x160x1024) ![3, 0, 0] S1x32x1024.size inb_S4x160x1024_S1x32x1024_3_0_0
abbrev rsB : Rect S4x160x1024 := Rect.unit (s := S4x160x1024) ![1, 32, 0] S1x128x1024.size inb_S4x160x1024_S1x128x1024_1_32_0
abbrev rsl1 : Rect S4x160x8 := Rect.unit (s := S4x160x8) ![1, 0, 0] S1x32x8.size inb_S4x160x8_S1x32x8_1_0_0
abbrev rsl2 : Rect S4x160x8 := Rect.unit (s := S4x160x8) ![2, 0, 0] S1x32x8.size inb_S4x160x8_S1x32x8_2_0_0
abbrev rsl3 : Rect S4x160x8 := Rect.unit (s := S4x160x8) ![3, 0, 0] S1x32x8.size inb_S4x160x8_S1x32x8_3_0_0
abbrev rslB : Rect S4x160x8 := Rect.unit (s := S4x160x8) ![1, 32, 0] S1x128x8.size inb_S4x160x8_S1x128x8_1_32_0

/-- The same as regions of the buffers: sources first, then where they land. -/
abbrev aTop : Memref sig .tc .vmem S512x1024 .bf16 := aM.slice rTop (fun _ => rfl)
abbrev aBot : Memref sig .tc .vmem S512x1024 .bf16 := aM.slice rBot (fun _ => rfl)
abbrev aG : Memref sig .tc .vmem S32x1024 .bf16 := aM.slice rG (fun _ => rfl)
abbrev aB : Memref sig .tc .vmem S128x1024 .bf16 := aM.slice rB (fun _ => rfl)
abbrev lG : Memref sig .tc .vmem S32x8 .f32 := lM.slice rlG (fun _ => rfl)
abbrev lB : Memref sig .tc .vmem S128x8 .f32 := lM.slice rlB (fun _ => rfl)
abbrev bTop : Memref sig .tc .vmem S512x1024 .bf16 := baM.slice rTop (fun _ => rfl)
abbrev bBot : Memref sig .tc .vmem S512x1024 .bf16 := baM.slice rBot (fun _ => rfl)
abbrev s1 : Memref sig .tc .vmem S32x1024 .bf16 := (saM.slice rs1 (fun _ => rfl)).squeeze S32x1024 squeezes_S1x32x1024_S32x1024
abbrev s2 : Memref sig .tc .vmem S32x1024 .bf16 := (saM.slice rs2 (fun _ => rfl)).squeeze S32x1024 squeezes_S1x32x1024_S32x1024
abbrev s3 : Memref sig .tc .vmem S32x1024 .bf16 := (saM.slice rs3 (fun _ => rfl)).squeeze S32x1024 squeezes_S1x32x1024_S32x1024
abbrev sB : Memref sig .tc .vmem S128x1024 .bf16 := (saM.slice rsB (fun _ => rfl)).squeeze S128x1024 squeezes_S1x128x1024_S128x1024
abbrev sl1 : Memref sig .tc .vmem S32x8 .f32 := (slM.slice rsl1 (fun _ => rfl)).squeeze S32x8 squeezes_S1x32x8_S32x8
abbrev sl2 : Memref sig .tc .vmem S32x8 .f32 := (slM.slice rsl2 (fun _ => rfl)).squeeze S32x8 squeezes_S1x32x8_S32x8
abbrev sl3 : Memref sig .tc .vmem S32x8 .f32 := (slM.slice rsl3 (fun _ => rfl)).squeeze S32x8 squeezes_S1x32x8_S32x8
abbrev slB : Memref sig .tc .vmem S128x8 .f32 := (slM.slice rslB (fun _ => rfl)).squeeze S128x8 squeezes_S1x128x8_S128x8

/-! ## The staged operands -/

/-- Device `c`'s blocks of the five operands, as the kernel's first statement finds them. -/
def xIn (c : Dev nD) : (cc0_stg0_0 : Ref sig .tc).ty.Contents (Elt F) := (win0_0.blk (0 : Fin 1)).view.read (Elt F) (m ((c : Thread nD τ).loc main_arg0))
def qIn (c : Dev nD) : (cc0_stg1_0 : Ref sig .tc).ty.Contents (Elt F) := (win0_1.blk (0 : Fin 1)).view.read (Elt F) (m ((c : Thread nD τ).loc main_arg1))
def kIn (c : Dev nD) : (cc0_stg2_0 : Ref sig .tc).ty.Contents (Elt F) := (win0_2.blk (0 : Fin 1)).view.read (Elt F) (m ((c : Thread nD τ).loc main_arg2))
def vIn (c : Dev nD) : (cc0_stg3_0 : Ref sig .tc).ty.Contents (Elt F) := (win0_3.blk (0 : Fin 1)).view.read (Elt F) (m ((c : Thread nD τ).loc main_arg3))
def woIn (c : Dev nD) : (cc0_stg4_0 : Ref sig .tc).ty.Contents (Elt F) := (win0_4.blk (0 : Fin 1)).view.read (Elt F) (m ((c : Thread nD τ).loc main_arg4))

/-! ## One head -/

/-- A head's columns lie inside. -/
theorem inCols (h : Fin 8) : ∀ a, (![0, 128 * h.val] : Fin 2 → Nat) a + S1024x128.size a ≤ S1024x1024.size a := by
  revert h; decide
theorem inCol (h : Fin 8) : ∀ a, (![0, h.val] : Fin 2 → Nat) a + S1024x1.size a ≤ S1024x8.size a := by
  revert h; decide
theorem cutCols (h : Fin 8) : S1024x1024.Slices ![0, 128 * h.val] S1024x128 := by
  revert h; decide

/-- The 128 columns of head `h`, and its one column of the row sums. -/
abbrev rCols (h : Fin 8) : Rect S1024x1024 := Rect.unit (s := S1024x1024) ![0, 128 * h.val] S1024x128.size (inCols h)
abbrev rCol (h : Fin 8) : Rect S1024x8 := Rect.unit (s := S1024x8) ![0, h.val] S1024x1.size (inCol h)

/-- The masked exponentials of one head's scores. -/
def headW (q : FVec F S1024x1024 .bf16) (mk : IVec S1024x1024 1) (h : Fin 8) (k : Vec F S1024x128 .bf16) : FVec F S1024x1024 .f32 :=
  select mk (exp (matmul dot_S1024x128_S1024x128_S1024x1024_1_1_0_0_n_n none (extractStridedSlice S1024x128 ![0, 128 * h.val] q (cutCols h))
    (shapeCast S1024x128 k shapeCasts_S1024x128_S1024x128) (constant S1024x1024 .f32 0x00000000#32)))
    (broadcast S1024x1024 (Scalar.ofBits .f32 0x00000000#32))

/-- Their row sums. -/
def headL (q : FVec F S1024x1024 .bf16) (mk : IVec S1024x1024 1) (h : Fin 8) (k : Vec F S1024x128 .bf16) : FVec F S1024x1 .f32 :=
  shapeCast S1024x1 (shapeCast S1024x1 (multiReduction .add [1] S1024 (headW q mk h k) 0x00000000#32 reduces_S1024x1024_S1024 (.inl rfl) rfl)
    shapeCasts_S1024_S1024x1) shapeCasts_S1024x1_S1024x1

/-- Their product with the head's values. -/
def headM (q : FVec F S1024x1024 .bf16) (mk : IVec S1024x1024 1) (h : Fin 8) (k v : Vec F S1024x128 .bf16) : FVec F S1024x128 .f32 :=
  matmul dot_S1024x1024_S1024x128_S1024x128_1_0_0_1_n_n none (truncf .bf16 (headW q mk h k) bitsLt_bf16_f32)
    (shapeCast S1024x128 v shapeCasts_S1024x128_S1024x128) (constant S1024x128 .f32 0x00000000#32)
/-- The same product, as it is stored. -/
def headA (q : FVec F S1024x1024 .bf16) (mk : IVec S1024x1024 1) (h : Fin 8) (k v : Vec F S1024x128 .bf16) : FVec F S1024x128 .f32 :=
  shapeCast S1024x128 (headM q mk h k v) shapeCasts_S1024x128_S1024x128
/-- The same product, rounded for sending. -/
def headS (q : FVec F S1024x1024 .bf16) (mk : IVec S1024x1024 1) (h : Fin 8) (k v : Vec F S1024x128 .bf16) : FVec F S1024x128 .bf16 :=
  shapeCast S1024x128 (truncf .bf16 (headM q mk h k v) bitsLt_bf16_f32) shapeCasts_S1024x128_S1024x128

/-- Device `c`'s scaled queries, and head `h`'s columns of its keys and values. -/
def qV (c : Dev nD) : FVec F S1024x1024 .bf16 := k0_pay5 (xIn m c) (qIn m c)
/-- Head `h`'s columns of device `c`'s keys. -/
def kV (c : Dev nD) (h : Fin 8) : Vec F S1024x128 .bf16 := kM.view.readAt (Elt F) (rCols h).toLoadRect (kIn m c)
/-- Head `h`'s columns of device `c`'s values. -/
def vV (c : Dev nD) (h : Fin 8) : Vec F S1024x128 .bf16 := vM.view.readAt (Elt F) (rCols h).toLoadRect (vIn m c)

/-! ## The partial sums -/

/-- The head that column `j` of the sums belongs to, and its column there. -/
def hd (j : Fin 1024) : Fin 8 := ⟨j.val / 128, by have := j.isLt; omega⟩
/-- The column of the head that column `j` is. -/
def lane (j : Fin 1024) : Fin 128 := ⟨j.val % 128, Nat.mod_lt _ (by decide)⟩

/-- Device `c`'s own sums, row sums, and the sums rounded. -/
def accT (c : Dev nD) : FVec F S1024x1024 .f32 := fun i => headA (qV m c) (k0_pay6 c) (hd (i 1)) (kV m c (hd (i 1))) (vV m c (hd (i 1))) (ix2 (i 0) (lane (i 1)))
/-- Device `c`'s own row sums. -/
def lT (c : Dev nD) : FVec F S1024x8 .f32 := fun i => headL (qV m c) (k0_pay6 c) (i 1) (kV m c (i 1)) (ix2 (i 0) (0 : Fin 1))
/-- Device `c`'s own sums, rounded for sending. -/
def accS (c : Dev nD) : FVec F S1024x1024 .bf16 := fun i => headS (qV m c) (k0_pay6 c) (hd (i 1)) (kV m c (hd (i 1))) (vV m c (hd (i 1))) (ix2 (i 0) (lane (i 1)))

/-- The row of the sums that row `r` of a landing slot holds: the first 32, then the last 128. -/
def srcRow (r : Fin 160) : Fin 1024 := if h : r.val < 32 then ⟨r.val, by omega⟩ else ⟨r.val + 864, by have := r.isLt; omega⟩

/-- The landing slots as the senders fill them: slot `s` from device `s`. -/
def stripA : (cc0_scratch4 : Ref sig .tc).ty.Contents (Elt F) := fun (i : S4x160x1024.Idx) => accS m (i 0) (ix2 (srcRow (i 1)) (i 2))
/-- The same of the row sums. -/
def stripL : (cc0_scratch5 : Ref sig .tc).ty.Contents (Elt F) := fun (i : S4x160x8.Idx) => lT m (i 0) (ix2 (srcRow (i 1)) (i 2))

/-! ## The totals -/

/-- Device 0's sums added to `T`, and its row sums to `L`. -/
def addA (T : FVec F S1024x1024 .f32) : FVec F S1024x1024 .f32 := k0_pay66 T (accS m 0)
/-- Device 0's row sums added to `L`. -/
def addL (T : FVec F S1024x8 .f32) : FVec F S1024x8 .f32 := k0_pay67 T (lT m 0)

/-- A landing slot's rows added to rows of `T`, the totals written back. -/
def stepA (rd : Rect S1024x1024) (rs : Rect S4x160x1024) (p : (rd.shape.Idx → Elt F .f32) → (rs.shape.Idx → Elt F .bf16) → (rd.shape.Idx → Elt F .f32))
    (T : FVec F S1024x1024 .f32) : FVec F S1024x1024 .f32 :=
  (tM.access rd : View sig .tc _ _ _).write (Elt F) T (p (tM.view.readAt (Elt F) rd.toLoadRect T) (saM.view.readAt (Elt F) rs.toLoadRect (stripA m))) Finset.univ
/-- The same of the row totals. -/
def stepL (rd : Rect S1024x8) (rs : Rect S4x160x8) (p : (rd.shape.Idx → Elt F .f32) → (rs.shape.Idx → Elt F .f32) → (rd.shape.Idx → Elt F .f32))
    (T : FVec F S1024x8 .f32) : FVec F S1024x8 .f32 :=
  (uM.access rd : View sig .tc _ _ _).write (Elt F) T (p (uM.view.readAt (Elt F) rd.toLoadRect T) (slM.view.readAt (Elt F) rs.toLoadRect (stripL m))) Finset.univ

/-- The additions of each slot to the totals, then to the row totals. -/
def stA1 : FVec F S1024x1024 .f32 → FVec F S1024x1024 .f32 := stepA m rG rs1 k0_pay1
def stAB : FVec F S1024x1024 .f32 → FVec F S1024x1024 .f32 := stepA m rB rsB k0_pay68
def stA2 : FVec F S1024x1024 .f32 → FVec F S1024x1024 .f32 := stepA m rG rs2 k0_pay3
def stA3 : FVec F S1024x1024 .f32 → FVec F S1024x1024 .f32 := stepA m rG rs3 k0_pay4
def stL1 : FVec F S1024x8 .f32 → FVec F S1024x8 .f32 := stepL m rlG rsl1 k0_pay2
def stLB : FVec F S1024x8 .f32 → FVec F S1024x8 .f32 := stepL m rlB rslB k0_pay69
def stL2 : FVec F S1024x8 .f32 → FVec F S1024x8 .f32 := stepL m rlG rsl2 k0_pay70
def stL3 : FVec F S1024x8 .f32 → FVec F S1024x8 .f32 := stepL m rlG rsl3 k0_pay71

/-- The totals device `c` divides: its own, then every other device's. -/
def totA (c : Dev nD) : FVec F S1024x1024 .f32 := match c with
  | ⟨0, _⟩ => stA3 m (stA2 m (stAB m (stA1 m (accT m 0))))
  | ⟨1, _⟩ => stA3 m (stA2 m (addA m (accT m 1)))
  | ⟨2, _⟩ => stA3 m (stAB m (stA1 m (addA m (accT m 2))))
  | ⟨_ + 3, _⟩ => stA2 m (stAB m (stA1 m (addA m (accT m 3))))
/-- The row totals device `c` divides by. -/
def totL (c : Dev nD) : FVec F S1024x8 .f32 := match c with
  | ⟨0, _⟩ => stL3 m (stL2 m (stLB m (stL1 m (lT m 0))))
  | ⟨1, _⟩ => stL3 m (stL2 m (addL m (lT m 1)))
  | ⟨2, _⟩ => stL3 m (stLB m (stL1 m (addL m (lT m 2))))
  | ⟨_ + 3, _⟩ => stL2 m (stLB m (stL1 m (addL m (lT m 3))))

/-- The result of device `c`. -/
def outV (c : Dev nD) : FVec F S1024x1024 .f32 := k0_pay74 (totA m c) (totL m c) (k0_pay72 (totA m c)) (k0_pay73 (totL m c)) (woIn m c)

end Cert.RunI

end
-- ==== Proof.RunI.Cells.lean ====
/-
# The protocol: who waits on which semaphore, for what, and with which contents

One round per cell. A device's barrier cell takes one unit from each other device, whose signal hands over the landing
regions that the waiter will write on the signaller. A send cell hands its device back the share of the rows it lent to
the transfer; a receive cell hands the receiver the region that landed, with the sender's contents. The exit cell takes
one unit from each other device and hands over nothing.
-/
module

public import proofs.«01_k».proof.Proof.RunI.Values

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the rounds. -/
abbrev UB : Type := URounds (GSem nD τ sig) (Dev nD)
/-- All ghost state of the proof. -/
abbrev UU : Type := UR sig nD τ × UB

local notation "𝕄" => MT nD τ sig Unit (Elt F) ℕ UU ℕ

/-- The part of the ghost state that the pipeline uses. -/
abbrev EP : Emb (UR sig nD τ) (MT nD τ sig Unit (Elt F) ℕ UU ℕ) := embL
/-- The part that the rounds use. -/
abbrev ER : Emb UB (MT nD τ sig Unit (Elt F) ℕ UU ℕ) := embR

variable (m : (ℓ : Loc nD τ sig) → Buf (Elt F) ℓ)

/-! ## Regions held -/

/-- Device `c` holds share `q` of the elements of `M`, which read as `f`. -/
abbrev Pt (c : Dev nD) {s : Shape} {e : EltTy} (M : Memref sig .tc .vmem s e) (q : PosShare TreeShare)
    (f : Buf (Elt F) (M.view.loc (c : Thread nD τ))) : sProp 𝕄 :=
  M.view.loc (c : Thread nD τ) ↦[M.view.set]{q} f

/-- A held region may be a payload. -/
theorem Pt_storable (c : Dev nD) {s : Shape} {e : EltTy} (M : Memref sig .tc .vmem s e) (q : PosShare TreeShare)
    (f : Buf (Elt F) (M.view.loc (c : Thread nD τ))) : BI.Storable (upEmb : UEmb _ 𝕄) (Pt c M q f) := inferInstance

/-- Device `c` holds the elements of `M`, whatever they read as. -/
def Any (c : Dev nD) {s : Shape} {e : EltTy} (M : Memref sig .tc .vmem s e) : sProp 𝕄 :=
  iprop(∃ f : Buf (Elt F) (M.view.loc (c : Thread nD τ)), Pt c M fullShare f)

instance Any_storable (c : Dev nD) {s : Shape} {e : EltTy} (M : Memref sig .tc .vmem s e) :
    BI.Storable (upEmb : UEmb _ 𝕄) (Any (F := F) c M) := by
  unfold Any; infer_instance

/-! ## The semaphores -/

/-- Transfer semaphore `n`. -/
abbrev ds (n : ℕ) (h : n < 45 := by decide) : DmaSem sig := ⟨n, h⟩
/-- The barrier's semaphore. -/
abbrev barS : Sem sig := (SemArray.scalar (sig.barrier 0 rfl) : Sems sig S_).sem
/-- The exit handshake's semaphore. -/
abbrev exitS : Sem sig := (cc0_scoped0 : Sems sig S_).sem

/-- The transfers device `c` issues, in program order: own send semaphore, receiver, the receiver's semaphore. -/
def sends : Dev nD → List (ℕ × Dev nD × ℕ)
  | ⟨0, _⟩ => [(6, 1, 12), (9, 3, 13), (7, 1, 13), (10, 3, 12), (8, 1, 14), (11, 3, 14)]
  | ⟨1, _⟩ => [(17, 0, 33), (19, 0, 35), (18, 0, 34), (20, 0, 36), (21, 2, 33), (23, 2, 35), (22, 2, 34), (24, 2, 36),
      (25, 3, 33), (27, 3, 35), (26, 3, 34), (28, 3, 36), (15, 2, 12), (16, 2, 14)]
  | ⟨2, _⟩ => [(17, 0, 37), (19, 0, 39), (21, 1, 37), (23, 1, 39), (25, 3, 37), (27, 3, 39)]
  | ⟨_ + 3, _⟩ => [(17, 0, 41), (19, 0, 43), (21, 1, 41), (23, 1, 43), (25, 2, 41), (27, 2, 43), (15, 2, 13)]

/-- The receive semaphores device `c` waits on. -/
def recvs : Dev nD → List ℕ
  | ⟨0, _⟩ => [33, 34, 35, 36, 37, 39, 41, 43]
  | ⟨1, _⟩ => [12, 13, 14, 37, 39, 41, 43]
  | ⟨2, _⟩ => [12, 13, 14, 33, 34, 35, 36, 41, 43]
  | ⟨_ + 3, _⟩ => [12, 13, 14, 33, 34, 35, 36, 37, 39]

/-- Semaphore `n` of device `c` is the send semaphore or the receive semaphore of a transfer. -/
def used (c : Dev nD) (n : ℕ) : Bool := ((sends c).map Prod.fst).contains n || (recvs c).contains n

/-- What a transfer on semaphore `n` counts. -/
def amt (n : ℕ) : ℕ :=
  if n = 8 ∨ n = 11 ∨ n = 14 ∨ n = 16 then blM.view.dmaCredit
  else if n < 17 then bTop.view.dmaCredit
  else if n % 4 = 1 then s1.view.dmaCredit
  else if n % 4 = 2 then sB.view.dmaCredit
  else if n % 4 = 3 then sl1.view.dmaCredit
  else slB.view.dmaCredit

/-- Every transfer counts something. -/
theorem amt_pos (n : ℕ) : 0 < amt n := by
  unfold amt
  (repeat' split) <;> exact View.dmaCredit_pos _ (by decide)

/-! ## What each semaphore hands over -/

/-- The share of the lent rows that the `d`-th of three transfers takes. -/
def part (d : ℕ) : PosShare TreeShare := if d = 0 then fullShare.left else if d = 1 then fullShare.right.left else fullShare.right.right

/-- What DMA semaphore `n` of device `c` hands to `c`. -/
def dmaPay (c : Dev nD) (n : ℕ) : sProp 𝕄 :=
  if n < 12 then
    (if n = 6 then Pt c aTop fullShare.left (accS m c) else if n = 10 then Pt c aTop fullShare.right (accS m c)
     else if n = 7 then Pt c aBot fullShare.left (accS m c) else if n = 9 then Pt c aBot fullShare.right (accS m c)
     else if n = 8 then Pt c lM fullShare.left (lT m c) else Pt c lM fullShare.right (lT m c))
  else if n < 15 then
    (if n = 12 then Pt c bTop fullShare (accS m 0) else if n = 13 then Pt c bBot fullShare (accS m 0) else Pt c blM fullShare (lT m 0))
  else if n < 17 then
    (if n = 16 then Pt c blM fullShare.left (lT m 0) else if c = 1 then Pt c bTop fullShare.left (accS m 0) else Pt c bBot fullShare.left (accS m 0))
  else if n < 29 then
    (if n % 4 = 1 then Pt c aG (part ((n - 17) / 4)) (accS m c) else if n % 4 = 2 then Pt c aB (part ((n - 17) / 4)) (accS m c)
     else if n % 4 = 3 then Pt c lG (part ((n - 17) / 4)) (lT m c) else Pt c lB (part ((n - 17) / 4)) (lT m c))
  else
    (if n = 33 then Pt c s1 fullShare (stripA m) else if n = 34 then Pt c sB fullShare (stripA m)
     else if n = 35 then Pt c sl1 fullShare (stripL m) else if n = 36 then Pt c slB fullShare (stripL m)
     else if n = 37 then Pt c s2 fullShare (stripA m) else if n = 39 then Pt c sl2 fullShare (stripL m)
     else if n = 41 then Pt c s3 fullShare (stripA m) else Pt c sl3 fullShare (stripL m))

/-- The landing regions on `p` that device `1`, `2`, `3` writes. -/
def land1 (p : Dev nD) : sProp 𝕄 := iprop(Any (F := F) p s1 ∗ Any (F := F) p sB ∗ Any (F := F) p sl1 ∗ Any (F := F) p slB)
/-- The landing regions on `p` that device 2 writes. -/
def land2 (p : Dev nD) : sProp 𝕄 := iprop(Any (F := F) p s2 ∗ Any (F := F) p sl2)
/-- The landing regions on `p` that device 3 writes. -/
def land3 (p : Dev nD) : sProp 𝕄 := iprop(Any (F := F) p s3 ∗ Any (F := F) p sl3)

/-- What `p`'s barrier signal hands device `c`: the regions on `p` that `c` writes. -/
def barPay (c p : Dev nD) : sProp 𝕄 :=
  if c = 0 then (if p = 2 then iprop(emp) else iprop(Any (F := F) p bTop ∗ Any (F := F) p bBot ∗ Any (F := F) p blM))
  else if c = 1 then (if p = 2 then iprop(land1 (F := F) p ∗ Any (F := F) p bTop ∗ Any (F := F) p blM) else land1 (F := F) p)
  else if c = 2 then land2 (F := F) p
  else (if p = 2 then iprop(land3 (F := F) p ∗ Any (F := F) p bBot) else land3 (F := F) p)

/-- What the regular semaphore `s` of device `c` is handed with `p`'s unit. -/
def regPay (s : Sem sig) (c p : Dev nD) : sProp 𝕄 := if s = barS then barPay (F := F) c p else iprop(emp)

/-- The schedule: one round; a regular cell has one duty per other device, a DMA cell in use one duty. -/
def rd : Rounds.Schedule (GSem nD τ sig) (Dev nD) 𝕄 where
  duties g r := if r = 0 ∧ g.1.2 = .tc then
      (match g.2 with
        | .reg _ => Finset.univ.erase g.1.1
        | .dma n => if used g.1.1 n.val then {0} else ∅)
    else ∅
  unitless _ := False
  amount g _ _ := match g.2 with
    | .reg _ => 1
    | .dma n => amt n.val
  payload g _ d := match g.2 with
    | .reg s => regPay (F := F) s g.1.1 d
    | .dma n => dmaPay m g.1.1 n.val
  amount_pos g _ _ _ := by
    rcases g with ⟨t, s | n⟩
    · exact Nat.one_pos
    · exact amt_pos _

instance dmaPay_storable (c : Dev nD) (n : ℕ) : BI.Storable (upEmb : UEmb _ 𝕄) (dmaPay m c n) := by
  unfold dmaPay
  (repeat' split) <;> exact Pt_storable ..

instance land1_storable (p : Dev nD) : BI.Storable (upEmb : UEmb _ 𝕄) (land1 (F := F) p) := by unfold land1; infer_instance
instance land2_storable (p : Dev nD) : BI.Storable (upEmb : UEmb _ 𝕄) (land2 (F := F) p) := by unfold land2; infer_instance
instance land3_storable (p : Dev nD) : BI.Storable (upEmb : UEmb _ 𝕄) (land3 (F := F) p) := by unfold land3; infer_instance

instance barPay_storable (c p : Dev nD) : BI.Storable (upEmb : UEmb _ 𝕄) (barPay (F := F) c p) := by
  unfold barPay
  (repeat' split) <;> infer_instance

instance regPay_storable (s : Sem sig) (c p : Dev nD) : BI.Storable (upEmb : UEmb _ 𝕄) (regPay (F := F) s c p) := by
  unfold regPay
  split
  · exact barPay_storable c p
  · infer_instance

instance rd_payload_storable (g : GSem nD τ sig) (r : ℕ) (d : Dev nD) :
    BI.Storable (upEmb : UEmb _ 𝕄) ((rd (F := F) m).payload g r d) := by
  rcases g with ⟨t, s | n⟩
  · exact regPay_storable s t.1 d
  · exact dmaPay_storable m t.1 n.val

/-- Every other device pays a regular cell. -/
theorem duties_reg (c : Dev nD) (s : Sem sig) : (rd (F := F) m).duties ((c : Thread nD τ), .reg s) 0 = Finset.univ.erase c := rfl
/-- A transfer cell in use is paid once. -/
theorem duties_dma (c : Dev nD) (n : DmaSem sig) : (rd (F := F) m).duties ((c : Thread nD τ), .dma n) 0 = if used c n.val then {0} else ∅ := rfl
/-- There is one round. -/
theorem duties_later (g : GSem nD τ sig) : ∀ r, 1 ≤ r → (rd (F := F) m).duties g r = ∅ := fun r hr => by
  dsimp only [rd]; rw [if_neg fun h => by omega]
/-- A transfer cell expects its transfer's count. -/
theorem expect_dma (c : Dev nD) (n : DmaSem sig) (h : used c n.val = true) : (rd (F := F) m).expect ((c : Thread nD τ), .dma n) 0 = amt n.val := by
  unfold Schedule.expect Schedule.amountOf; rw [duties_dma, if_pos h, Finset.sum_singleton]; rfl
/-- A regular cell expects three units. -/
theorem expect_reg (c : Dev nD) (s : Sem sig) : (rd (F := F) m).expect ((c : Thread nD τ), .reg s) 0 = 3 := by
  unfold Schedule.expect Schedule.amountOf; rw [duties_reg]
  have : ∀ d ∈ (Finset.univ : Finset (Dev nD)).erase c, (rd (F := F) m).amount ((c : Thread nD τ), .reg s) 0 d = 1 := fun _ _ => rfl
  rw [Finset.sum_congr rfl this, Finset.sum_const, smul_eq_mul, Nat.mul_one]
  rw [Finset.card_erase_of_mem (Finset.mem_univ c), Finset.card_univ, Fintype.card_fin]; rfl

/-! ## Levels and debts -/

/-- Only the devices' own cells have levels. -/
def L (g : GSem nD τ sig) : Finset Unit := if g.1.2 = .tc then {()} else ∅

/-- A device waits on a cell only while everything it still owes lies higher: barrier cells at 1, device 0's sums at 2
    (device 2, which is sent them second hand, at 3), the other rows at 3, the exit cells at 4, all else at 0. -/
def lvN (c : Dev nD) : SemLoc sig → ℕ
  | .reg s => if s = barS then 1 else 4
  | .dma n => if n.val < 12 then 0 else if n.val < 15 then (if c = 2 then 3 else 2) else if n.val < 29 then 0 else 3
/-- The level of a cell. -/
def lv (g : GSem nD τ sig) (_ : Unit) : ℕ := lvN g.1.1 g.2

/-- No level elsewhere. -/
theorem L_of_ne (g : GSem nD τ sig) (h : g.1.2 ≠ .tc) : L g = ∅ := if_neg h
/-- The one level of a device's cell. -/
theorem L_tc (c : Dev nD) (sm : SemLoc sig) : L ((c : Thread nD τ), sm) = {()} := if_pos rfl

/-- Units owed, in the order they will be paid: to which device, which cell, how many. -/
abbrev Debt : Type := Dev nD × SemLoc sig × ℕ

/-- The tally of a list of debts; the first is the last summand. -/
def owe : List Debt → CellTallies nD τ sig Unit
  | [] => 0
  | x :: xs => owe xs + tallyAt ((x.1 : Thread nD τ), x.2.1) () x.2.2

/-- The barrier signals, then the transfers, then the exit signals, of device `c`. -/
def barD (p : Dev nD) : Debt := (p, .reg barS, 1)
/-- A unit of the exit handshake owed to `p`. -/
def exitD (p : Dev nD) : Debt := (p, .reg exitS, 1)
/-- A transfer's count owed to `p`'s semaphore `n`. -/
def dmaD (p : Dev nD) (n : ℕ) (h : n < 45 := by decide) : Debt := (p, .dma ⟨n, h⟩, amt n)

/-- The exit signals of a device, in order. -/
def exits : Dev nD → List Debt
  | ⟨0, _⟩ => [exitD 1, exitD 2, exitD 3]
  | ⟨1, _⟩ => [exitD 2, exitD 3, exitD 0]
  | ⟨2, _⟩ => [exitD 3, exitD 0, exitD 1]
  | ⟨_ + 3, _⟩ => [exitD 0, exitD 1, exitD 2]
/-- All that a device owes at the start, in the order it pays. -/
def debts : Dev nD → List Debt
  | ⟨0, _⟩ => [barD 1, barD 2, barD 3, dmaD 1 12, dmaD 3 13, dmaD 1 13, dmaD 3 12, dmaD 1 14, dmaD 3 14, exitD 1, exitD 2, exitD 3]
  | ⟨1, _⟩ => [barD 2, barD 3, barD 0, dmaD 0 33, dmaD 0 35, dmaD 0 34, dmaD 0 36, dmaD 2 33, dmaD 2 35, dmaD 2 34, dmaD 2 36,
      dmaD 3 33, dmaD 3 35, dmaD 3 34, dmaD 3 36, dmaD 2 12, dmaD 2 14, exitD 2, exitD 3, exitD 0]
  | ⟨2, _⟩ => [barD 3, barD 0, barD 1, dmaD 0 37, dmaD 0 39, dmaD 1 37, dmaD 1 39, dmaD 3 37, dmaD 3 39, exitD 3, exitD 0, exitD 1]
  | ⟨_ + 3, _⟩ => [barD 0, barD 1, barD 2, dmaD 0 41, dmaD 0 43, dmaD 1 41, dmaD 1 43, dmaD 2 41, dmaD 2 43, dmaD 2 13, exitD 0, exitD 1, exitD 2]

/-- What is owed to a cell is in the list. -/
theorem owe_pos {l : List Debt} {g : GSem nD τ sig} {u : Unit} (h : 0 < owe l g u) : ∃ x ∈ l, g = ((x.1 : Thread nD τ), x.2.1) := by
  induction l with
  | nil => exact absurd h (Nat.lt_irrefl 0)
  | cons x xs ih =>
    unfold owe at h
    rw [Pi.add_apply, Finsupp.add_apply, tallyAt_apply] at h
    by_cases hx : g = ((x.1 : Thread nD τ), x.2.1) ∧ u = ()
    · exact ⟨x, List.mem_cons_self .., hx.1⟩
    · rw [if_neg hx, Nat.add_zero] at h
      obtain ⟨y, hy, e⟩ := ih h
      exact ⟨y, List.mem_cons_of_mem _ hy, e⟩

/-- Every debt of `l` lies above level `k`. -/
def above (k : ℕ) (l : List Debt) : Bool := l.all fun x => k < lvN x.1 x.2.1

/-- A device may wait on a cell when all it still owes lies higher. -/
theorem mayWait (c : Dev nD) (sm : SemLoc sig) (l : List Debt) (h : above (lvN c sm) l = true) :
    (levAts L lv : sProp 𝕄) ⊢ MayWait (c : Thread nD τ) sm () (owe l) := by
  refine MayOwe.of_cut (L := L) (lev := lv) (lvN c sm) (fun p hp => by rw [Finset.mem_singleton.mp hp, L_tc]; exact Finset.mem_singleton_self _)
    (fun g u hg => ?_) (fun p hp => by rw [Finset.mem_singleton.mp hp]; exact le_of_eq rfl) (fun g u hg => ?_)
  · obtain ⟨x, _, rfl⟩ := owe_pos hg; rw [L_tc]; exact Finset.mem_singleton_self _
  · obtain ⟨x, hx, rfl⟩ := owe_pos hg
    have := List.all_eq_true.mp h x hx
    exact of_decide_eq_true this

/-- Device `c` owes `l`, whatever it has waited for so far. -/
def owesE (c : Dev nD) (l : List Debt) : sProp 𝕄 := iprop(∃ W, owes (c : Thread nD τ) (owe l) W)

/-! ## The cells known to everyone -/

/-- The cells of one device: its barrier, its 39 transfer semaphores, its exit semaphore. -/
def csem (k : Fin 41) : SemLoc sig :=
  if h0 : k.val = 0 then .reg barS else if h : k.val < 40 then .dma ⟨k.val + 5, by change _ < 45; omega⟩ else .reg exitS
/-- Cell `k` of device `c`. -/
abbrev kcell (ck : Dev nD × Fin 41) : GSem nD τ sig := ((ck.1 : Thread nD τ), csem ck.2)

/-- Every cell's invariant is in force, under the names `K`, and every cell has reached its round. -/
def records (K : Dev nD × Fin 41 → ℕ) : sProp 𝕄 :=
  iprop((bigSep Finset.univ fun ck : Dev nD × Fin 41 => cellInv ER (rd m) (K ck) (kcell ck))
    ∗ bigSep Finset.univ fun ck : Dev nD × Fin 41 => reached ER (kcell ck) 0)

instance records_persistent (K : Dev nD × Fin 41 → ℕ) : BI.Persistent (records m K) := by unfold records; infer_instance

/-- That and the level facts: what every step of the protocol reads. -/
def env (K : Dev nD × Fin 41 → ℕ) : sProp 𝕄 := iprop(records m K ∗ levAts L lv)

instance env_persistent (K : Dev nD × Fin 41 → ℕ) : BI.Persistent (env m K) := by unfold env; infer_instance

/-- Each cell's invariant, from what everyone knows. -/
theorem env_cell (K : Dev nD × Fin 41 → ℕ) (ck : Dev nD × Fin 41) :
    env m K ⊢ iprop(∃ κ, cellInv ER (rd m) κ (kcell ck) ∗ reached ER (kcell ck) 0) := by
  unfold env records
  iintro ⟨⟨#HI, #HR⟩, -⟩
  iexists (K ck)
  isplitr
  · iapply (show (bigSep Finset.univ fun ck : Dev nD × Fin 41 => cellInv ER (rd m) (K ck) (kcell ck) : sProp 𝕄) ⊢ cellInv ER (rd m) (K ck) (kcell ck) from bigSep_elim (Finset.mem_univ ck)); iexact HI
  · iapply (show (bigSep Finset.univ fun ck : Dev nD × Fin 41 => reached ER (kcell ck) 0 : sProp 𝕄) ⊢ reached ER (kcell ck) 0 from bigSep_elim (Finset.mem_univ ck)); iexact HR

/-- The same of a transfer cell. -/
theorem env_dma (K : Dev nD × Fin 41 → ℕ) (c : Dev nD) (n : DmaSem sig) (h : 6 ≤ n.val) :
    env m K ⊢ iprop(∃ κ, cellInv ER (rd m) κ ((c : Thread nD τ), .dma n) ∗ reached ER ((c : Thread nD τ), .dma n) 0) := by
  have hn : n.val < 45 := n.isLt
  have e : csem ⟨n.val - 5, by omega⟩ = .dma n := by
    unfold csem
    rw [dif_neg (by show ¬ n.val - 5 = 0; omega), dif_pos (by show n.val - 5 < 40; omega)]
    exact congrArg SemLoc.dma (Fin.ext (by show n.val - 5 + 5 = n.val; omega))
  have := env_cell m K (c, ⟨n.val - 5, by omega⟩)
  unfold kcell at this
  rw [e] at this
  exact this

/-- The same of a regular cell. -/
theorem env_reg (K : Dev nD × Fin 41 → ℕ) (c : Dev nD) (s : Sem sig) :
    env m K ⊢ iprop(∃ κ, cellInv ER (rd m) κ ((c : Thread nD τ), .reg s) ∗ reached ER ((c : Thread nD τ), .reg s) 0) := by
  have hs : s = barS ∨ s = exitS := by revert s; decide
  rcases hs with rfl | rfl
  · exact env_cell m K (c, 0)
  · exact env_cell m K (c, 40)

end Cert.RunI

end
-- ==== Proof.RunI.Ops.lean ====
/-
# The steps of the protocol, each as one rule
-/
module

public import proofs.«01_k».proof.Proof.RunI.Cells

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ)

abbrev 𝒱₀ : Variants := Variants.none

/-- Device `c`'s program `p` runs to a state with `Q`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` stands at its cell's round; it may wait there for the transfer's units; its token to pay a round. -/
def at0 (c : Dev nD) (sm : SemLoc sig) : sProp 𝕄 := atPos ER ((c : Thread nD τ), sm) 0 ∅ 0
def pass (c : Dev nD) (sm : SemLoc sig) (n : ℕ) : sProp 𝕄 := cred (tallyAt ((c : Thread nD τ), sm) () n)
def tok (c : Dev nD) (sm : SemLoc sig) (d : Dev nD) : sProp 𝕄 := dutyTok ER ((c : Thread nD τ), sm) 0 d
/-- Semaphore at zero, its cell closed. -/
def fin0 (c : Dev nD) (sm : SemLoc sig) : sProp 𝕄 := semVal ((c : Thread nD τ), sm) 0

theorem payload_reg (c d : Dev nD) (s : Sem sig) (r : ℕ) : (rd m).payload ((c : Thread nD τ), .reg s) r d = regPay (F := F) s c d := rfl
theorem payload_dma (c d : Dev nD) (n : DmaSem sig) (r : ℕ) : (rd m).payload ((c : Thread nD τ), .dma n) r d = dmaPay m c n.val := rfl

/-- A view's elements overwritten with what `g` reads there hold `g`. -/
theorem write_read {sp : Space} {s : Shape} {e : EltTy} (v : View sig .tc sp s e) (f g : v.ty.Contents (Elt F)) :
    ∀ i ∈ v.set, v.write (Elt F) f (v.read (Elt F) g) Finset.univ i = g i := fun i hi => by
  obtain ⟨x, -, rfl⟩ := Finset.mem_map.mp hi
  rw [View.write_emb_of_mem (h := Finset.mem_univ x), View.read_apply, cast_cast]; rfl

theorem rest_dma (c : Dev nD) (n : DmaSem sig) (u : used c n.val = true) :
    bigSep ((rd m).duties ((c : Thread nD τ), .dma n) 0 \ ∅) (fun d => (rd m).payload ((c : Thread nD τ), .dma n) 0 d) = dmaPay m c n.val := by
  rw [duties_dma, if_pos u, Finset.sdiff_empty, bigSep_singleton, payload_dma]

section
variable {m K}

theorem env_levs : env m K ⊢ (levAts L lv : sProp 𝕄) := by unfold env; iintro ⟨-, #H⟩; iexact H

/-- A signal to `p`, paying the next debt with the regions that go with it. -/
theorem sigR (c p p' : Dev nD) (hp : p' = p) (s : Sem sig) (l : List Debt) {α : Type} {Q : α → sProp 𝕄} {k : PUnit → Prog (TpuEff nD τ sig (Elt F) Λ₀ .tc) α} (hne : p ≠ c) :
    env m K ⊢ iprop(tok p (.reg s) c -∗ regPay (F := F) s p c -∗ owesE c ((p, .reg s, 1) :: l)
      -∗ (owesE c l -∗ Wp c (k ⟨⟩) Q) -∗ Wp c (.op (.semSignal (p' : Thread nD τ) s 1) k) Q) := by
  subst hp
  unfold tok owesE
  iintro #HE Ht Hp ⟨%W, HO⟩ Hk
  ihave #⟨%κ, HI, HR⟩ := (env_reg m K p' s) $$ HE
  iapply (Rounds.wp_signal 𝒱₀ ER (rd m) (c : Thread nD τ) none (dst := (p' : Thread nD τ)) (κ := κ)
      (d := c) (by rw [duties_reg]; exact Finset.mem_erase.mpr ⟨hne.symm, Finset.mem_univ _⟩) rfl () (owe l) rfl)
    $$ [HO Ht Hp]
  · isplitr; · iexact HI
    isplitl [HO]; · iexact HO
    isplitl [Ht]; · iexact Ht
    isplitl [Hp]; · rw [payload_reg]; iexact Hp
    iexact HR
  iintro HO
  iapply Hk
  iexists W; iexact HO

/-- The wait for every other device's unit, closing the cell; what they handed over comes with it. -/
theorem waitR (c : Dev nD) (s : Sem sig) (l : List Debt) {α : Type} {Q : α → sProp 𝕄} {k : PUnit → Prog (TpuEff nD τ sig (Elt F) Λ₀ .tc) α} (hl : above (lvN c (.reg s)) l = true) :
    env m K ⊢ iprop(at0 c (.reg s) -∗ pass c (.reg s) 3 -∗ owesE c l
      -∗ ((bigSep (Finset.univ.erase c) fun p => regPay (F := F) s c p) -∗ fin0 c (.reg s) -∗ owesE c l -∗ Wp c (k ⟨⟩) Q)
      -∗ Wp c (.op (.semWait s 3) k) Q) := by
  unfold at0 pass owesE fin0
  iintro #HE Ha Hc ⟨%W, HO⟩ Hk
  ihave #⟨%κ, HI, HR⟩ := (env_reg m K c s) $$ HE
  ihave #HL := env_levs $$ HE
  iapply (Rounds.wp_wait_rest_token 𝒱₀ ER (rd m) (c : Thread nD τ) none (κ := κ)
      (wpE_semWait_eq 𝒱₀ (c : Thread nD τ) none Set.univ) (Set.mem_univ _) () (O := owe l) (W := W) (R := 0) (m := 0) (T := ∅)
      (by rw [expect_reg])) $$ [Hc HO Ha]
  · isplitr; · iexact HI
    isplitl [Hc]; · iexact Hc
    isplitl [HO]; · iexact HO
    isplitr; · iapply (mayWait c (.reg s) l hl); iexact HL
    iexact Ha
  iintro ⟨HO, Ha, -, Hpay⟩
  imod (Rounds.cell_close ER (rd m) (Set.mem_univ κ) (fun h => h) (R := 0 + 1) (duties_later m ((c : Thread nD τ), .reg s))) $$ [Ha] with Hz
  · isplitr; · iexact HI
    iexact Ha
  iapply Hk $$ [Hpay] Hz [HO]
  · rw [duties_reg, Finset.sdiff_empty]; iexact Hpay
  · iexists (insert (SemLoc.reg s, ()) W); iexact HO

/-- A transfer to `p`: the lent share goes to the send cell, the landing region with the contents `g` to the receive cell. -/
theorem xfer (c p p' : Dev nD) (hp : p' = p) (n₁ n₂ : DmaSem sig) {s : Shape} {e : EltTy} (src : Memref sig .tc .vmem s e)
    (dst : Memref sig (p' : Thread nD τ).2.kind .vmem s e)
    (q : PosShare TreeShare) (f : Buf (Elt F) (src.view.loc (c : Thread nD τ))) (g : Buf (Elt F) (dst.view.loc (p : Thread nD τ))) (l : List Debt)
    (h₁ : 6 ≤ n₁.val) (h₂ : 6 ≤ n₂.val) (u₁ : used c n₁.val = true) (u₂ : used p n₂.val = true)
    (hN : dst.view.dmaCredit = amt n₂.val) (hM : amt n₁.val = amt n₂.val)
    (hpay₁ : Pt c src q f ⊢ dmaPay m c n₁.val) (hg : dst.view.read (Elt F) g = src.view.read (Elt F) f)
    (hpay₂ : Pt p dst fullShare g ⊢ dmaPay m p n₂.val)
    {hsc : dst.view.ref.isScScratch = false}
    {hsrc : src.view.WordExact} {hdst : dst.view.WordExact}
    {hsem : DmaTarget.Typed .vmem (.dma n₂) (.remote (p' : Thread nD τ) dst (.dma n₁) hsc)}
    {α : Type} {Q : α → sProp 𝕄} {k : PUnit → Prog (TpuEff nD τ sig (Elt F) Λ₀ .tc) α} :
    env m K ⊢ iprop(tok c (.dma n₁) 0 -∗ tok p (.dma n₂) 0 -∗ Pt c src q f -∗ Any (F := F) p dst
      -∗ owesE c ((p, .dma n₂, amt n₂.val) :: l)
      -∗ (pass c (.dma n₁) (amt n₁.val) -∗ owesE c l -∗ Wp c (k ⟨⟩) Q)
      -∗ Wp c (.op (.enqueueDma src (.remote (p' : Thread nD τ) dst (.dma n₁) hsc) (.dma n₂) hsrc hdst hsem) k) Q) := by
  subst hp
  unfold tok owesE Any pass
  iintro #HE Ht1 Ht2 Hs ⟨%fd, Hd⟩ ⟨%W, HO⟩ Hk
  ihave #⟨%κ₁, HI1, HR1⟩ := (env_dma m K c n₁ h₁) $$ HE
  ihave #⟨%κ₂, HI2, HR2⟩ := (env_dma m K p' n₂ h₂) $$ HE
  iapply (Rounds.wp_send_pointsTo 𝒱₀ ER (rd m) (c : Thread nD τ) none (src := src) (dst := dst) (sS := .dma n₁) (sem := .dma n₂) (q := q) (fs := f) (κ₁ := κ₁) (κ₂ := κ₂)
    (r₁ := 0) (r₂ := 0) (d₁ := 0) (d₂ := 0) (fd := fd)
    (by rw [duties_dma, if_pos u₁]; exact Finset.mem_singleton_self _) (by rw [duties_dma, if_pos u₂]; exact Finset.mem_singleton_self _)
    () () (amt n₂.val) hN hM rfl (owe l) rfl (W := W) hpay₁
    ((Idealize.SL.BI.BIBase.Entails.of_eq (by rw [← hg]; exact pointsTo_congr (write_read dst.view fd g))).trans hpay₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  rw [hM]
  iapply Hk $$ Hc [HO]
  iexists W; iexact HO

/-- The wait for a transfer, closing the cell; what it hands over comes with it. -/
theorem waitD (c : Dev nD) (n : DmaSem sig) (l : List Debt) (h : 6 ≤ n.val) (u : used c n.val = true) (hl : above (lvN c (.dma n)) l = true)
    {s s' : Shape} {e e' : EltTy} {sp sp' : CoreSpace} {src : Memref sig .tc sp s e} {dst : Memref sig .tc sp' s' e'}
    {hs : src.view.WordExact} {hd : dst.view.WordExact}
    (hN : dst.view.dmaCredit = amt n.val) {α : Type} {Q : α → sProp 𝕄} {k : PUnit → Prog (TpuEff nD τ sig (Elt F) Λ₀ .tc) α} :
    env m K ⊢ iprop(at0 c (.dma n) -∗ pass c (.dma n) (amt n.val) -∗ owesE c l
      -∗ (dmaPay m c n.val -∗ fin0 c (.dma n) -∗ owesE c l -∗ Wp c (k ⟨⟩) Q)
      -∗ Wp c (.op (.waitDma2 n src dst hs hd) k) Q) := by
  unfold at0 pass owesE fin0
  iintro #HE Ha Hc ⟨%W, HO⟩ Hk
  ihave #⟨%κ, HI, HR⟩ := (env_dma m K c n h) $$ HE
  ihave #HL := env_levs $$ HE
  iapply (Rounds.wp_wait_rest_token 𝒱₀ ER (rd m) (c : Thread nD τ) none (κ := κ) (k' := amt n.val)
      (by rw [← hN]; exact wpE_waitDma2_eq 𝒱₀ (c : Thread nD τ) none Set.univ) (Set.mem_univ _) () (O := owe l) (W := W) (R := 0) (m := 0) (T := ∅)
      (by rw [Nat.zero_add, expect_dma m c n u])) $$ [Hc HO Ha]
  · isplitr; · iexact HI
    isplitl [Hc]; · iexact Hc
    isplitl [HO]; · iexact HO
    isplitr; · iapply (mayWait c (.dma n) l hl); iexact HL
    iexact Ha
  iintro ⟨HO, Ha, -, Hpay⟩
  imod (Rounds.cell_close ER (rd m) (Set.mem_univ κ) (fun h => h) (R := 0 + 1) (duties_later m ((c : Thread nD τ), .dma n))) $$ [Ha] with Hz
  · isplitr; · iexact HI
    iexact Ha
  iapply Hk $$ [Hpay] Hz [HO]
  · iapply (Entails.of_eq (rest_dma m c n u)); iexact Hpay
  · iexists (insert (SemLoc.dma n, ()) W); iexact HO

/-- A cell not in use closes at once. -/
theorem close0 (c : Dev nD) (n : DmaSem sig) (h : 6 ≤ n.val) (u : used c n.val = false) :
    env m K ⊢ iprop(at0 c (.dma n) -∗ |={Set.univ}=> fin0 c (.dma n) : sProp 𝕄) := by
  unfold at0 fin0
  iintro #HE Ha
  ihave #⟨%κ, HI, HR⟩ := (env_dma m K c n h) $$ HE
  iapply (Rounds.cell_close ER (rd m) (Set.mem_univ κ) (fun h => h) (R := 0) (fun r _ => by
    rcases Nat.eq_zero_or_pos r with rfl | hr
    · rw [duties_dma, if_neg (by rw [u]; decide)]
    · exact duties_later m _ r hr))
  isplitr; · iexact HI
  iexact Ha

end

end Cert.RunI

end
-- ==== Proof.RunI.Regions.lean ====
/-
# Splitting buffers into the regions that travel, and what a landed region reads as
-/
module

public import proofs.«01_k».proof.Proof.RunI.Ops

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Shares -/

theorem eqOf {P Q : sProp 𝕄} (h : P ⊣⊢ Q) : P = Q := BI.equiv_iff.mp ⟨h.1, h.2⟩

theorem share2 (c : Dev nD) {s : Shape} {e : EltTy} (M : Memref sig .tc .vmem s e) (q : PosShare TreeShare) (f : Buf (Elt F) (M.view.loc (c : Thread nD τ))) :
    (Pt c M q f : sProp 𝕄) ⊣⊢ iprop(Pt c M q.left f ∗ Pt c M q.right f) := pointsTo_share (PosShare.mem_left_op_right q)

/-- Three transfers' shares make the whole. -/
theorem share3 (c : Dev nD) {s : Shape} {e : EltTy} (M : Memref sig .tc .vmem s e) (f : Buf (Elt F) (M.view.loc (c : Thread nD τ))) :
    (Pt c M fullShare f : sProp 𝕄) ⊣⊢ iprop(Pt c M (part 0) f ∗ Pt c M (part 1) f ∗ Pt c M (part 2) f) := by
  have h : (Pt c M fullShare f : sProp 𝕄) = iprop(Pt c M (part 0) f ∗ Pt c M (part 1) f ∗ Pt c M (part 2) f) := by
    rw [show (Pt c M fullShare f : sProp 𝕄) = _ from eqOf (share2 c M fullShare f),
      show (Pt c M fullShare.right f : sProp 𝕄) = _ from eqOf (share2 c M fullShare.right f)]
    rfl
  exact ⟨.of_eq h, .of_eq h.symm⟩

theorem toAny (c : Dev nD) {s : Shape} {e : EltTy} (M : Memref sig .tc .vmem s e) (f : Buf (Elt F) (M.view.loc (c : Thread nD τ))) :
    (Pt c M fullShare f : sProp 𝕄) ⊢ Any (F := F) c M := by
  unfold Any; iintro H; iexists f; iexact H

/-! ## Cutting a buffer -/

section Cut
variable {ℓ : Loc nD τ sig}

theorem pt_cut {I S : Finset (Idx ℓ)} (h : I ⊆ S) (q : PosShare TreeShare) (f : Buf (Elt F) ℓ) :
    (ℓ ↦[S]{q} f : sProp 𝕄) = iprop((ℓ ↦[I]{q} f) ∗ (ℓ ↦[S \ I]{q} f)) := eqOf (pointsTo_split_subset h)

/-- The elements `S` of a buffer, whatever they hold. -/
def AnyS (ℓ : Loc nD τ sig) (S : Finset (Idx ℓ)) : sProp 𝕄 := iprop(∃ f : Buf (Elt F) ℓ, ℓ ↦[S]{fullShare} f)

theorem anyS_cut {I S : Finset (Idx ℓ)} (h : I ⊆ S) : AnyS (F := F) ℓ S ⊣⊢ iprop(AnyS (F := F) ℓ I ∗ AnyS (F := F) ℓ (S \ I)) := by
  unfold AnyS
  constructor
  · iintro ⟨%f, H⟩
    ihave ⟨H1, H2⟩ := (pointsTo_split_subset (q := fullShare) (f := f) h).1 $$ H
    isplitl [H1]
    · iexists f; iexact H1
    · iexists f; iexact H2
  · iintro ⟨⟨%f, H1⟩, ⟨%g, H2⟩⟩
    iexists (I.piecewise f g)
    iapply (pointsTo_join_subset (q := fullShare) (f := g) (g := f) h)
    isplitl [H1]
    · iexact H1
    · iexact H2

theorem any_eq (c : Dev nD) {s : Shape} {e : EltTy} (M : Memref sig .tc .vmem s e) : Any (F := F) c M = AnyS (F := F) (M.view.loc (c : Thread nD τ)) M.view.set := rfl
end Cut

theorem set_top : aTop.view.set = rTop.set := View.set_slice_whole ..
theorem set_bot : aBot.view.set = rBot.set := View.set_slice_whole ..
theorem set_s1 : s1.view.set = rs1.set := (View.set_reshape ..).trans (View.set_slice_whole ..)
theorem set_s2 : s2.view.set = rs2.set := (View.set_reshape ..).trans (View.set_slice_whole ..)
theorem set_s3 : s3.view.set = rs3.set := (View.set_reshape ..).trans (View.set_slice_whole ..)
theorem set_sB : sB.view.set = rsB.set := (View.set_reshape ..).trans (View.set_slice_whole ..)
theorem set_sl1 : sl1.view.set = rsl1.set := (View.set_reshape ..).trans (View.set_slice_whole ..)
theorem set_sl2 : sl2.view.set = rsl2.set := (View.set_reshape ..).trans (View.set_slice_whole ..)
theorem set_sl3 : sl3.view.set = rsl3.set := (View.set_reshape ..).trans (View.set_slice_whole ..)
theorem set_slB : slB.view.set = rslB.set := (View.set_reshape ..).trans (View.set_slice_whole ..)

theorem bot_eq : rBot.set = Finset.univ \ rTop.set := by
  ext i
  rw [Finset.mem_sdiff, LoadRect.mem_set, LoadRect.mem_set]
  have h0 : (i 0).val < 1024 := (i 0).isLt
  have h1 : (i 1).val < 1024 := (i 1).isLt
  constructor
  · intro h
    refine ⟨Finset.mem_univ _, fun h' => ?_⟩
    obtain ⟨j, hj, e⟩ := h 0
    obtain ⟨j', hj', e'⟩ := h' 0
    change j < 512 at hj
    change j' < 512 at hj'
    change (i 0).val = 512 + 1 * j at e
    change (i 0).val = 0 + 1 * j' at e'
    omega
  · rintro ⟨-, h⟩ a
    have hge : 512 ≤ (i 0).val := by
      by_contra hlt
      refine h fun a => ?_
      match a with
      | ⟨0, _⟩ => exact ⟨(i 0).val, by change _ < 512; omega, by change (i 0).val = 0 + 1 * (i 0).val; omega⟩
      | ⟨1, _⟩ => exact ⟨(i 1).val, by change _ < 1024; omega, by change (i 1).val = 0 + 1 * (i 1).val; omega⟩
    match a with
    | ⟨0, _⟩ => exact ⟨(i 0).val - 512, by change _ < 512; omega, by change (i 0).val = 512 + 1 * ((i 0).val - 512); omega⟩
    | ⟨1, _⟩ => exact ⟨(i 1).val, by change _ < 1024; omega, by change (i 1).val = 0 + 1 * (i 1).val; omega⟩

/-- Device 0's sums are sent, and land, in two halves. -/
theorem halvesA (c : Dev nD) (q : PosShare TreeShare) (f : Buf (Elt F) (aM.view.loc (c : Thread nD τ))) :
    (Pt c aM q f : sProp 𝕄) ⊣⊢ iprop(Pt c aTop q f ∗ Pt c aBot q f) := by
  have h := pt_cut (F := F) (ℓ := aM.view.loc (c : Thread nD τ)) (Finset.subset_univ rTop.set) q f
  rw [← bot_eq] at h
  unfold Pt
  rw [set_top, set_bot, View.set_whole]
  exact ⟨.of_eq h, .of_eq h.symm⟩

theorem halvesB (c : Dev nD) (q : PosShare TreeShare) (f : Buf (Elt F) (baM.view.loc (c : Thread nD τ))) :
    (Pt c baM q f : sProp 𝕄) ⊣⊢ iprop(Pt c bTop q f ∗ Pt c bBot q f) := by
  have h := pt_cut (F := F) (ℓ := baM.view.loc (c : Thread nD τ)) (Finset.subset_univ rTop.set) q f
  rw [← bot_eq] at h
  unfold Pt
  rw [show bTop.view.set = rTop.set from View.set_slice_whole .., show bBot.view.set = rBot.set from View.set_slice_whole .., View.set_whole]
  exact ⟨.of_eq h, .of_eq h.symm⟩

theorem halvesAnyB (c : Dev nD) : Any (F := F) c baM ⊣⊢ iprop(Any (F := F) c bTop ∗ Any (F := F) c bBot) := by
  have h := anyS_cut (F := F) (ℓ := baM.view.loc (c : Thread nD τ)) (Finset.subset_univ rTop.set)
  rw [← bot_eq] at h
  rw [any_eq, any_eq, any_eq, show bTop.view.set = rTop.set from View.set_slice_whole .., show bBot.view.set = rBot.set from View.set_slice_whole .., View.set_whole]
  exact h

/-! ### The landing slots -/

theorem sub_sdiff {α : Type} [DecidableEq α] {I S J : Finset α} (h : I ⊆ S) (d : Disjoint I J) : I ⊆ S \ J :=
  fun x hx => Finset.mem_sdiff.mpr ⟨h hx, Finset.disjoint_left.mp d hx⟩

/-- The rows of the landing slots that nothing lands in. -/
def restS (c : Dev nD) : sProp 𝕄 := AnyS (F := F) (saM.view.loc (c : Thread nD τ)) ((((Finset.univ \ rs1.set) \ rsB.set) \ rs2.set) \ rs3.set)
def restSL (c : Dev nD) : sProp 𝕄 := AnyS (F := F) (slM.view.loc (c : Thread nD τ)) ((((Finset.univ \ rsl1.set) \ rslB.set) \ rsl2.set) \ rsl3.set)

theorem slots (c : Dev nD) :
    Any (F := F) c saM ⊣⊢ iprop(Any (F := F) c s1 ∗ Any (F := F) c sB ∗ Any (F := F) c s2 ∗ Any (F := F) c s3 ∗ restS (F := F) c) := by
  have d1 : Disjoint rsB.set rs1.set := Rect.unit_disjoint 1 (by decide)
  have d2 : Disjoint rs2.set rs1.set := Rect.unit_disjoint 0 (by decide)
  have d3 : Disjoint rs2.set rsB.set := Rect.unit_disjoint 0 (by decide)
  have d4 : Disjoint rs3.set rs1.set := Rect.unit_disjoint 0 (by decide)
  have d5 : Disjoint rs3.set rsB.set := Rect.unit_disjoint 0 (by decide)
  have d6 : Disjoint rs3.set rs2.set := Rect.unit_disjoint 0 (by decide)
  have h1 := eqOf (anyS_cut (F := F) (ℓ := saM.view.loc (c : Thread nD τ)) (Finset.subset_univ rs1.set))
  have h2 := eqOf (anyS_cut (F := F) (ℓ := saM.view.loc (c : Thread nD τ)) (sub_sdiff (Finset.subset_univ rsB.set) d1))
  have h3 := eqOf (anyS_cut (F := F) (ℓ := saM.view.loc (c : Thread nD τ)) (sub_sdiff (sub_sdiff (Finset.subset_univ rs2.set) d2) d3))
  have h4 := eqOf (anyS_cut (F := F) (ℓ := saM.view.loc (c : Thread nD τ)) (sub_sdiff (sub_sdiff (sub_sdiff (Finset.subset_univ rs3.set) d4) d5) d6))
  have e := h1.trans (by rw [h2, h3, h4])
  rw [any_eq, any_eq, any_eq, any_eq, any_eq, set_s1, set_sB, set_s2, set_s3, View.set_whole]
  exact ⟨.of_eq e, .of_eq e.symm⟩

theorem slotsL (c : Dev nD) :
    Any (F := F) c slM ⊣⊢ iprop(Any (F := F) c sl1 ∗ Any (F := F) c slB ∗ Any (F := F) c sl2 ∗ Any (F := F) c sl3 ∗ restSL (F := F) c) := by
  have d1 : Disjoint rslB.set rsl1.set := Rect.unit_disjoint 1 (by decide)
  have d2 : Disjoint rsl2.set rsl1.set := Rect.unit_disjoint 0 (by decide)
  have d3 : Disjoint rsl2.set rslB.set := Rect.unit_disjoint 0 (by decide)
  have d4 : Disjoint rsl3.set rsl1.set := Rect.unit_disjoint 0 (by decide)
  have d5 : Disjoint rsl3.set rslB.set := Rect.unit_disjoint 0 (by decide)
  have d6 : Disjoint rsl3.set rsl2.set := Rect.unit_disjoint 0 (by decide)
  have h1 := eqOf (anyS_cut (F := F) (ℓ := slM.view.loc (c : Thread nD τ)) (Finset.subset_univ rsl1.set))
  have h2 := eqOf (anyS_cut (F := F) (ℓ := slM.view.loc (c : Thread nD τ)) (sub_sdiff (Finset.subset_univ rslB.set) d1))
  have h3 := eqOf (anyS_cut (F := F) (ℓ := slM.view.loc (c : Thread nD τ)) (sub_sdiff (sub_sdiff (Finset.subset_univ rsl2.set) d2) d3))
  have h4 := eqOf (anyS_cut (F := F) (ℓ := slM.view.loc (c : Thread nD τ)) (sub_sdiff (sub_sdiff (sub_sdiff (Finset.subset_univ rsl3.set) d4) d5) d6))
  have e := h1.trans (by rw [h2, h3, h4])
  rw [any_eq, any_eq, any_eq, any_eq, any_eq, set_sl1, set_slB, set_sl2, set_sl3, View.set_whole]
  exact ⟨.of_eq e, .of_eq e.symm⟩

/-! ### The rows that are sent -/

/-- The rows of the sums that are sent by no transfer of devices 1, 2, 3. -/
def restA (c : Dev nD) (f : Buf (Elt F) (aM.view.loc (c : Thread nD τ))) : sProp 𝕄 :=
  aM.view.loc (c : Thread nD τ) ↦[(Finset.univ \ rG.set) \ rB.set]{fullShare} f
def restL (c : Dev nD) (f : Buf (Elt F) (lM.view.loc (c : Thread nD τ))) : sProp 𝕄 :=
  lM.view.loc (c : Thread nD τ) ↦[(Finset.univ \ rlG.set) \ rlB.set]{fullShare} f

theorem sentA (c : Dev nD) (f : Buf (Elt F) (aM.view.loc (c : Thread nD τ))) :
    (Pt c aM fullShare f : sProp 𝕄) ⊣⊢ iprop(Pt c aG fullShare f ∗ Pt c aB fullShare f ∗ restA c f) := by
  have d1 : Disjoint rB.set rG.set := Rect.unit_disjoint 0 (by decide)
  have h1 := pt_cut (F := F) (ℓ := aM.view.loc (c : Thread nD τ)) (Finset.subset_univ rG.set) fullShare f
  have h2 := pt_cut (F := F) (ℓ := aM.view.loc (c : Thread nD τ)) (sub_sdiff (Finset.subset_univ rB.set) d1) fullShare f
  have e := h1.trans (by rw [h2])
  unfold Pt
  rw [show aG.view.set = rG.set from View.set_slice_whole .., show aB.view.set = rB.set from View.set_slice_whole .., View.set_whole]
  exact ⟨.of_eq e, .of_eq e.symm⟩

theorem sentL (c : Dev nD) (f : Buf (Elt F) (lM.view.loc (c : Thread nD τ))) :
    (Pt c lM fullShare f : sProp 𝕄) ⊣⊢ iprop(Pt c lG fullShare f ∗ Pt c lB fullShare f ∗ restL c f) := by
  have d1 : Disjoint rlB.set rlG.set := Rect.unit_disjoint 0 (by decide)
  have h1 := pt_cut (F := F) (ℓ := lM.view.loc (c : Thread nD τ)) (Finset.subset_univ rlG.set) fullShare f
  have h2 := pt_cut (F := F) (ℓ := lM.view.loc (c : Thread nD τ)) (sub_sdiff (Finset.subset_univ rlB.set) d1) fullShare f
  have e := h1.trans (by rw [h2])
  unfold Pt
  rw [show lG.view.set = rlG.set from View.set_slice_whole .., show lB.view.set = rlB.set from View.set_slice_whole .., View.set_whole]
  exact ⟨.of_eq e, .of_eq e.symm⟩

/-! ### What lands -/

theorem read_top : bTop.view.read (Elt F) (accS m 0) = aTop.view.read (Elt F) (accS m 0) := rfl
theorem read_bot : bBot.view.read (Elt F) (accS m 0) = aBot.view.read (Elt F) (accS m 0) := rfl
theorem read_l : blM.view.read (Elt F) (lT m 0) = lM.view.read (Elt F) (lT m 0) := rfl

theorem srcRow_lt {r : Fin 160} (h : r.val < 32) : (srcRow r).val = r.val := by unfold srcRow; rw [dif_pos h]
theorem srcRow_ge {r : Fin 160} (h : ¬ r.val < 32) : (srcRow r).val = r.val + 864 := by unfold srcRow; rw [dif_neg h]

theorem stripA_at (d : Fin 4) (i : S4x160x1024.Idx) (j : S1024x1024.Idx) (h0 : (i 0).val = d.val) (h1 : (srcRow (i 1)).val = (j 0).val) (h2 : (i 2).val = (j 1).val) :
    stripA m i = accS m d j :=
  congrArg₂ (accS m) (show (i 0 : Fin 4) = d from Fin.ext h0)
    ((congrArg₂ ix2 (show srcRow (i 1) = j 0 from Fin.ext h1) (show (i 2 : Fin 1024) = j 1 from Fin.ext h2)).trans (eq_ix2 j).symm)
theorem stripL_at (d : Fin 4) (i : S4x160x8.Idx) (j : S1024x8.Idx) (h0 : (i 0).val = d.val) (h1 : (srcRow (i 1)).val = (j 0).val) (h2 : (i 2).val = (j 1).val) :
    stripL m i = lT m d j :=
  congrArg₂ (lT m) (show (i 0 : Fin 4) = d from Fin.ext h0)
    ((congrArg₂ ix2 (show srcRow (i 1) = j 0 from Fin.ext h1) (show (i 2 : Fin 8) = j 1 from Fin.ext h2)).trans (eq_ix2 j).symm)
theorem read_s1 : s1.view.read (Elt F) (stripA m) = aG.view.read (Elt F) (accS m 1) := funext fun x => by
  obtain ⟨a, b, rfl⟩ : ∃ (a : Fin 32) (b : Fin 1024), x = ix2 a b := ⟨x 0, x 1, eq_ix2 x⟩
  have hr : Shape.reshapeEquiv (Shape.Squeezes.numel_eq squeezes_S1x32x1024_S32x1024) (ix2 a b) = ix3 0 a b := reshapeEquiv_ix2_1ab _ a b
  have ha := a.isLt
  refine (congrArg (fun y => stripA m (rs1.emb y)) hr).trans ?_
  exact stripA_at m 1 _ ((aG.view.emb (ix2 a b) : S1024x1024.Idx)) rfl ((srcRow_lt (r := ⟨0 + 1 * a.val, by omega⟩) (by change 0 + 1 * a.val < 32; omega)).trans rfl) rfl
theorem read_s2 : s2.view.read (Elt F) (stripA m) = aG.view.read (Elt F) (accS m 2) := funext fun x => by
  obtain ⟨a, b, rfl⟩ : ∃ (a : Fin 32) (b : Fin 1024), x = ix2 a b := ⟨x 0, x 1, eq_ix2 x⟩
  have hr : Shape.reshapeEquiv (Shape.Squeezes.numel_eq squeezes_S1x32x1024_S32x1024) (ix2 a b) = ix3 0 a b := reshapeEquiv_ix2_1ab _ a b
  have ha := a.isLt
  refine (congrArg (fun y => stripA m (rs2.emb y)) hr).trans ?_
  exact stripA_at m 2 _ ((aG.view.emb (ix2 a b) : S1024x1024.Idx)) rfl ((srcRow_lt (r := ⟨0 + 1 * a.val, by omega⟩) (by change 0 + 1 * a.val < 32; omega)).trans rfl) rfl
theorem read_s3 : s3.view.read (Elt F) (stripA m) = aG.view.read (Elt F) (accS m 3) := funext fun x => by
  obtain ⟨a, b, rfl⟩ : ∃ (a : Fin 32) (b : Fin 1024), x = ix2 a b := ⟨x 0, x 1, eq_ix2 x⟩
  have hr : Shape.reshapeEquiv (Shape.Squeezes.numel_eq squeezes_S1x32x1024_S32x1024) (ix2 a b) = ix3 0 a b := reshapeEquiv_ix2_1ab _ a b
  have ha := a.isLt
  refine (congrArg (fun y => stripA m (rs3.emb y)) hr).trans ?_
  exact stripA_at m 3 _ ((aG.view.emb (ix2 a b) : S1024x1024.Idx)) rfl ((srcRow_lt (r := ⟨0 + 1 * a.val, by omega⟩) (by change 0 + 1 * a.val < 32; omega)).trans rfl) rfl
theorem read_sB : sB.view.read (Elt F) (stripA m) = aB.view.read (Elt F) (accS m 1) := funext fun x => by
  obtain ⟨a, b, rfl⟩ : ∃ (a : Fin 128) (b : Fin 1024), x = ix2 a b := ⟨x 0, x 1, eq_ix2 x⟩
  have hr : Shape.reshapeEquiv (Shape.Squeezes.numel_eq squeezes_S1x128x1024_S128x1024) (ix2 a b) = ix3 0 a b := reshapeEquiv_ix2_1ab _ a b
  have ha := a.isLt
  refine (congrArg (fun y => stripA m (rsB.emb y)) hr).trans ?_
  exact stripA_at m 1 _ ((aB.view.emb (ix2 a b) : S1024x1024.Idx)) rfl ((srcRow_ge (r := ⟨32 + 1 * a.val, by omega⟩) (by change ¬ 32 + 1 * a.val < 32; omega)).trans (by change 32 + 1 * a.val + 864 = 896 + 1 * a.val; omega)) rfl
theorem read_sl1 : sl1.view.read (Elt F) (stripL m) = lG.view.read (Elt F) (lT m 1) := funext fun x => by
  obtain ⟨a, b, rfl⟩ : ∃ (a : Fin 32) (b : Fin 8), x = ix2 a b := ⟨x 0, x 1, eq_ix2 x⟩
  have hr : Shape.reshapeEquiv (Shape.Squeezes.numel_eq squeezes_S1x32x8_S32x8) (ix2 a b) = ix3 0 a b := reshapeEquiv_ix2_1ab _ a b
  have ha := a.isLt
  refine (congrArg (fun y => stripL m (rsl1.emb y)) hr).trans ?_
  exact stripL_at m 1 _ ((lG.view.emb (ix2 a b) : S1024x8.Idx)) rfl ((srcRow_lt (r := ⟨0 + 1 * a.val, by omega⟩) (by change 0 + 1 * a.val < 32; omega)).trans rfl) rfl
theorem read_sl2 : sl2.view.read (Elt F) (stripL m) = lG.view.read (Elt F) (lT m 2) := funext fun x => by
  obtain ⟨a, b, rfl⟩ : ∃ (a : Fin 32) (b : Fin 8), x = ix2 a b := ⟨x 0, x 1, eq_ix2 x⟩
  have hr : Shape.reshapeEquiv (Shape.Squeezes.numel_eq squeezes_S1x32x8_S32x8) (ix2 a b) = ix3 0 a b := reshapeEquiv_ix2_1ab _ a b
  have ha := a.isLt
  refine (congrArg (fun y => stripL m (rsl2.emb y)) hr).trans ?_
  exact stripL_at m 2 _ ((lG.view.emb (ix2 a b) : S1024x8.Idx)) rfl ((srcRow_lt (r := ⟨0 + 1 * a.val, by omega⟩) (by change 0 + 1 * a.val < 32; omega)).trans rfl) rfl
theorem read_sl3 : sl3.view.read (Elt F) (stripL m) = lG.view.read (Elt F) (lT m 3) := funext fun x => by
  obtain ⟨a, b, rfl⟩ : ∃ (a : Fin 32) (b : Fin 8), x = ix2 a b := ⟨x 0, x 1, eq_ix2 x⟩
  have hr : Shape.reshapeEquiv (Shape.Squeezes.numel_eq squeezes_S1x32x8_S32x8) (ix2 a b) = ix3 0 a b := reshapeEquiv_ix2_1ab _ a b
  have ha := a.isLt
  refine (congrArg (fun y => stripL m (rsl3.emb y)) hr).trans ?_
  exact stripL_at m 3 _ ((lG.view.emb (ix2 a b) : S1024x8.Idx)) rfl ((srcRow_lt (r := ⟨0 + 1 * a.val, by omega⟩) (by change 0 + 1 * a.val < 32; omega)).trans rfl) rfl
theorem read_slB : slB.view.read (Elt F) (stripL m) = lB.view.read (Elt F) (lT m 1) := funext fun x => by
  obtain ⟨a, b, rfl⟩ : ∃ (a : Fin 128) (b : Fin 8), x = ix2 a b := ⟨x 0, x 1, eq_ix2 x⟩
  have hr : Shape.reshapeEquiv (Shape.Squeezes.numel_eq squeezes_S1x128x8_S128x8) (ix2 a b) = ix3 0 a b := reshapeEquiv_ix2_1ab _ a b
  have ha := a.isLt
  refine (congrArg (fun y => stripL m (rslB.emb y)) hr).trans ?_
  exact stripL_at m 1 _ ((lB.view.emb (ix2 a b) : S1024x8.Idx)) rfl ((srcRow_ge (r := ⟨32 + 1 * a.val, by omega⟩) (by change ¬ 32 + 1 * a.val < 32; omega)).trans (by change 32 + 1 * a.val + 864 = 896 + 1 * a.val; omega)) rfl

end Cert.RunI

end
-- ==== Proof.RunI.Fill.lean ====
/-
# Buffers filled head by head
-/
module

public import proofs.«01_k».proof.Proof.RunI.Regions

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Device `c` holds `M`, which reads as `T` at the indices of `P`. -/
def Fill (c : Dev nD) {s : Shape} {e : EltTy} (M : Memref sig .tc .vmem s e) (T : s.Idx → Elt F e) (P : s.Idx → Prop) : sProp 𝕄 :=
  iprop(∃ f : Buf (Elt F) (M.view.loc (c : Thread nD τ)), ⌜∀ i, P i → M.view.read (Elt F) f i = T i⌝ ∗ Pt c M fullShare f)

theorem fill_none (c : Dev nD) {s : Shape} {e : EltTy} (M : Memref sig .tc .vmem s e) (T : s.Idx → Elt F e) (P : s.Idx → Prop) (h : ∀ i, ¬ P i) :
    Any (F := F) c M ⊢ Fill c M T P := by
  unfold Any Fill
  iintro ⟨%f, H⟩
  iexists f
  isplitr
  · ipureintro; exact fun i hi => absurd hi (h i)
  · iexact H

section
variable {α : Type} {Q : α → sProp (MT nD τ sig Unit (Elt F) ℕ UU ℕ)}

/-- A load from a buffer being filled, whose value is not used. -/
theorem ldF (c : Dev nD) {s : Shape} {e : EltTy} (M : Memref sig .tc .vmem s e) (T : s.Idx → Elt F e) (P : s.Idx → Prop) {r : LoadRect s} {hl : M.view.LoadsAt r}
    {α : Type} {Q : α → sProp 𝕄} {k : (r.shape.Idx → Elt F e) → Prog (TpuEff nD τ sig (Elt F) Λ₀ .tc) α} :
    Fill c M T P ⊢ iprop((∀ v, Fill c M T P -∗ Wp c (k v) Q) -∗ Wp c (.op (.load M r hl) k) Q) := by
  unfold Fill
  iintro ⟨%f, %hf, H⟩ Hk
  iapply (wp_load 𝒱₀ (c : Thread nD τ) none Set.univ (m := M) (View.setOn_subset_set ..)) $$ H
  iintro H
  iapply Hk
  iexists f
  isplitr
  · ipureintro; exact hf
  · iexact H

/-- A store of `T`'s values on a rectangle. -/
theorem stF (c : Dev nD) {s : Shape} {e : EltTy} (M : Memref sig .tc .vmem s e) (T : s.Idx → Elt F e) (P P' : s.Idx → Prop) {r : Rect s} {w : r.shape.Idx → Elt F e}
    {hx : (M.access r : View sig .tc _ _ _).Stores Finset.univ} {hm : Finset.univ = Finset.univ ∨ ∀ a, r.stride a = 1}
    (hw : ∀ y, w y = T (r.emb y)) (hP : ∀ i, P' i → P i ∨ ∃ y, i = r.emb y)
    {α : Type} {Q : α → sProp 𝕄} {k : PUnit → Prog (TpuEff nD τ sig (Elt F) Λ₀ .tc) α} :
    Fill c M T P ⊢ iprop((Fill c M T P' -∗ Wp c (k ⟨⟩) Q) -∗ Wp c (.op (.store M r w Finset.univ hx hm) k) Q) := by
  unfold Fill
  iintro ⟨%f, %hf, H⟩ Hk
  iapply (wp_store 𝒱₀ (c : Thread nD τ) none Set.univ (m := M) (r := r) (Mk := Finset.univ)
    (show (M.access r : View sig .tc _ _ _).setOn Finset.univ ⊆ M.view.set from (View.setOn_univ _).trans_subset (View.set_slice_subset ..))) $$ H
  iintro H
  iapply Hk
  iexists _
  isplitr
  swap
  · iexact H
  ipureintro
  intro i hi
  by_cases hr : ∃ y, i = r.emb y
  · obtain ⟨y, rfl⟩ := hr
    rw [← hw y, View.read_apply]
    have := View.write_emb_of_mem (v := (M.access r : View sig .tc _ _ _)) (Val := Elt F) (f := f) (w := w) (h := Finset.mem_univ y)
    refine (congrArg _ this).trans ?_
    rw [cast_cast]; rfl
  · rcases hP i hi with h | h
    · rw [← hf i h, View.read_apply, View.read_apply]
      refine congrArg _ (View.write_of_not_mem _ _ _ fun hmem => hr ?_)
      rw [View.setOn_univ] at hmem
      obtain ⟨y, -, e⟩ := Finset.mem_map.mp hmem
      exact ⟨y, (M.view.emb.injective e).symm⟩
    · exact absurd h hr
end

theorem accT_cols (c : Dev nD) (h : Fin 8) (y : S1024x128.Idx) :
    accT m c ((rCols h).emb y) = headA (qV m c) (k0_pay6 c) h (kV m c h) (vV m c h) y := by
  have hy : (y 1).val < 128 := (y 1).isLt
  have hh := h.isLt
  have e1 : hd (((rCols h).emb y) 1) = h := Fin.ext (by change (128 * h.val + 1 * (y 1).val) / 128 = h.val; omega)
  have e2 : lane (((rCols h).emb y) 1) = y 1 := Fin.ext (by change (128 * h.val + 1 * (y 1).val) % 128 = (y 1).val; omega)
  have e3 : (((rCols h).emb y) 0 : Fin 1024) = y 0 := Fin.ext (by change 0 + 1 * (y 0).val = (y 0).val; omega)
  unfold accT
  rw [e1, e2, e3]
  exact congrArg _ (eq_ix2 y).symm

theorem accS_cols (c : Dev nD) (h : Fin 8) (y : S1024x128.Idx) :
    accS m c ((rCols h).emb y) = headS (qV m c) (k0_pay6 c) h (kV m c h) (vV m c h) y := by
  have hy : (y 1).val < 128 := (y 1).isLt
  have hh := h.isLt
  have e1 : hd (((rCols h).emb y) 1) = h := Fin.ext (by change (128 * h.val + 1 * (y 1).val) / 128 = h.val; omega)
  have e2 : lane (((rCols h).emb y) 1) = y 1 := Fin.ext (by change (128 * h.val + 1 * (y 1).val) % 128 = (y 1).val; omega)
  have e3 : (((rCols h).emb y) 0 : Fin 1024) = y 0 := Fin.ext (by change 0 + 1 * (y 0).val = (y 0).val; omega)
  unfold accS
  rw [e1, e2, e3]
  exact congrArg _ (eq_ix2 y).symm

theorem lT_col (c : Dev nD) (h : Fin 8) (y : S1024x1.Idx) :
    lT m c ((rCol h).emb y) = headL (qV m c) (k0_pay6 c) h (kV m c h) y := by
  have hy : (y 1).val < 1 := (y 1).isLt
  have e1 : (((rCol h).emb y) 1 : Fin 8) = h := Fin.ext (by change h.val + 1 * (y 1).val = h.val; omega)
  have e3 : (((rCol h).emb y) 0 : Fin 1024) = y 0 := Fin.ext (by change 0 + 1 * (y 0).val = (y 0).val; omega)
  unfold lT
  rw [e1, e3]
  exact congrArg _ ((congrArg (ix2 (y 0)) (Fin.ext (by change 0 = (y 1).val; omega))).trans (eq_ix2 y).symm)

/-- The first `n` heads' columns. -/
def colsTo (n : ℕ) : S1024x1024.Idx → Prop := fun i => (i 1).val < 128 * n
def colTo (n : ℕ) : S1024x8.Idx → Prop := fun i => (i 1).val < n

theorem colsTo_succ (h : Fin 8) (i : S1024x1024.Idx) (hi : colsTo (h.val + 1) i) : colsTo h.val i ∨ ∃ y, i = (rCols h).emb y := by
  unfold colsTo at *
  have h0 : (i 0).val < 1024 := (i 0).isLt
  by_cases hlt : (i 1).val < 128 * h.val
  · exact .inl hlt
  · refine .inr ⟨ix2 (⟨(i 0).val, h0⟩ : Fin 1024) (⟨(i 1).val - 128 * h.val, by omega⟩ : Fin 128), funext fun a => Fin.ext ?_⟩
    match a with
    | ⟨0, _⟩ => change (i 0).val = 0 + 1 * (i 0).val; omega
    | ⟨1, _⟩ => change (i 1).val = 128 * h.val + 1 * ((i 1).val - 128 * h.val); omega

theorem colTo_succ (h : Fin 8) (i : S1024x8.Idx) (hi : colTo (h.val + 1) i) : colTo h.val i ∨ ∃ y, i = (rCol h).emb y := by
  unfold colTo at *
  have h0 : (i 0).val < 1024 := (i 0).isLt
  by_cases hlt : (i 1).val < h.val
  · exact .inl hlt
  · refine .inr ⟨ix2 (⟨(i 0).val, h0⟩ : Fin 1024) (0 : Fin 1), funext fun a => Fin.ext ?_⟩
    match a with
    | ⟨0, _⟩ => change (i 0).val = 0 + 1 * (i 0).val; omega
    | ⟨1, _⟩ => change (i 1).val = h.val + 1 * 0; omega

/-- The sums, the row sums, the rounded sums and the sent row sums of the first `n` heads are in place. -/
abbrev FT (c : Dev nD) (n : ℕ) : sProp 𝕄 := Fill c tM (accT m c) (colsTo n)
abbrev FU (c : Dev nD) (n : ℕ) : sProp 𝕄 := Fill c uM (lT m c) (colTo n)
abbrev FA (c : Dev nD) (n : ℕ) : sProp 𝕄 := Fill c aM (accS m c) (colsTo n)
abbrev FL (c : Dev nD) (n : ℕ) : sProp 𝕄 := Fill c lM (lT m c) (colTo n)

section
variable (c : Dev nD) (h : Fin 8) (n n' : ℕ) (hn : n = h.val) (hn' : n' = h.val + 1)
include hn hn'

theorem stT {w : (rCols h).shape.Idx → Elt F .f32} (hw : w = headA (qV m c) (k0_pay6 c) h (kV m c h) (vV m c h))
    {hx : (tM.access (rCols h) : View sig .tc _ _ _).Stores Finset.univ} {hm : Finset.univ = Finset.univ ∨ ∀ a, (rCols h).stride a = 1}
    {α : Type} {Q : α → sProp 𝕄} {k : PUnit → Prog (TpuEff nD τ sig (Elt F) Λ₀ .tc) α} :
    FT m c n ⊢ iprop((FT m c n' -∗ Wp c (k ⟨⟩) Q) -∗ Wp c (.op (.store tM (rCols h) w Finset.univ hx hm) k) Q) := by
  subst hn hn' hw
  exact stF c tM _ _ _ (fun y => (accT_cols m c h y).symm) (colsTo_succ h)

theorem stS {w : (rCols h).shape.Idx → Elt F .bf16} (hw : w = headS (qV m c) (k0_pay6 c) h (kV m c h) (vV m c h))
    {hx : (aM.access (rCols h) : View sig .tc _ _ _).Stores Finset.univ} {hm : Finset.univ = Finset.univ ∨ ∀ a, (rCols h).stride a = 1}
    {α : Type} {Q : α → sProp 𝕄} {k : PUnit → Prog (TpuEff nD τ sig (Elt F) Λ₀ .tc) α} :
    FA m c n ⊢ iprop((FA m c n' -∗ Wp c (k ⟨⟩) Q) -∗ Wp c (.op (.store aM (rCols h) w Finset.univ hx hm) k) Q) := by
  subst hn hn' hw
  exact stF c aM _ _ _ (fun y => (accS_cols m c h y).symm) (colsTo_succ h)

theorem stU {w : (rCol h).shape.Idx → Elt F .f32} (hw : w = headL (qV m c) (k0_pay6 c) h (kV m c h))
    {hx : (uM.access (rCol h) : View sig .tc _ _ _).Stores Finset.univ} {hm : Finset.univ = Finset.univ ∨ ∀ a, (rCol h).stride a = 1}
    {α : Type} {Q : α → sProp 𝕄} {k : PUnit → Prog (TpuEff nD τ sig (Elt F) Λ₀ .tc) α} :
    FU m c n ⊢ iprop((FU m c n' -∗ Wp c (k ⟨⟩) Q) -∗ Wp c (.op (.store uM (rCol h) w Finset.univ hx hm) k) Q) := by
  subst hn hn' hw
  exact stF c uM _ _ _ (fun y => (lT_col m c h y).symm) (colTo_succ h)

theorem stL {w : (rCol h).shape.Idx → Elt F .f32} (hw : w = headL (qV m c) (k0_pay6 c) h (kV m c h))
    {hx : (lM.access (rCol h) : View sig .tc _ _ _).Stores Finset.univ} {hm : Finset.univ = Finset.univ ∨ ∀ a, (rCol h).stride a = 1}
    {α : Type} {Q : α → sProp 𝕄} {k : PUnit → Prog (TpuEff nD τ sig (Elt F) Λ₀ .tc) α} :
    FL m c n ⊢ iprop((FL m c n' -∗ Wp c (k ⟨⟩) Q) -∗ Wp c (.op (.store lM (rCol h) w Finset.univ hx hm) k) Q) := by
  subst hn hn' hw
  exact stF c lM _ _ _ (fun y => (lT_col m c h y).symm) (colTo_succ h)
end

theorem ft_done (c : Dev nD) : FT m c 8 ⊢ (Pt c tM fullShare (accT m c) : sProp 𝕄) := by
  unfold FT Fill
  iintro ⟨%f, %hf, H⟩
  have : f = accT m c := funext fun i => hf i (i 1).isLt
  subst this; iexact H
theorem fa_done (c : Dev nD) : FA m c 8 ⊢ (Pt c aM fullShare (accS m c) : sProp 𝕄) := by
  unfold FA Fill
  iintro ⟨%f, %hf, H⟩
  have : f = accS m c := funext fun i => hf i (i 1).isLt
  subst this; iexact H
theorem fu_done (c : Dev nD) : FU m c 8 ⊢ (Pt c uM fullShare (lT m c) : sProp 𝕄) := by
  unfold FU Fill
  iintro ⟨%f, %hf, H⟩
  have : f = lT m c := funext fun i => hf i (i 1).isLt
  subst this; iexact H
theorem fl_done (c : Dev nD) : FL m c 8 ⊢ (Pt c lM fullShare (lT m c) : sProp 𝕄) := by
  unfold FL Fill
  iintro ⟨%f, %hf, H⟩
  have : f = lT m c := funext fun i => hf i (i 1).isLt
  subst this; iexact H

end Cert.RunI

end
-- ==== Proof.RunI.Parts.lean ====
/-
# The pieces of the body, on the buffers they run on
-/
module

public import proofs.«01_k».proof.Proof.RunI.Fill

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev p1 (d0 : Dev nD) (k0_h1 : k0_cond1 d0 = 1#1) := k0_part1 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h1
abbrev p2 (d0 : Dev nD) (k0_h2 : k0_cond2 d0 = 1#1) := k0_part2 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h2
abbrev p3 (d0 : Dev nD) (k0_h2 : k0_cond2 d0 = 1#1) := k0_part3 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h2
abbrev p4 (d0 : Dev nD) (k0_h2 : k0_cond2 d0 = 1#1) := k0_part4 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h2
abbrev p5 (d0 : Dev nD) (k0_h2 : k0_cond2 d0 = 1#1) := k0_part5 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h2
abbrev p6 (d0 : Dev nD) (k0_h2 : k0_cond2 d0 = 1#1) := k0_part6 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h2
abbrev p7 (d0 : Dev nD) (k0_h3 : k0_cond3 d0 = 1#1) := k0_part7 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h3
abbrev p8 (d0 : Dev nD) (k0_h3 : k0_cond3 d0 = 1#1) := k0_part8 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h3
abbrev p9 (d0 : Dev nD) (k0_h4 : k0_cond4 d0 = 1#1) := k0_part9 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h4
abbrev p10 (d0 : Dev nD) (k0_h4 : k0_cond4 d0 = 1#1) := k0_part10 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h4
abbrev p11 (d0 : Dev nD) (k0_h4 : k0_cond4 d0 = 1#1) := k0_part11 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 k0_h4
abbrev p12  := k0_part12 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p13  := k0_part13 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p14  := k0_part14 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p15  := k0_part15 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p16  := k0_part16 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p17  := k0_part17 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p18  := k0_part18 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p19  := k0_part19 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p20  := k0_part20 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p21  := k0_part21 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p22  := k0_part22 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0
abbrev p23 (v10 : FVec F S1024x1024 .bf16) (v25 : IVec S1024x1024 1) (v36 : FVec F S1024x1 .f32) (v38 : FVec F S1024x128 .f32) := k0_part23 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 v10 v25 v36 v38
abbrev p24 (v10 : FVec F S1024x1024 .bf16) (v25 : IVec S1024x1024 1) (v62 : FVec F S1024x1 .f32) (v71 : FVec F S1024x128 .bf16) := k0_part24 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 v10 v25 v62 v71
abbrev p25 (v10 : FVec F S1024x1024 .bf16) (v25 : IVec S1024x1024 1) (v104 : Vec F S1024x128 .bf16) := k0_part25 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 v10 v25 v104
abbrev p26 (v10 : FVec F S1024x1024 .bf16) (v25 : IVec S1024x1024 1) (v133 : FVec F S1024x128 .bf16) (v138 : FVec F S1024x1024 .f32) (v139 : FVec F S1024 .f32) := k0_part26 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 v10 v25 v133 v138 v139
abbrev p27 (v10 : FVec F S1024x1024 .bf16) (v25 : IVec S1024x1024 1) (v166 : FVec F S1024x1 .f32) (v168 : FVec F S1024x128 .f32) := k0_part27 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 v10 v25 v166 v168
abbrev p28 (v2 : BitVec 32) (v10 : FVec F S1024x1024 .bf16) (v25 : IVec S1024x1024 1) (v207 : FVec F S1024x1 .f32) := k0_part28 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 v2 v10 v25 v207
abbrev p29 (d0 : Dev nD) (v2 : BitVec 32) (v234 : Sems sig S_) (v237 : BitVec 32) (v238 : BitVec 32) (v239 : BitVec 1) (v240 : BitVec 1) := k0_part29 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 v2 v234 v237 v238 v239 v240
abbrev p30 (d0 : Dev nD) (v2 : BitVec 32) (v234 : Sems sig S_) := k0_part30 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 v2 v234
abbrev p31 (v2 : BitVec 32) (v298 : Vec F S1024x1024 .f32) (v299 : Vec F S1024x8 .f32) (v300 : FVec F S1024x128 .f32) (v302 : FVec F S1024x128 .f32) := k0_part31 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 v2 v298 v299 v300 v302
abbrev p32 (d0 : Dev nD) (v2 : BitVec 32) (c3_i32_178 : BitVec 32) := k0_part32 (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0 d0 v2 c3_i32_178
abbrev body0 := cc0_body (F := F) xM (Memref.isWhole_whole _) qM (Memref.isWhole_whole _) kM (Memref.isWhole_whole _) vM (Memref.isWhole_whole _) woM (Memref.isWhole_whole _) outM (Memref.isWhole_whole _) aM (Memref.isWhole_whole _) lM (Memref.isWhole_whole _) baM (Memref.isWhole_whole _) blM (Memref.isWhole_whole _) saM (Memref.isWhole_whole _) slM (Memref.isWhole_whole _) tM (Memref.isWhole_whole _) uM (Memref.isWhole_whole _) cc0_scratch8 cc0_scratch9 cc0_scratch10 cc0_scratch11 cc0_scratch12 cc0_scoped0

theorem retW (c : Dev nD) {α : Type} {Q : α → sProp 𝕄} (a : α) : Q a ⊢ Wp c (.ret a) Q := by
  unfold Wp; rw [wp_ret]; iintro H; imodintro; iexact H

theorem zero2 : (![0, 0] : Fin 2 → ℕ) = fun _ => 0 := by decide

/-- A load, the loaded value named. -/
theorem ldE (c : Dev nD) {s : Shape} {e : EltTy} (M : Memref sig .tc .vmem s e) {r : LoadRect s} {hl : M.view.LoadsAt r} (g : r.shape.Idx → Elt F e)
    {q : PosShare TreeShare} {f : Buf (Elt F) (M.view.loc (c : Thread nD τ))} (hg : M.view.readAt (Elt F) r f = g)
    {α : Type} {Q : α → sProp 𝕄} {k : (r.shape.Idx → Elt F e) → Prog (TpuEff nD τ sig (Elt F) Λ₀ .tc) α} :
    Pt c M q f ⊢ iprop((Pt c M q f -∗ Wp c (k g) Q) -∗ Wp c (.op (.load M r hl) k) Q) := by
  subst hg
  exact wp_load 𝒱₀ (c : Thread nD τ) none Set.univ (m := M) (View.setOn_subset_set ..)

end Cert.RunI

end
-- ==== Proof.RunI.Compute.lean ====
/-
# The sums of the device's own keys
-/
module

public import proofs.«01_k».proof.Proof.RunI.Parts

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The keys and values, as staged. -/
abbrev KV (c : Dev nD) : sProp 𝕄 := iprop(Pt c kM fullShare (kIn m c) ∗ Pt c vM fullShare (vIn m c))

section
variable (c : Dev nD)

/-- The queries, the mask and the constants of the first heads. -/
theorem run22 {Q : _ → sProp 𝕄} :
    iprop(Pt c xM fullShare (xIn m c) ∗ Pt c qM fullShare (qIn m c) ∗ KV m c)
      ⊢ iprop((Pt c xM fullShare (xIn m c) ∗ Pt c qM fullShare (qIn m c) ∗ KV m c
          -∗ Q ⟨c, Scalar.remsi (Scalar.divsi (Dev.word c) 1#32) 4#32, qV m c, k0_pay6 c, k0_pay8 c (xIn m c) (qIn m c) (kV m c 0), k0_pay9 c (xIn m c) (qIn m c) (kV m c 0) (vV m c 0)⟩)
        -∗ Wp c (p22 (F := F)) Q) := by
  simp only [p22, k0_part22_eq_skeleton]; unfold k0_part22_skel
  simp only [Prog.lift, Prog.bind_op, Prog.bind_ret, Prog.pure_eq_ret, wp_deviceId]
  iintro ⟨Hx, Hq, Hk, Hv⟩ HQ
  iapply (ldE c xM (xIn m c) (Memref.readAt_unit_zero (Elt F) cc0_stg0_0 zero2 _ _)) $$ Hx; iintro Hx
  iapply (ldE c qM (qIn m c) (Memref.readAt_unit_zero (Elt F) cc0_stg1_0 zero2 _ _)) $$ Hq; iintro Hq
  iapply (ldE c kM (kV m c 0) rfl) $$ Hk; iintro Hk
  iapply (ldE c vM (vV m c 0) rfl) $$ Hv; iintro Hv
  rw [show k0_pay5 (xIn m c) (qIn m c) = qV m c from rfl]
  iapply retW
  iapply HQ
  iframe Hx Hq Hk Hv

/-- The next heads' sums, each stored in the four buffers that keep them. -/
theorem run23 {Q : _ → sProp 𝕄} :
    iprop(KV m c ∗ FT m c 0 ∗ FU m c 0 ∗ FA m c 0 ∗ FL m c 0)
      ⊢ iprop((KV m c ∗ FT m c 2 ∗ FU m c 2 ∗ FA m c 1 ∗ FL m c 1 -∗ Q ⟨k0_pay15 (qV m c) (k0_pay6 c) (kV m c 1), k0_pay19 (qV m c) (k0_pay6 c) (kV m c 1) (vV m c 1)⟩)
        -∗ Wp c (p23 (F := F) (qV m c) (k0_pay6 c) (k0_pay8 c (xIn m c) (qIn m c) (kV m c 0)) (k0_pay9 c (xIn m c) (qIn m c) (kV m c 0) (vV m c 0))) Q) := by
  simp only [p23, k0_part23_eq_skeleton]; unfold k0_part23_skel
  simp only [Prog.lift, Prog.bind_op, Prog.bind_ret, Prog.pure_eq_ret]
  iintro ⟨⟨Hk, Hv⟩, HT, HU, HA, HL⟩ HQ
  iapply (ldF c tM) $$ HT; iintro %_ HT
  iapply (stT m c 0 0 1 rfl rfl rfl) $$ HT; iintro HT
  iapply (ldF c uM) $$ HU; iintro %_ HU
  iapply (stU m c 0 0 1 rfl rfl rfl) $$ HU; iintro HU
  iapply (ldF c aM) $$ HA; iintro %_ HA
  iapply (stS m c 0 0 1 rfl rfl rfl) $$ HA; iintro HA
  iapply (ldF c lM) $$ HL; iintro %_ HL
  iapply (stL m c 0 0 1 rfl rfl rfl) $$ HL; iintro HL
  iapply (ldE c kM (kV m c 1) rfl) $$ Hk; iintro Hk
  iapply (ldE c vM (vV m c 1) rfl) $$ Hv; iintro Hv
  iapply (ldF c tM) $$ HT; iintro %_ HT
  iapply (stT m c 1 1 2 rfl rfl rfl) $$ HT; iintro HT
  iapply (ldF c uM) $$ HU; iintro %_ HU
  iapply (stU m c 1 1 2 rfl rfl rfl) $$ HU; iintro HU
  iapply retW
  iapply HQ
  iframe Hk Hv HT HU HA HL

/-- The next heads' sums, each stored in the four buffers that keep them. -/
theorem run24 {Q : _ → sProp 𝕄} :
    iprop(KV m c ∗ FT m c 2 ∗ FU m c 2 ∗ FA m c 1 ∗ FL m c 1)
      ⊢ iprop((KV m c ∗ FT m c 3 ∗ FU m c 3 ∗ FA m c 3 ∗ FL m c 3 -∗ Q (kV m c 3))
        -∗ Wp c (p24 (F := F) (qV m c) (k0_pay6 c) (k0_pay15 (qV m c) (k0_pay6 c) (kV m c 1)) (k0_pay19 (qV m c) (k0_pay6 c) (kV m c 1) (vV m c 1))) Q) := by
  simp only [p24, k0_part24_eq_skeleton]; unfold k0_part24_skel
  simp only [Prog.lift, Prog.bind_op, Prog.bind_ret, Prog.pure_eq_ret]
  iintro ⟨⟨Hk, Hv⟩, HT, HU, HA, HL⟩ HQ
  iapply (ldF c aM) $$ HA; iintro %_ HA
  iapply (stS m c 1 1 2 rfl rfl rfl) $$ HA; iintro HA
  iapply (ldF c lM) $$ HL; iintro %_ HL
  iapply (stL m c 1 1 2 rfl rfl rfl) $$ HL; iintro HL
  iapply (ldE c kM (kV m c 2) rfl) $$ Hk; iintro Hk
  iapply (ldE c vM (vV m c 2) rfl) $$ Hv; iintro Hv
  iapply (ldF c tM) $$ HT; iintro %_ HT
  iapply (stT m c 2 2 3 rfl rfl rfl) $$ HT; iintro HT
  iapply (ldF c uM) $$ HU; iintro %_ HU
  iapply (stU m c 2 2 3 rfl rfl rfl) $$ HU; iintro HU
  iapply (ldF c aM) $$ HA; iintro %_ HA
  iapply (stS m c 2 2 3 rfl rfl rfl) $$ HA; iintro HA
  iapply (ldF c lM) $$ HL; iintro %_ HL
  iapply (stL m c 2 2 3 rfl rfl rfl) $$ HL; iintro HL
  iapply (ldE c kM (kV m c 3) rfl) $$ Hk; iintro Hk
  iapply retW
  iapply HQ
  iframe Hk Hv HT HU HA HL

/-- The next heads' sums, each stored in the four buffers that keep them. -/
theorem run25 {Q : _ → sProp 𝕄} :
    iprop(KV m c ∗ FT m c 3 ∗ FU m c 3 ∗ FA m c 3 ∗ FL m c 3)
      ⊢ iprop((KV m c ∗ FT m c 4 ∗ FU m c 4 ∗ FA m c 4 ∗ FL m c 4 -∗ Q ⟨k0_pay36 (vV m c 4), k0_pay37 (qV m c) (k0_pay6 c) (kV m c 4), k0_pay38 (qV m c) (k0_pay6 c) (kV m c 4)⟩)
        -∗ Wp c (p25 (F := F) (qV m c) (k0_pay6 c) (kV m c 3)) Q) := by
  simp only [p25, k0_part25_eq_skeleton]; unfold k0_part25_skel
  simp only [Prog.lift, Prog.bind_op, Prog.bind_ret, Prog.pure_eq_ret]
  iintro ⟨⟨Hk, Hv⟩, HT, HU, HA, HL⟩ HQ
  iapply (ldE c vM (vV m c 3) rfl) $$ Hv; iintro Hv
  iapply (ldF c tM) $$ HT; iintro %_ HT
  iapply (stT m c 3 3 4 rfl rfl rfl) $$ HT; iintro HT
  iapply (ldF c uM) $$ HU; iintro %_ HU
  iapply (stU m c 3 3 4 rfl rfl rfl) $$ HU; iintro HU
  iapply (ldF c aM) $$ HA; iintro %_ HA
  iapply (stS m c 3 3 4 rfl rfl rfl) $$ HA; iintro HA
  iapply (ldF c lM) $$ HL; iintro %_ HL
  iapply (stL m c 3 3 4 rfl rfl rfl) $$ HL; iintro HL
  iapply (ldE c kM (kV m c 4) rfl) $$ Hk; iintro Hk
  iapply (ldE c vM (vV m c 4) rfl) $$ Hv; iintro Hv
  iapply retW
  iapply HQ
  iframe Hk Hv HT HU HA HL

/-- The next heads' sums, each stored in the four buffers that keep them. -/
theorem run26 {Q : _ → sProp 𝕄} :
    iprop(KV m c ∗ FT m c 4 ∗ FU m c 4 ∗ FA m c 4 ∗ FL m c 4)
      ⊢ iprop((KV m c ∗ FT m c 6 ∗ FU m c 5 ∗ FA m c 5 ∗ FL m c 5 -∗ Q ⟨k0_pay46 (qV m c) (k0_pay6 c) (kV m c 5), k0_pay47 (qV m c) (k0_pay6 c) (kV m c 5) (vV m c 5)⟩)
        -∗ Wp c (p26 (F := F) (qV m c) (k0_pay6 c) (k0_pay36 (vV m c 4)) (k0_pay37 (qV m c) (k0_pay6 c) (kV m c 4)) (k0_pay38 (qV m c) (k0_pay6 c) (kV m c 4))) Q) := by
  simp only [p26, k0_part26_eq_skeleton]; unfold k0_part26_skel
  simp only [Prog.lift, Prog.bind_op, Prog.bind_ret, Prog.pure_eq_ret]
  iintro ⟨⟨Hk, Hv⟩, HT, HU, HA, HL⟩ HQ
  iapply (ldF c tM) $$ HT; iintro %_ HT
  iapply (stT m c 4 4 5 rfl rfl rfl) $$ HT; iintro HT
  iapply (ldF c uM) $$ HU; iintro %_ HU
  iapply (stU m c 4 4 5 rfl rfl rfl) $$ HU; iintro HU
  iapply (ldF c aM) $$ HA; iintro %_ HA
  iapply (stS m c 4 4 5 rfl rfl rfl) $$ HA; iintro HA
  iapply (ldF c lM) $$ HL; iintro %_ HL
  iapply (stL m c 4 4 5 rfl rfl rfl) $$ HL; iintro HL
  iapply (ldE c kM (kV m c 5) rfl) $$ Hk; iintro Hk
  iapply (ldE c vM (vV m c 5) rfl) $$ Hv; iintro Hv
  iapply (ldF c tM) $$ HT; iintro %_ HT
  iapply (stT m c 5 5 6 rfl rfl rfl) $$ HT; iintro HT
  iapply (ldF c uM) $$ HU; iintro %_ HU
  iapply retW
  iapply HQ
  iframe Hk Hv HT HU HA HL

/-- The next heads' sums, each stored in the four buffers that keep them. -/
theorem run27 {Q : _ → sProp 𝕄} :
    iprop(KV m c ∗ FT m c 6 ∗ FU m c 5 ∗ FA m c 5 ∗ FL m c 5)
      ⊢ iprop((KV m c ∗ FT m c 7 ∗ FU m c 7 ∗ FA m c 7 ∗ FL m c 6 -∗ Q (k0_pay58 (qV m c) (k0_pay6 c) (kV m c 6)))
        -∗ Wp c (p27 (F := F) (qV m c) (k0_pay6 c) (k0_pay46 (qV m c) (k0_pay6 c) (kV m c 5)) (k0_pay47 (qV m c) (k0_pay6 c) (kV m c 5) (vV m c 5))) Q) := by
  simp only [p27, k0_part27_eq_skeleton]; unfold k0_part27_skel
  simp only [Prog.lift, Prog.bind_op, Prog.bind_ret, Prog.pure_eq_ret]
  iintro ⟨⟨Hk, Hv⟩, HT, HU, HA, HL⟩ HQ
  iapply (stU m c 5 5 6 rfl rfl rfl) $$ HU; iintro HU
  iapply (ldF c aM) $$ HA; iintro %_ HA
  iapply (stS m c 5 5 6 rfl rfl rfl) $$ HA; iintro HA
  iapply (ldF c lM) $$ HL; iintro %_ HL
  iapply (stL m c 5 5 6 rfl rfl rfl) $$ HL; iintro HL
  iapply (ldE c kM (kV m c 6) rfl) $$ Hk; iintro Hk
  iapply (ldE c vM (vV m c 6) rfl) $$ Hv; iintro Hv
  iapply (ldF c tM) $$ HT; iintro %_ HT
  iapply (stT m c 6 6 7 rfl rfl rfl) $$ HT; iintro HT
  iapply (ldF c uM) $$ HU; iintro %_ HU
  iapply (stU m c 6 6 7 rfl rfl rfl) $$ HU; iintro HU
  iapply (ldF c aM) $$ HA; iintro %_ HA
  iapply (stS m c 6 6 7 rfl rfl rfl) $$ HA; iintro HA
  iapply (ldF c lM) $$ HL; iintro %_ HL
  iapply retW
  iapply HQ
  iframe Hk Hv HT HU HA HL

/-- The next heads' sums, each stored in the four buffers that keep them. -/
theorem run28 {Q : _ → sProp 𝕄} :
    iprop(KV m c ∗ FT m c 7 ∗ FU m c 7 ∗ FA m c 7 ∗ FL m c 6)
      ⊢ iprop((KV m c ∗ Pt c tM fullShare (accT m c) ∗ Pt c uM fullShare (lT m c) ∗ Pt c aM fullShare (accS m c) ∗ Pt c lM fullShare (lT m c)
          -∗ Q ⟨SemArray.scalar (sig.barrier 0 rfl), Scalar.select (Scalar.cmpi .eq 4#32 0#32) 1#32 4#32,
            Scalar.remsi (Scalar.addi (Scalar.remsi (Scalar.divsi (Dev.word c) 1#32) 4#32) 1#32) (Scalar.select (Scalar.cmpi .eq 4#32 0#32) 1#32 4#32),
            Scalar.cmpi .ne (Scalar.remsi (Scalar.addi (Scalar.remsi (Scalar.divsi (Dev.word c) 1#32) 4#32) 1#32) (Scalar.select (Scalar.cmpi .eq 4#32 0#32) 1#32 4#32)) 0#32,
            Scalar.cmpi .slt (Scalar.remsi (Scalar.addi (Scalar.remsi (Scalar.divsi (Dev.word c) 1#32) 4#32) 1#32) (Scalar.select (Scalar.cmpi .eq 4#32 0#32) 1#32 4#32)) 0#32⟩)
        -∗ Wp c (p28 (F := F) (Scalar.remsi (Scalar.divsi (Dev.word c) 1#32) 4#32) (qV m c) (k0_pay6 c) (k0_pay58 (qV m c) (k0_pay6 c) (kV m c 6))) Q) := by
  simp only [p28, k0_part28_eq_skeleton]; unfold k0_part28_skel
  simp only [Prog.lift, Prog.bind_op, Prog.bind_ret, Prog.pure_eq_ret]
  iintro ⟨⟨Hk, Hv⟩, HT, HU, HA, HL⟩ HQ
  iapply (stL m c 6 6 7 rfl rfl rfl) $$ HL; iintro HL
  iapply (ldE c kM (kV m c 7) rfl) $$ Hk; iintro Hk
  iapply (ldE c vM (vV m c 7) rfl) $$ Hv; iintro Hv
  iapply (ldF c tM) $$ HT; iintro %_ HT
  iapply (stT m c 7 7 8 rfl rfl rfl) $$ HT; iintro HT
  iapply (ldF c uM) $$ HU; iintro %_ HU
  iapply (stU m c 7 7 8 rfl rfl rfl) $$ HU; iintro HU
  iapply (ldF c aM) $$ HA; iintro %_ HA
  iapply (stS m c 7 7 8 rfl rfl rfl) $$ HA; iintro HA
  iapply (ldF c lM) $$ HL; iintro %_ HL
  iapply (stL m c 7 7 8 rfl rfl rfl) $$ HL; iintro HL
  ihave HT := (ft_done m c) $$ HT
  ihave HU := (fu_done m c) $$ HU
  ihave HA := (fa_done m c) $$ HA
  ihave HL := (fl_done m c) $$ HL
  iapply retW
  iapply HQ
  iframe Hk Hv HT HU HA HL
end

end Cert.RunI

end
-- ==== Proof.RunI.Common.lean ====
/-
# What the four devices share
-/
module

public import proofs.«01_k».proof.Proof.RunI.Compute

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Transfer semaphore 6. -/
abbrev q6 : DmaSem sig := ds 6
/-- Transfer semaphore 7. -/
abbrev q7 : DmaSem sig := ds 7
/-- Transfer semaphore 8. -/
abbrev q8 : DmaSem sig := ds 8
/-- Transfer semaphore 9. -/
abbrev q9 : DmaSem sig := ds 9
/-- Transfer semaphore 10. -/
abbrev q10 : DmaSem sig := ds 10
/-- Transfer semaphore 11. -/
abbrev q11 : DmaSem sig := ds 11
/-- Transfer semaphore 12. -/
abbrev q12 : DmaSem sig := ds 12
/-- Transfer semaphore 13. -/
abbrev q13 : DmaSem sig := ds 13
/-- Transfer semaphore 14. -/
abbrev q14 : DmaSem sig := ds 14
/-- Transfer semaphore 15. -/
abbrev q15 : DmaSem sig := ds 15
/-- Transfer semaphore 16. -/
abbrev q16 : DmaSem sig := ds 16
/-- Transfer semaphore 17. -/
abbrev q17 : DmaSem sig := ds 17
/-- Transfer semaphore 18. -/
abbrev q18 : DmaSem sig := ds 18
/-- Transfer semaphore 19. -/
abbrev q19 : DmaSem sig := ds 19
/-- Transfer semaphore 20. -/
abbrev q20 : DmaSem sig := ds 20
/-- Transfer semaphore 21. -/
abbrev q21 : DmaSem sig := ds 21
/-- Transfer semaphore 22. -/
abbrev q22 : DmaSem sig := ds 22
/-- Transfer semaphore 23. -/
abbrev q23 : DmaSem sig := ds 23
/-- Transfer semaphore 24. -/
abbrev q24 : DmaSem sig := ds 24
/-- Transfer semaphore 25. -/
abbrev q25 : DmaSem sig := ds 25
/-- Transfer semaphore 26. -/
abbrev q26 : DmaSem sig := ds 26
/-- Transfer semaphore 27. -/
abbrev q27 : DmaSem sig := ds 27
/-- Transfer semaphore 28. -/
abbrev q28 : DmaSem sig := ds 28
/-- Transfer semaphore 29. -/
abbrev q29 : DmaSem sig := ds 29
/-- Transfer semaphore 30. -/
abbrev q30 : DmaSem sig := ds 30
/-- Transfer semaphore 31. -/
abbrev q31 : DmaSem sig := ds 31
/-- Transfer semaphore 32. -/
abbrev q32 : DmaSem sig := ds 32
/-- Transfer semaphore 33. -/
abbrev q33 : DmaSem sig := ds 33
/-- Transfer semaphore 34. -/
abbrev q34 : DmaSem sig := ds 34
/-- Transfer semaphore 35. -/
abbrev q35 : DmaSem sig := ds 35
/-- Transfer semaphore 36. -/
abbrev q36 : DmaSem sig := ds 36
/-- Transfer semaphore 37. -/
abbrev q37 : DmaSem sig := ds 37
/-- Transfer semaphore 38. -/
abbrev q38 : DmaSem sig := ds 38
/-- Transfer semaphore 39. -/
abbrev q39 : DmaSem sig := ds 39
/-- Transfer semaphore 40. -/
abbrev q40 : DmaSem sig := ds 40
/-- Transfer semaphore 41. -/
abbrev q41 : DmaSem sig := ds 41
/-- Transfer semaphore 42. -/
abbrev q42 : DmaSem sig := ds 42
/-- Transfer semaphore 43. -/
abbrev q43 : DmaSem sig := ds 43
/-- Transfer semaphore 44. -/
abbrev q44 : DmaSem sig := ds 44

theorem pay_0_1 : regPay (F := F) barS 0 1 = iprop(Any (F := F) 1 bTop ∗ Any (F := F) 1 bBot ∗ Any (F := F) 1 blM) := rfl
theorem pay_0_2 : regPay (F := F) barS 0 2 = iprop(emp) := rfl
theorem pay_0_3 : regPay (F := F) barS 0 3 = iprop(Any (F := F) 3 bTop ∗ Any (F := F) 3 bBot ∗ Any (F := F) 3 blM) := rfl
theorem pay_1_0 : regPay (F := F) barS 1 0 = iprop(Any (F := F) 0 s1 ∗ Any (F := F) 0 sB ∗ Any (F := F) 0 sl1 ∗ Any (F := F) 0 slB) := rfl
theorem pay_1_2 : regPay (F := F) barS 1 2 = iprop((Any (F := F) 2 s1 ∗ Any (F := F) 2 sB ∗ Any (F := F) 2 sl1 ∗ Any (F := F) 2 slB) ∗ Any (F := F) 2 bTop ∗ Any (F := F) 2 blM) := rfl
theorem pay_1_3 : regPay (F := F) barS 1 3 = iprop(Any (F := F) 3 s1 ∗ Any (F := F) 3 sB ∗ Any (F := F) 3 sl1 ∗ Any (F := F) 3 slB) := rfl
theorem pay_2_0 : regPay (F := F) barS 2 0 = iprop(Any (F := F) 0 s2 ∗ Any (F := F) 0 sl2) := rfl
theorem pay_2_1 : regPay (F := F) barS 2 1 = iprop(Any (F := F) 1 s2 ∗ Any (F := F) 1 sl2) := rfl
theorem pay_2_3 : regPay (F := F) barS 2 3 = iprop(Any (F := F) 3 s2 ∗ Any (F := F) 3 sl2) := rfl
theorem pay_3_0 : regPay (F := F) barS 3 0 = iprop(Any (F := F) 0 s3 ∗ Any (F := F) 0 sl3) := rfl
theorem pay_3_1 : regPay (F := F) barS 3 1 = iprop(Any (F := F) 1 s3 ∗ Any (F := F) 1 sl3) := rfl
theorem pay_3_2 : regPay (F := F) barS 3 2 = iprop((Any (F := F) 2 s3 ∗ Any (F := F) 2 sl3) ∗ Any (F := F) 2 bBot) := rfl
theorem got_0 : (bigSep (Finset.univ.erase 0) fun p => regPay (F := F) barS 0 p) = iprop(regPay (F := F) barS 0 1 ∗ regPay (F := F) barS 0 2 ∗ regPay (F := F) barS 0 3) :=
  bigSep_eq_bigSepL_of_eq [1, 2, 3] (by decide) (by decide) _
theorem got_1 : (bigSep (Finset.univ.erase 1) fun p => regPay (F := F) barS 1 p) = iprop(regPay (F := F) barS 1 0 ∗ regPay (F := F) barS 1 2 ∗ regPay (F := F) barS 1 3) :=
  bigSep_eq_bigSepL_of_eq [0, 2, 3] (by decide) (by decide) _
theorem got_2 : (bigSep (Finset.univ.erase 2) fun p => regPay (F := F) barS 2 p) = iprop(regPay (F := F) barS 2 0 ∗ regPay (F := F) barS 2 1 ∗ regPay (F := F) barS 2 3) :=
  bigSep_eq_bigSepL_of_eq [0, 1, 3] (by decide) (by decide) _
theorem got_3 : (bigSep (Finset.univ.erase 3) fun p => regPay (F := F) barS 3 p) = iprop(regPay (F := F) barS 3 0 ∗ regPay (F := F) barS 3 1 ∗ regPay (F := F) barS 3 2) :=
  bigSep_eq_bigSepL_of_eq [0, 1, 2] (by decide) (by decide) _

/-- A store into a buffer held whole, the new contents named. -/
theorem stE (c : Dev nD) {s : Shape} {e : EltTy} (M : Memref sig .tc .vmem s e) {r : Rect s} {w : r.shape.Idx → Elt F e}
    {hx : (M.access r : View sig .tc _ _ _).Stores Finset.univ} {hm : Finset.univ = Finset.univ ∨ ∀ a, r.stride a = 1}
    {f : Buf (Elt F) (M.view.loc (c : Thread nD τ))} (g : Buf (Elt F) (M.view.loc (c : Thread nD τ)))
    (hg : (M.access r : View sig .tc _ _ _).write (Elt F) f w Finset.univ = g)
    {α : Type} {Q : α → sProp 𝕄} {k : PUnit → Prog (TpuEff nD τ sig (Elt F) Λ₀ .tc) α} :
    Pt c M fullShare f ⊢ iprop((Pt c M fullShare g -∗ Wp c (k ⟨⟩) Q) -∗ Wp c (.op (.store M r w Finset.univ hx hm) k) Q) := by
  subst hg
  exact wp_store 𝒱₀ (c : Thread nD τ) none Set.univ (m := M) (r := r) (Mk := Finset.univ)
    (show (M.access r : View sig .tc _ _ _).setOn Finset.univ ⊆ M.view.set from (View.setOn_univ _).trans_subset (View.set_slice_subset ..))

/-- A load from a buffer of which exactly the loaded elements are held. -/
theorem ldS (c : Dev nD) {s : Shape} {e : EltTy} (M : Memref sig .tc .vmem s e) {r : LoadRect s} {hl : M.view.LoadsAt r} (g : r.shape.Idx → Elt F e)
    {S : Finset (Idx (M.view.loc (c : Thread nD τ)))} (hS : S = M.view.setOn r.set)
    {q : PosShare TreeShare} {f : Buf (Elt F) (M.view.loc (c : Thread nD τ))} (hg : M.view.readAt (Elt F) r f = g)
    {α : Type} {Q : α → sProp 𝕄} {k : (r.shape.Idx → Elt F e) → Prog (TpuEff nD τ sig (Elt F) Λ₀ .tc) α} :
    (M.view.loc (c : Thread nD τ) ↦[S]{q} f : sProp 𝕄) ⊢ iprop(((M.view.loc (c : Thread nD τ) ↦[S]{q} f) -∗ Wp c (k g) Q) -∗ Wp c (.op (.load M r hl) k) Q) := by
  subst hg hS
  exact wp_load 𝒱₀ (c : Thread nD τ) none Set.univ (m := M) (Finset.Subset.refl _)

theorem on_s1 : s1.view.set = saM.view.setOn rs1.toLoadRect.set := set_s1.trans (by unfold View.setOn; exact (Finset.map_refl).symm)
theorem on_s2 : s2.view.set = saM.view.setOn rs2.toLoadRect.set := set_s2.trans (by unfold View.setOn; exact (Finset.map_refl).symm)
theorem on_s3 : s3.view.set = saM.view.setOn rs3.toLoadRect.set := set_s3.trans (by unfold View.setOn; exact (Finset.map_refl).symm)
theorem on_sB : sB.view.set = saM.view.setOn rsB.toLoadRect.set := set_sB.trans (by unfold View.setOn; exact (Finset.map_refl).symm)
theorem on_sl1 : sl1.view.set = slM.view.setOn rsl1.toLoadRect.set := set_sl1.trans (by unfold View.setOn; exact (Finset.map_refl).symm)
theorem on_sl2 : sl2.view.set = slM.view.setOn rsl2.toLoadRect.set := set_sl2.trans (by unfold View.setOn; exact (Finset.map_refl).symm)
theorem on_sl3 : sl3.view.set = slM.view.setOn rsl3.toLoadRect.set := set_sl3.trans (by unfold View.setOn; exact (Finset.map_refl).symm)
theorem on_slB : slB.view.set = slM.view.setOn rslB.toLoadRect.set := set_slB.trans (by unfold View.setOn; exact (Finset.map_refl).symm)

end Cert.RunI

end
-- ==== Proof.RunI.Tail.lean ====
/-
# What a device starts from and ends with
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The end of a device's program, after its own partial sums: signals, transfers, sums, output, exit. -/
def tailP (d0 : Dev nD) (v2 : BitVec 32) (v234 : Sems sig S_) (v237 v238 : BitVec 32) (v239 v240 : BitVec 1) :
    Prog (TpuEff nD τ sig (Elt F) Λ₀ .tc) PUnit := do
  p29 (F := F) d0 v2 v234 v237 v238 v239 v240
  let r ← p30 (F := F) d0 v2 v234
  let v ← p31 (F := F) v2 r.1 r.2.1 r.2.2.1 r.2.2.2
  let _ ← p32 (F := F) d0 v2 v
  semSignalWord (⟨k0_dev39 d0, k0_dev39_lt d0⟩ : Dev nD) (SemArray.sem cc0_scoped0) 1#32
  semWaitWord (SemArray.sem cc0_scoped0) 3#32
  pure ⟨⟩

/-- The credits a device starts with: its barrier, its exit, what it receives. -/
def passes (c : Dev nD) : List (SemLoc sig × ℕ) :=
  match c with
  | 0 => [(.reg barS, 3), (.reg exitS, 3), (.dma q33, amt q33.val), (.dma q34, amt q34.val), (.dma q35, amt q35.val), (.dma q36, amt q36.val), (.dma q37, amt q37.val), (.dma q39, amt q39.val), (.dma q41, amt q41.val), (.dma q43, amt q43.val)]
  | 1 => [(.reg barS, 3), (.reg exitS, 3), (.dma q12, amt q12.val), (.dma q13, amt q13.val), (.dma q14, amt q14.val), (.dma q37, amt q37.val), (.dma q39, amt q39.val), (.dma q41, amt q41.val), (.dma q43, amt q43.val)]
  | 2 => [(.reg barS, 3), (.reg exitS, 3), (.dma q12, amt q12.val), (.dma q13, amt q13.val), (.dma q14, amt q14.val), (.dma q33, amt q33.val), (.dma q34, amt q34.val), (.dma q35, amt q35.val), (.dma q36, amt q36.val), (.dma q41, amt q41.val), (.dma q43, amt q43.val)]
  | 3 => [(.reg barS, 3), (.reg exitS, 3), (.dma q12, amt q12.val), (.dma q13, amt q13.val), (.dma q14, amt q14.val), (.dma q33, amt q33.val), (.dma q34, amt q34.val), (.dma q35, amt q35.val), (.dma q36, amt q36.val), (.dma q37, amt q37.val), (.dma q39, amt q39.val)]

/-- The duties a device pays: a signal on every other barrier and exit, both ends of its transfers. -/
def toks (c : Dev nD) : List (Dev nD × SemLoc sig × Dev nD) :=
  match c with
  | 0 => [(1, .reg barS, 0), (2, .reg barS, 0), (3, .reg barS, 0), (1, .reg exitS, 0), (2, .reg exitS, 0), (3, .reg exitS, 0), (0, .dma q6, 0), (1, .dma q12, 0), (0, .dma q9, 0), (3, .dma q13, 0), (0, .dma q7, 0), (1, .dma q13, 0), (0, .dma q10, 0), (3, .dma q12, 0), (0, .dma q8, 0), (1, .dma q14, 0), (0, .dma q11, 0), (3, .dma q14, 0)]
  | 1 => [(2, .reg barS, 1), (3, .reg barS, 1), (0, .reg barS, 1), (2, .reg exitS, 1), (3, .reg exitS, 1), (0, .reg exitS, 1), (1, .dma q17, 0), (0, .dma q33, 0), (1, .dma q19, 0), (0, .dma q35, 0), (1, .dma q18, 0), (0, .dma q34, 0), (1, .dma q20, 0), (0, .dma q36, 0), (1, .dma q21, 0), (2, .dma q33, 0), (1, .dma q23, 0), (2, .dma q35, 0), (1, .dma q22, 0), (2, .dma q34, 0), (1, .dma q24, 0), (2, .dma q36, 0), (1, .dma q25, 0), (3, .dma q33, 0), (1, .dma q27, 0), (3, .dma q35, 0), (1, .dma q26, 0), (3, .dma q34, 0), (1, .dma q28, 0), (3, .dma q36, 0), (1, .dma q15, 0), (2, .dma q12, 0), (1, .dma q16, 0), (2, .dma q14, 0)]
  | 2 => [(3, .reg barS, 2), (0, .reg barS, 2), (1, .reg barS, 2), (3, .reg exitS, 2), (0, .reg exitS, 2), (1, .reg exitS, 2), (2, .dma q17, 0), (0, .dma q37, 0), (2, .dma q19, 0), (0, .dma q39, 0), (2, .dma q21, 0), (1, .dma q37, 0), (2, .dma q23, 0), (1, .dma q39, 0), (2, .dma q25, 0), (3, .dma q37, 0), (2, .dma q27, 0), (3, .dma q39, 0)]
  | 3 => [(0, .reg barS, 3), (1, .reg barS, 3), (2, .reg barS, 3), (0, .reg exitS, 3), (1, .reg exitS, 3), (2, .reg exitS, 3), (3, .dma q17, 0), (0, .dma q41, 0), (3, .dma q19, 0), (0, .dma q43, 0), (3, .dma q21, 0), (1, .dma q41, 0), (3, .dma q23, 0), (1, .dma q43, 0), (3, .dma q25, 0), (2, .dma q41, 0), (3, .dma q27, 0), (2, .dma q43, 0), (3, .dma q15, 0), (2, .dma q13, 0)]

/-- A device's cells, one by one. -/
theorem cells_at (Φ : SemLoc sig → sProp 𝕄) : (bigSep Finset.univ fun k : Fin 41 => Φ (csem k))
    = iprop(Φ (.reg barS) ∗ Φ (.dma q6) ∗ Φ (.dma q7) ∗ Φ (.dma q8) ∗ Φ (.dma q9) ∗ Φ (.dma q10) ∗ Φ (.dma q11) ∗ Φ (.dma q12) ∗ Φ (.dma q13) ∗ Φ (.dma q14) ∗ Φ (.dma q15) ∗ Φ (.dma q16) ∗ Φ (.dma q17) ∗ Φ (.dma q18) ∗ Φ (.dma q19) ∗ Φ (.dma q20) ∗ Φ (.dma q21) ∗ Φ (.dma q22) ∗ Φ (.dma q23) ∗ Φ (.dma q24) ∗ Φ (.dma q25) ∗ Φ (.dma q26) ∗ Φ (.dma q27) ∗ Φ (.dma q28) ∗ Φ (.dma q29) ∗ Φ (.dma q30) ∗ Φ (.dma q31) ∗ Φ (.dma q32) ∗ Φ (.dma q33) ∗ Φ (.dma q34) ∗ Φ (.dma q35) ∗ Φ (.dma q36) ∗ Φ (.dma q37) ∗ Φ (.dma q38) ∗ Φ (.dma q39) ∗ Φ (.dma q40) ∗ Φ (.dma q41) ∗ Φ (.dma q42) ∗ Φ (.dma q43) ∗ Φ (.dma q44) ∗ Φ (.reg exitS)) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]; rfl

/-- The ghost state a device starts from. -/
def Ghost (c : Dev nD) : sProp 𝕄 :=
  iprop((bigSep Finset.univ fun k : Fin 41 => at0 (F := F) c (csem k)) ∗ (bigSepL (passes c) fun x => pass (F := F) c x.1 x.2)
    ∗ (bigSepL (toks c) fun x => tok (F := F) x.1 x.2.1 x.2.2) ∗ owesE (F := F) c (debts c))

/-- The buffers a device only reads. -/
abbrev Ins (c : Dev nD) : sProp 𝕄 :=
  iprop(Pt c xM fullShare (xIn m c) ∗ Pt c qM fullShare (qIn m c) ∗ Pt c kM fullShare (kIn m c) ∗ Pt c vM fullShare (vIn m c) ∗ Pt c woM fullShare (woIn m c))

/-- A device's scratch buffers, with any contents. -/
abbrev Scr (c : Dev nD) : sProp 𝕄 :=
  iprop(Any (F := F) c aM ∗ Any (F := F) c lM ∗ Any (F := F) c baM ∗ Any (F := F) c blM ∗ Any (F := F) c saM ∗ Any (F := F) c slM ∗ Any (F := F) c tM ∗ Any (F := F) c uM)

/-- A device's cells, closed at zero, and no debt. -/
def Closed (c : Dev nD) : sProp 𝕄 :=
  iprop((bigSep Finset.univ fun k : Fin 41 => fin0 (F := F) c (csem k)) ∗ owesE (F := F) c [])

/-- What the end of a device's program starts from. -/
abbrev Mid (c : Dev nD) : sProp 𝕄 :=
  iprop(Ghost (F := F) c ∗ Pt c woM fullShare (woIn m c) ∗ Any (F := F) c outM
    ∗ Pt c tM fullShare (accT m c) ∗ Pt c uM fullShare (lT m c) ∗ Pt c aM fullShare (accS m c) ∗ Pt c lM fullShare (lT m c)
    ∗ Any (F := F) c baM ∗ Any (F := F) c blM ∗ Any (F := F) c saM ∗ Any (F := F) c slM)

/-- What it ends with. -/
abbrev Done (c : Dev nD) : sProp 𝕄 :=
  iprop(Closed (F := F) c ∗ Pt c woM fullShare (woIn m c) ∗ Pt c outM fullShare (outV m c) ∗ Scr (F := F) c)

end Cert.RunI

end
-- ==== Proof.RunI.Role0p29.lean ====
/-
# Device 0
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 0 signals its three peers, handing each the regions that it may write. -/
theorem r0_29 {v2 v237 v238 : BitVec 32} {v239 v240 : BitVec 1} {K : Dev nD × Fin 41 → ℕ} {Q : _ → sProp 𝕄} :
    iprop(env m K ∗ Any (F := F) 0 saM
      ∗ Any (F := F) 0 slM
      ∗ owesE (F := F) 0 ((debts 0).drop 0)
      ∗ tok (F := F) 1 (.reg barS) 0
      ∗ tok (F := F) 2 (.reg barS) 0
      ∗ tok (F := F) 3 (.reg barS) 0)
      ⊢ iprop((owesE (F := F) 0 ((debts 0).drop 3)
          ∗ restS (F := F) 0
          ∗ restSL (F := F) 0
          -∗ Q ⟨⟩)
        -∗ Wp 0 (p29 (F := F) 0 v2 (SemArray.scalar (sig.barrier 0 rfl)) v237 v238 v239 v240) Q) := by
  simp only [p29, k0_part29_eq_skeleton]; unfold k0_part29_skel
  simp only [semSignalWord, semWaitWord, Prog.lift, Prog.bind_op, Prog.bind_ret, Prog.pure_eq_ret]
  iintro ⟨#HE, Y_saM, Y_slM, O, Kb1, Kb2, Kb3⟩ HQ
  ihave HH := (slots (F := F) 0).1 $$ Y_saM
  icases HH with ⟨Y0_s1, Y0_sB, Y0_s2, Y0_s3, Rs⟩
  ihave HH := (slotsL (F := F) 0).1 $$ Y_slM
  icases HH with ⟨Y0_sl1, Y0_slB, Y0_sl2, Y0_sl3, Rl⟩
  ihave O := (Entails.of_eq (show owesE (F := F) 0 ((debts 0).drop 0) = owesE 0 ((1, .reg barS, 1) :: (debts 0).drop 1) from rfl)) $$ O
  iapply (sigR 0 1 ⟨k0_dev1 0, k0_dev1_lt 0⟩ (by decide) barS ((debts 0).drop 1) (by decide)) $$ HE Kb1 [Y0_s1 Y0_sB Y0_sl1 Y0_slB] O
  · iapply (Entails.of_eq (pay_1_0 (F := F)).symm); iframe Y0_s1 Y0_sB Y0_sl1 Y0_slB
  iintro O
  ihave O := (Entails.of_eq (show owesE (F := F) 0 ((debts 0).drop 1) = owesE 0 ((2, .reg barS, 1) :: (debts 0).drop 2) from rfl)) $$ O
  iapply (sigR 0 2 ⟨k0_dev2 0, k0_dev2_lt 0⟩ (by decide) barS ((debts 0).drop 2) (by decide)) $$ HE Kb2 [Y0_s2 Y0_sl2] O
  · iapply (Entails.of_eq (pay_2_0 (F := F)).symm); iframe Y0_s2 Y0_sl2
  iintro O
  ihave O := (Entails.of_eq (show owesE (F := F) 0 ((debts 0).drop 2) = owesE 0 ((3, .reg barS, 1) :: (debts 0).drop 3) from rfl)) $$ O
  iapply (sigR 0 3 ⟨k0_dev3 0, k0_dev3_lt 0⟩ (by decide) barS ((debts 0).drop 3) (by decide)) $$ HE Kb3 [Y0_s3 Y0_sl3] O
  · iapply (Entails.of_eq (pay_3_0 (F := F)).symm); iframe Y0_s3 Y0_sl3
  iintro O
  iapply retW
  iapply HQ
  iframe O Rs Rl

end Cert.RunI

end
-- ==== Proof.RunI.Role0p30.lean ====
/-
# Device 0
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 0 takes its three peers' barrier units, starts its transfers and adds what it is sent, up to its totals. -/
theorem r0_30 {K : Dev nD × Fin 41 → ℕ} {Q : _ → sProp 𝕄} :
    iprop(env m K ∗ owesE (F := F) 0 ((debts 0).drop 3)
      ∗ at0 (F := F) 0 (.reg barS)
      ∗ pass (F := F) 0 (.reg barS) 3
      ∗ Pt 0 aM fullShare (accS m 0)
      ∗ Pt 0 lM fullShare (lT m 0)
      ∗ tok (F := F) 0 (.dma q6) 0
      ∗ tok (F := F) 1 (.dma q12) 0
      ∗ tok (F := F) 0 (.dma q9) 0
      ∗ tok (F := F) 3 (.dma q13) 0
      ∗ tok (F := F) 0 (.dma q7) 0
      ∗ tok (F := F) 1 (.dma q13) 0
      ∗ tok (F := F) 0 (.dma q10) 0
      ∗ tok (F := F) 3 (.dma q12) 0
      ∗ tok (F := F) 0 (.dma q8) 0
      ∗ tok (F := F) 1 (.dma q14) 0
      ∗ tok (F := F) 0 (.dma q11) 0
      ∗ tok (F := F) 3 (.dma q14) 0
      ∗ at0 (F := F) 0 (.dma q33)
      ∗ pass (F := F) 0 (.dma q33) (amt q33.val)
      ∗ at0 (F := F) 0 (.dma q35)
      ∗ pass (F := F) 0 (.dma q35) (amt q35.val)
      ∗ Pt 0 tM fullShare (accT m 0)
      ∗ Pt 0 uM fullShare (lT m 0)
      ∗ at0 (F := F) 0 (.dma q34)
      ∗ pass (F := F) 0 (.dma q34) (amt q34.val)
      ∗ at0 (F := F) 0 (.dma q36)
      ∗ pass (F := F) 0 (.dma q36) (amt q36.val)
      ∗ at0 (F := F) 0 (.dma q37)
      ∗ pass (F := F) 0 (.dma q37) (amt q37.val)
      ∗ at0 (F := F) 0 (.dma q39)
      ∗ pass (F := F) 0 (.dma q39) (amt q39.val)
      ∗ at0 (F := F) 0 (.dma q41)
      ∗ pass (F := F) 0 (.dma q41) (amt q41.val)
      ∗ at0 (F := F) 0 (.dma q43)
      ∗ pass (F := F) 0 (.dma q43) (amt q43.val))
      ⊢ iprop((owesE (F := F) 0 ((debts 0).drop 9)
          ∗ Pt 0 tM fullShare (totA m 0)
          ∗ Pt 0 uM fullShare (totL m 0)
          ∗ fin0 (F := F) 0 (.reg barS)
          ∗ pass (F := F) 0 (.dma q6) (amt q6.val)
          ∗ pass (F := F) 0 (.dma q9) (amt q9.val)
          ∗ pass (F := F) 0 (.dma q7) (amt q7.val)
          ∗ pass (F := F) 0 (.dma q10) (amt q10.val)
          ∗ pass (F := F) 0 (.dma q8) (amt q8.val)
          ∗ pass (F := F) 0 (.dma q11) (amt q11.val)
          ∗ Pt 0 s1 fullShare (stripA m)
          ∗ fin0 (F := F) 0 (.dma q33)
          ∗ Pt 0 sl1 fullShare (stripL m)
          ∗ fin0 (F := F) 0 (.dma q35)
          ∗ Pt 0 sB fullShare (stripA m)
          ∗ fin0 (F := F) 0 (.dma q34)
          ∗ Pt 0 slB fullShare (stripL m)
          ∗ fin0 (F := F) 0 (.dma q36)
          ∗ Pt 0 s2 fullShare (stripA m)
          ∗ fin0 (F := F) 0 (.dma q37)
          ∗ Pt 0 sl2 fullShare (stripL m)
          ∗ fin0 (F := F) 0 (.dma q39)
          ∗ Pt 0 s3 fullShare (stripA m)
          ∗ fin0 (F := F) 0 (.dma q41)
          ∗ Pt 0 sl3 fullShare (stripL m)
          ∗ fin0 (F := F) 0 (.dma q43)
          -∗ Q ⟨totA m 0, totL m 0, k0_pay72 (totA m 0), k0_pay73 (totL m 0)⟩)
        -∗ Wp 0 (p30 (F := F) 0 0#32 (SemArray.scalar (sig.barrier 0 rfl))) Q) := by
  simp only [p30, k0_part30_eq_skeleton]; unfold k0_part30_skel
  have h1 : (k0_cond1 0 = 1#1) := by decide
  have h2 : ¬ (k0_cond2 0 = 1#1) := by decide
  have h3 : ¬ (k0_cond3 0 = 1#1) := by decide
  have h4 : ¬ (k0_cond4 0 = 1#1) := by decide
  have h5 : ¬ (Scalar.cmpi .ne (Scalar.extui (Scalar.cmpi .ne 0#32 0#32) : BitVec 32) 0#32 = 1#1) := by decide
  have h6 : (Scalar.cmpi .ne (Scalar.extui (Scalar.cmpi .ne 0#32 1#32) : BitVec 32) 0#32 = 1#1) := by decide
  have h7 : (Scalar.cmpi .ne (Scalar.extui (Scalar.cmpi .ne 0#32 2#32) : BitVec 32) 0#32 = 1#1) := by decide
  have h8 : (Scalar.cmpi .ne (Scalar.extui (Scalar.cmpi .ne 0#32 3#32) : BitVec 32) 0#32 = 1#1) := by decide
  simp only [dif_pos h1, dif_neg h2, dif_neg h3, dif_neg h4, dif_neg h5, dif_pos h6, dif_pos h7, dif_pos h8]
  simp only [k0_part1_eq_skeleton, k0_part12_eq_skeleton, k0_part13_eq_skeleton, k0_part14_eq_skeleton, k0_part15_eq_skeleton]
  unfold k0_part1_skel k0_part12_skel k0_part13_skel k0_part14_skel k0_part15_skel
  simp only [semSignalWord, semWaitWord, Prog.lift, Prog.bind_op, Prog.bind_ret, Prog.pure_eq_ret]
  iintro ⟨#HE, O, Ab, Pb, HA, HL, K6, R1_12, K9, R3_13, K7, R1_13, K10, R3_12, K8, R1_14, K11, R3_14, A33, P33, A35, P35, HT, HU, A34, P34, A36, P36, A37, P37, A39, P39, A41, P41, A43, P43⟩ HQ
  iapply (waitR 0 barS ((debts 0).drop 3) (by decide)) $$ HE Ab Pb O; iintro Hp Zb O
  ihave Hp := (Entails.of_eq (got_0 (F := F))) $$ Hp
  icases Hp with ⟨H0, H1, H2⟩
  ihave H0 := (Entails.of_eq (pay_0_1 (F := F))) $$ H0
  icases H0 with ⟨Y1_bTop, Y1_bBot, Y1_blM⟩
  ihave H1 := (Entails.of_eq (pay_0_2 (F := F))) $$ H1
  iclear H1
  ihave H2 := (Entails.of_eq (pay_0_3 (F := F))) $$ H2
  icases H2 with ⟨Y3_bTop, Y3_bBot, Y3_blM⟩
  ihave HH := (halvesA 0 fullShare (accS m 0)).1 $$ HA
  icases HH with ⟨Xt, Xb⟩
  ihave HH := (share2 0 aTop fullShare (accS m 0)).1 $$ Xt
  icases HH with ⟨Xtl, Xtr⟩
  ihave HH := (share2 0 aBot fullShare (accS m 0)).1 $$ Xb
  icases HH with ⟨Xbl, Xbr⟩
  ihave HH := (share2 0 lM fullShare (lT m 0)).1 $$ HL
  icases HH with ⟨HLl, HLr⟩
  ihave O := (Entails.of_eq (show owesE (F := F) 0 ((debts 0).drop 3) = owesE 0 ((1, .dma q12, amt q12.val) :: (debts 0).drop 4) from rfl)) $$ O
  show Entails' (PROP := sProp 𝕄) _ (Wp 0 (.op (.enqueueDma aTop (.remote ((⟨k0_dev4, k0_dev4_lt 0 h1⟩ : Dev nD) : Thread nD τ) bTop (.dma q6) _) (.dma q12) _ _ _) _) Q)
  iapply (xfer 0 1 ⟨k0_dev4, k0_dev4_lt 0 h1⟩ (Fin.ext (show k0_dev4 = 1 from by decide)) q6 q12 aTop bTop fullShare.left (accS m 0) (accS m 0) ((debts 0).drop 4)
    (by decide) (by decide) rfl rfl rfl rfl (Idealize.SL.BI.BIBase.Entails.of_eq rfl) (read_top m) (Idealize.SL.BI.BIBase.Entails.of_eq rfl)) $$ HE K6 R1_12 Xtl Y1_bTop O
  iintro P6 O
  ihave O := (Entails.of_eq (show owesE (F := F) 0 ((debts 0).drop 4) = owesE 0 ((3, .dma q13, amt q13.val) :: (debts 0).drop 5) from rfl)) $$ O
  show Entails' (PROP := sProp 𝕄) _ (Wp 0 (.op (.enqueueDma aBot (.remote ((⟨k0_dev5, k0_dev5_lt 0 h1⟩ : Dev nD) : Thread nD τ) bBot (.dma q9) _) (.dma q13) _ _ _) _) Q)
  iapply (xfer 0 3 ⟨k0_dev5, k0_dev5_lt 0 h1⟩ (Fin.ext (show k0_dev5 = 3 from by decide)) q9 q13 aBot bBot fullShare.right (accS m 0) (accS m 0) ((debts 0).drop 5)
    (by decide) (by decide) rfl rfl rfl rfl (Idealize.SL.BI.BIBase.Entails.of_eq rfl) (read_bot m) (Idealize.SL.BI.BIBase.Entails.of_eq rfl)) $$ HE K9 R3_13 Xbr Y3_bBot O
  iintro P9 O
  ihave O := (Entails.of_eq (show owesE (F := F) 0 ((debts 0).drop 5) = owesE 0 ((1, .dma q13, amt q13.val) :: (debts 0).drop 6) from rfl)) $$ O
  show Entails' (PROP := sProp 𝕄) _ (Wp 0 (.op (.enqueueDma aBot (.remote ((⟨k0_dev6, k0_dev6_lt 0 h1⟩ : Dev nD) : Thread nD τ) bBot (.dma q7) _) (.dma q13) _ _ _) _) Q)
  iapply (xfer 0 1 ⟨k0_dev6, k0_dev6_lt 0 h1⟩ (Fin.ext (show k0_dev6 = 1 from by decide)) q7 q13 aBot bBot fullShare.left (accS m 0) (accS m 0) ((debts 0).drop 6)
    (by decide) (by decide) rfl rfl rfl rfl (Idealize.SL.BI.BIBase.Entails.of_eq rfl) (read_bot m) (Idealize.SL.BI.BIBase.Entails.of_eq rfl)) $$ HE K7 R1_13 Xbl Y1_bBot O
  iintro P7 O
  ihave O := (Entails.of_eq (show owesE (F := F) 0 ((debts 0).drop 6) = owesE 0 ((3, .dma q12, amt q12.val) :: (debts 0).drop 7) from rfl)) $$ O
  show Entails' (PROP := sProp 𝕄) _ (Wp 0 (.op (.enqueueDma aTop (.remote ((⟨k0_dev7, k0_dev7_lt 0 h1⟩ : Dev nD) : Thread nD τ) bTop (.dma q10) _) (.dma q12) _ _ _) _) Q)
  iapply (xfer 0 3 ⟨k0_dev7, k0_dev7_lt 0 h1⟩ (Fin.ext (show k0_dev7 = 3 from by decide)) q10 q12 aTop bTop fullShare.right (accS m 0) (accS m 0) ((debts 0).drop 7)
    (by decide) (by decide) rfl rfl rfl rfl (Idealize.SL.BI.BIBase.Entails.of_eq rfl) (read_top m) (Idealize.SL.BI.BIBase.Entails.of_eq rfl)) $$ HE K10 R3_12 Xtr Y3_bTop O
  iintro P10 O
  ihave O := (Entails.of_eq (show owesE (F := F) 0 ((debts 0).drop 7) = owesE 0 ((1, .dma q14, amt q14.val) :: (debts 0).drop 8) from rfl)) $$ O
  show Entails' (PROP := sProp 𝕄) _ (Wp 0 (.op (.enqueueDma lM (.remote ((⟨k0_dev8, k0_dev8_lt 0 h1⟩ : Dev nD) : Thread nD τ) blM (.dma q8) _) (.dma q14) _ _ _) _) Q)
  iapply (xfer 0 1 ⟨k0_dev8, k0_dev8_lt 0 h1⟩ (Fin.ext (show k0_dev8 = 1 from by decide)) q8 q14 lM blM fullShare.left (lT m 0) (lT m 0) ((debts 0).drop 8)
    (by decide) (by decide) rfl rfl rfl rfl (Idealize.SL.BI.BIBase.Entails.of_eq rfl) (read_l m) (Idealize.SL.BI.BIBase.Entails.of_eq rfl)) $$ HE K8 R1_14 HLl Y1_blM O
  iintro P8 O
  ihave O := (Entails.of_eq (show owesE (F := F) 0 ((debts 0).drop 8) = owesE 0 ((3, .dma q14, amt q14.val) :: (debts 0).drop 9) from rfl)) $$ O
  show Entails' (PROP := sProp 𝕄) _ (Wp 0 (.op (.enqueueDma lM (.remote ((⟨k0_dev9, k0_dev9_lt 0 h1⟩ : Dev nD) : Thread nD τ) blM (.dma q11) _) (.dma q14) _ _ _) _) Q)
  iapply (xfer 0 3 ⟨k0_dev9, k0_dev9_lt 0 h1⟩ (Fin.ext (show k0_dev9 = 3 from by decide)) q11 q14 lM blM fullShare.right (lT m 0) (lT m 0) ((debts 0).drop 9)
    (by decide) (by decide) rfl rfl rfl rfl (Idealize.SL.BI.BIBase.Entails.of_eq rfl) (read_l m) (Idealize.SL.BI.BIBase.Entails.of_eq rfl)) $$ HE K11 R3_14 HLr Y3_blM O
  iintro P11 O
  show Entails' (PROP := sProp 𝕄) _ (Wp 0 (.op (.waitDma2 q33 _ s1 _ _) _) Q)
  iapply (waitD 0 q33 ((debts 0).drop 9) (dst := s1) (by decide) rfl (by decide) rfl) $$ HE A33 P33 O; iintro W_s1 Z33 O
  ihave W_s1 := (Entails.of_eq (show dmaPay m 0 q33.val = Pt 0 s1 fullShare (stripA m) from rfl)) $$ W_s1
  show Entails' (PROP := sProp 𝕄) _ (Wp 0 (.op (.waitDma2 q35 _ sl1 _ _) _) Q)
  iapply (waitD 0 q35 ((debts 0).drop 9) (dst := sl1) (by decide) rfl (by decide) rfl) $$ HE A35 P35 O; iintro W_sl1 Z35 O
  ihave W_sl1 := (Entails.of_eq (show dmaPay m 0 q35.val = Pt 0 sl1 fullShare (stripL m) from rfl)) $$ W_sl1
  iapply (ldE 0 tM (tM.view.readAt (Elt F) rG.toLoadRect (accT m 0)) rfl) $$ HT; iintro HT
  iapply (ldS 0 saM (saM.view.readAt (Elt F) rs1.toLoadRect (stripA m)) on_s1 rfl) $$ W_s1; iintro W_s1
  iapply (ldE 0 tM (tM.view.readAt (Elt F) rG.toLoadRect (accT m 0)) rfl) $$ HT; iintro HT
  iapply (stE 0 tM (stA1 m (accT m 0)) rfl) $$ HT; iintro HT
  iapply (ldE 0 uM (uM.view.readAt (Elt F) rlG.toLoadRect (lT m 0)) rfl) $$ HU; iintro HU
  iapply (ldS 0 slM (slM.view.readAt (Elt F) rsl1.toLoadRect (stripL m)) on_sl1 rfl) $$ W_sl1; iintro W_sl1
  iapply (ldE 0 uM (uM.view.readAt (Elt F) rlG.toLoadRect (lT m 0)) rfl) $$ HU; iintro HU
  iapply (stE 0 uM (stL1 m (lT m 0)) rfl) $$ HU; iintro HU
  show Entails' (PROP := sProp 𝕄) _ (Wp 0 (.op (.waitDma2 q34 _ sB _ _) _) Q)
  iapply (waitD 0 q34 ((debts 0).drop 9) (dst := sB) (by decide) rfl (by decide) rfl) $$ HE A34 P34 O; iintro W_sB Z34 O
  ihave W_sB := (Entails.of_eq (show dmaPay m 0 q34.val = Pt 0 sB fullShare (stripA m) from rfl)) $$ W_sB
  show Entails' (PROP := sProp 𝕄) _ (Wp 0 (.op (.waitDma2 q36 _ slB _ _) _) Q)
  iapply (waitD 0 q36 ((debts 0).drop 9) (dst := slB) (by decide) rfl (by decide) rfl) $$ HE A36 P36 O; iintro W_slB Z36 O
  ihave W_slB := (Entails.of_eq (show dmaPay m 0 q36.val = Pt 0 slB fullShare (stripL m) from rfl)) $$ W_slB
  iapply (ldE 0 tM (tM.view.readAt (Elt F) rB.toLoadRect (stA1 m (accT m 0))) rfl) $$ HT; iintro HT
  iapply (ldS 0 saM (saM.view.readAt (Elt F) rsB.toLoadRect (stripA m)) on_sB rfl) $$ W_sB; iintro W_sB
  iapply (ldE 0 tM (tM.view.readAt (Elt F) rB.toLoadRect (stA1 m (accT m 0))) rfl) $$ HT; iintro HT
  iapply (stE 0 tM (stAB m (stA1 m (accT m 0))) rfl) $$ HT; iintro HT
  iapply (ldE 0 uM (uM.view.readAt (Elt F) rlB.toLoadRect (stL1 m (lT m 0))) rfl) $$ HU; iintro HU
  iapply (ldS 0 slM (slM.view.readAt (Elt F) rslB.toLoadRect (stripL m)) on_slB rfl) $$ W_slB; iintro W_slB
  iapply (ldE 0 uM (uM.view.readAt (Elt F) rlB.toLoadRect (stL1 m (lT m 0))) rfl) $$ HU; iintro HU
  iapply (stE 0 uM (stLB m (stL1 m (lT m 0))) rfl) $$ HU; iintro HU
  show Entails' (PROP := sProp 𝕄) _ (Wp 0 (.op (.waitDma2 q37 _ s2 _ _) _) Q)
  iapply (waitD 0 q37 ((debts 0).drop 9) (dst := s2) (by decide) rfl (by decide) rfl) $$ HE A37 P37 O; iintro W_s2 Z37 O
  ihave W_s2 := (Entails.of_eq (show dmaPay m 0 q37.val = Pt 0 s2 fullShare (stripA m) from rfl)) $$ W_s2
  show Entails' (PROP := sProp 𝕄) _ (Wp 0 (.op (.waitDma2 q39 _ sl2 _ _) _) Q)
  iapply (waitD 0 q39 ((debts 0).drop 9) (dst := sl2) (by decide) rfl (by decide) rfl) $$ HE A39 P39 O; iintro W_sl2 Z39 O
  ihave W_sl2 := (Entails.of_eq (show dmaPay m 0 q39.val = Pt 0 sl2 fullShare (stripL m) from rfl)) $$ W_sl2
  iapply (ldE 0 tM (tM.view.readAt (Elt F) rG.toLoadRect (stAB m (stA1 m (accT m 0)))) rfl) $$ HT; iintro HT
  iapply (ldS 0 saM (saM.view.readAt (Elt F) rs2.toLoadRect (stripA m)) on_s2 rfl) $$ W_s2; iintro W_s2
  iapply (ldE 0 tM (tM.view.readAt (Elt F) rG.toLoadRect (stAB m (stA1 m (accT m 0)))) rfl) $$ HT; iintro HT
  iapply (stE 0 tM (stA2 m (stAB m (stA1 m (accT m 0)))) rfl) $$ HT; iintro HT
  iapply (ldE 0 uM (uM.view.readAt (Elt F) rlG.toLoadRect (stLB m (stL1 m (lT m 0)))) rfl) $$ HU; iintro HU
  iapply (ldS 0 slM (slM.view.readAt (Elt F) rsl2.toLoadRect (stripL m)) on_sl2 rfl) $$ W_sl2; iintro W_sl2
  iapply (ldE 0 uM (uM.view.readAt (Elt F) rlG.toLoadRect (stLB m (stL1 m (lT m 0)))) rfl) $$ HU; iintro HU
  iapply (stE 0 uM (stL2 m (stLB m (stL1 m (lT m 0)))) rfl) $$ HU; iintro HU
  show Entails' (PROP := sProp 𝕄) _ (Wp 0 (.op (.waitDma2 q41 _ s3 _ _) _) Q)
  iapply (waitD 0 q41 ((debts 0).drop 9) (dst := s3) (by decide) rfl (by decide) rfl) $$ HE A41 P41 O; iintro W_s3 Z41 O
  ihave W_s3 := (Entails.of_eq (show dmaPay m 0 q41.val = Pt 0 s3 fullShare (stripA m) from rfl)) $$ W_s3
  show Entails' (PROP := sProp 𝕄) _ (Wp 0 (.op (.waitDma2 q43 _ sl3 _ _) _) Q)
  iapply (waitD 0 q43 ((debts 0).drop 9) (dst := sl3) (by decide) rfl (by decide) rfl) $$ HE A43 P43 O; iintro W_sl3 Z43 O
  ihave W_sl3 := (Entails.of_eq (show dmaPay m 0 q43.val = Pt 0 sl3 fullShare (stripL m) from rfl)) $$ W_sl3
  iapply (ldE 0 tM (tM.view.readAt (Elt F) rG.toLoadRect (stA2 m (stAB m (stA1 m (accT m 0))))) rfl) $$ HT; iintro HT
  iapply (ldS 0 saM (saM.view.readAt (Elt F) rs3.toLoadRect (stripA m)) on_s3 rfl) $$ W_s3; iintro W_s3
  iapply (ldE 0 tM (tM.view.readAt (Elt F) rG.toLoadRect (stA2 m (stAB m (stA1 m (accT m 0))))) rfl) $$ HT; iintro HT
  iapply (stE 0 tM (stA3 m (stA2 m (stAB m (stA1 m (accT m 0))))) rfl) $$ HT; iintro HT
  iapply (ldE 0 uM (uM.view.readAt (Elt F) rlG.toLoadRect (stL2 m (stLB m (stL1 m (lT m 0))))) rfl) $$ HU; iintro HU
  iapply (ldS 0 slM (slM.view.readAt (Elt F) rsl3.toLoadRect (stripL m)) on_sl3 rfl) $$ W_sl3; iintro W_sl3
  iapply (ldE 0 uM (uM.view.readAt (Elt F) rlG.toLoadRect (stL2 m (stLB m (stL1 m (lT m 0))))) rfl) $$ HU; iintro HU
  iapply (stE 0 uM (stL3 m (stL2 m (stLB m (stL1 m (lT m 0))))) rfl) $$ HU; iintro HU
  ihave HT := (Entails.of_eq (show Pt 0 tM fullShare (stA3 m (stA2 m (stAB m (stA1 m (accT m 0))))) = Pt 0 tM fullShare (totA m 0) from rfl)) $$ HT
  ihave HU := (Entails.of_eq (show Pt 0 uM fullShare (stL3 m (stL2 m (stLB m (stL1 m (lT m 0))))) = Pt 0 uM fullShare (totL m 0) from rfl)) $$ HU
  iapply (ldE 0 tM (totA m 0) (Memref.readAt_unit_zero (Elt F) cc0_scratch6 zero2 _ _)) $$ HT; iintro HT
  iapply (ldE 0 uM (totL m 0) (Memref.readAt_unit_zero (Elt F) cc0_scratch7 zero2 _ _)) $$ HU; iintro HU
  iapply retW
  iapply HQ
  iframe O HT HU Zb P6 P9 P7 P10 P8 P11 W_s1 Z33 W_sl1 Z35 W_sB Z34 W_slB Z36 W_s2 Z37 W_sl2 Z39 W_s3 Z41 W_sl3 Z43

end Cert.RunI

end
-- ==== Proof.RunI.Role0p31.lean ====
/-
# Device 0
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 0 writes its result and begins to take back what its transfers borrowed. -/
theorem r0_31 {K : Dev nD × Fin 41 → ℕ} {Q : _ → sProp 𝕄} :
    iprop(env m K ∗ Pt 0 woM fullShare (woIn m 0)
      ∗ Any (F := F) 0 outM
      ∗ owesE (F := F) 0 ((debts 0).drop 9)
      ∗ at0 (F := F) 0 (.dma q6)
      ∗ pass (F := F) 0 (.dma q6) (amt q6.val)
      ∗ at0 (F := F) 0 (.dma q7)
      ∗ pass (F := F) 0 (.dma q7) (amt q7.val)
      ∗ at0 (F := F) 0 (.dma q9)
      ∗ pass (F := F) 0 (.dma q9) (amt q9.val)
      ∗ at0 (F := F) 0 (.dma q10)
      ∗ pass (F := F) 0 (.dma q10) (amt q10.val)
      ∗ at0 (F := F) 0 (.dma q8)
      ∗ pass (F := F) 0 (.dma q8) (amt q8.val)
      ∗ at0 (F := F) 0 (.dma q11)
      ∗ pass (F := F) 0 (.dma q11) (amt q11.val))
      ⊢ iprop((owesE (F := F) 0 ((debts 0).drop 9)
          ∗ Pt 0 woM fullShare (woIn m 0)
          ∗ Pt 0 outM fullShare (outV m 0)
          ∗ Pt 0 aTop fullShare.left (accS m 0)
          ∗ fin0 (F := F) 0 (.dma q6)
          ∗ Pt 0 aBot fullShare.left (accS m 0)
          ∗ fin0 (F := F) 0 (.dma q7)
          ∗ Pt 0 aBot fullShare.right (accS m 0)
          ∗ fin0 (F := F) 0 (.dma q9)
          ∗ Pt 0 aTop fullShare.right (accS m 0)
          ∗ fin0 (F := F) 0 (.dma q10)
          ∗ Pt 0 lM fullShare.left (lT m 0)
          ∗ fin0 (F := F) 0 (.dma q8)
          ∗ Pt 0 lM fullShare.right (lT m 0)
          ∗ fin0 (F := F) 0 (.dma q11)
          -∗ Q 3#32)
        -∗ Wp 0 (p31 (F := F) 0#32 (totA m 0) (totL m 0) (k0_pay72 (totA m 0)) (k0_pay73 (totL m 0))) Q) := by
  simp only [p31, k0_part31_eq_skeleton]; unfold k0_part31_skel
  have h9 : (Scalar.cmpi .ne (Scalar.extui (Scalar.cmpi .eq 0#32 0#32) : BitVec 32) 0#32 = 1#1) := by decide
  have h10 : ¬ (Scalar.cmpi .ne (Scalar.extui (Scalar.cmpi .eq 0#32 1#32) : BitVec 32) 0#32 = 1#1) := by decide
  have h11 : ¬ (Scalar.cmpi .ne (Scalar.extui (Scalar.cmpi .eq 0#32 2#32) : BitVec 32) 0#32 = 1#1) := by decide
  simp only [dif_pos h9, dif_neg h10, dif_neg h11]
  simp only [k0_part16_eq_skeleton]
  unfold k0_part16_skel
  simp only [semSignalWord, semWaitWord, Prog.lift, Prog.bind_op, Prog.bind_ret, Prog.pure_eq_ret]
  iintro ⟨#HE, HW, Y_outM, O, A6, P6, A7, P7, A9, P9, A10, P10, A8, P8, A11, P11⟩ HQ
  iapply (ldE 0 woM (woIn m 0) (Memref.readAt_unit_zero (Elt F) cc0_stg4_0 zero2 _ _)) $$ HW; iintro HW
  unfold Any; icases Y_outM with ⟨%fo, HO⟩
  iapply (ldE 0 outM fo (Memref.readAt_unit_zero (Elt F) cc0_stg5_0 zero2 _ _)) $$ HO; iintro HO
  iapply (stE 0 outM (outV m 0) (Memref.write_access_unit_zero_univ (Elt F) cc0_stg5_0 zero2 _ _ _)) $$ HO; iintro HO
  show Entails' (PROP := sProp 𝕄) _ (Wp 0 (.op (.waitDma2 q6 _ aTop _ _) _) Q)
  iapply (waitD 0 q6 ((debts 0).drop 9) (dst := aTop) (by decide) rfl (by decide) rfl) $$ HE A6 P6 O; iintro Xtl Z6 O
  ihave Xtl := (Entails.of_eq (show dmaPay m 0 q6.val = Pt 0 aTop fullShare.left (accS m 0) from rfl)) $$ Xtl
  show Entails' (PROP := sProp 𝕄) _ (Wp 0 (.op (.waitDma2 q7 _ aBot _ _) _) Q)
  iapply (waitD 0 q7 ((debts 0).drop 9) (dst := aBot) (by decide) rfl (by decide) rfl) $$ HE A7 P7 O; iintro Xbl Z7 O
  ihave Xbl := (Entails.of_eq (show dmaPay m 0 q7.val = Pt 0 aBot fullShare.left (accS m 0) from rfl)) $$ Xbl
  show Entails' (PROP := sProp 𝕄) _ (Wp 0 (.op (.waitDma2 q9 _ aBot _ _) _) Q)
  iapply (waitD 0 q9 ((debts 0).drop 9) (dst := aBot) (by decide) rfl (by decide) rfl) $$ HE A9 P9 O; iintro Xbr Z9 O
  ihave Xbr := (Entails.of_eq (show dmaPay m 0 q9.val = Pt 0 aBot fullShare.right (accS m 0) from rfl)) $$ Xbr
  show Entails' (PROP := sProp 𝕄) _ (Wp 0 (.op (.waitDma2 q10 _ aTop _ _) _) Q)
  iapply (waitD 0 q10 ((debts 0).drop 9) (dst := aTop) (by decide) rfl (by decide) rfl) $$ HE A10 P10 O; iintro Xtr Z10 O
  ihave Xtr := (Entails.of_eq (show dmaPay m 0 q10.val = Pt 0 aTop fullShare.right (accS m 0) from rfl)) $$ Xtr
  show Entails' (PROP := sProp 𝕄) _ (Wp 0 (.op (.waitDma2 q8 _ lM _ _) _) Q)
  iapply (waitD 0 q8 ((debts 0).drop 9) (dst := lM) (by decide) rfl (by decide) rfl) $$ HE A8 P8 O; iintro HLl Z8 O
  ihave HLl := (Entails.of_eq (show dmaPay m 0 q8.val = Pt 0 lM fullShare.left (lT m 0) from rfl)) $$ HLl
  show Entails' (PROP := sProp 𝕄) _ (Wp 0 (.op (.waitDma2 q11 _ lM _ _) _) Q)
  iapply (waitD 0 q11 ((debts 0).drop 9) (dst := lM) (by decide) rfl (by decide) rfl) $$ HE A11 P11 O; iintro HLr Z11 O
  ihave HLr := (Entails.of_eq (show dmaPay m 0 q11.val = Pt 0 lM fullShare.right (lT m 0) from rfl)) $$ HLr
  iapply retW
  iapply HQ
  iframe O HW HO Xtl Z6 Xbl Z7 Xbr Z9 Xtr Z10 HLl Z8 HLr Z11

end Cert.RunI

end
-- ==== Proof.RunI.Role0p32.lean ====
/-
# Device 0
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 0 signals two peers that it is about to leave. -/
theorem r0_32 {K : Dev nD × Fin 41 → ℕ} {Q : _ → sProp 𝕄} :
    iprop(env m K ∗ owesE (F := F) 0 ((debts 0).drop 9)
      ∗ tok (F := F) 1 (.reg exitS) 0
      ∗ tok (F := F) 2 (.reg exitS) 0)
      ⊢ iprop((owesE (F := F) 0 ((debts 0).drop 11)
          -∗ Q ⟨Scalar.addi 0#32 3#32, Scalar.select (Scalar.cmpi .eq 4#32 0#32) 1#32 4#32⟩)
        -∗ Wp 0 (p32 (F := F) 0 0#32 3#32) Q) := by
  simp only [p32, k0_part32_eq_skeleton]; unfold k0_part32_skel
  have h12 : ¬ (Scalar.cmpi .ne (Scalar.extui (Scalar.cmpi .eq 0#32 3#32) : BitVec 32) 0#32 = 1#1) := by decide
  simp only [dif_neg h12]
  simp only [semSignalWord, semWaitWord, Prog.lift, Prog.bind_op, Prog.bind_ret, Prog.pure_eq_ret]
  iintro ⟨#HE, O, Ke1, Ke2⟩ HQ
  ihave O := (Entails.of_eq (show owesE (F := F) 0 ((debts 0).drop 9) = owesE 0 ((1, .reg exitS, 1) :: (debts 0).drop 10) from rfl)) $$ O
  iapply (sigR 0 1 ⟨k0_dev37 0, k0_dev37_lt 0⟩ (by decide) exitS ((debts 0).drop 10) (by decide)) $$ HE Ke1 [] O
  · unfold regPay; rw [if_neg (by decide)]; iempintro
  iintro O
  ihave O := (Entails.of_eq (show owesE (F := F) 0 ((debts 0).drop 10) = owesE 0 ((2, .reg exitS, 1) :: (debts 0).drop 11) from rfl)) $$ O
  iapply (sigR 0 2 ⟨k0_dev38 0, k0_dev38_lt 0⟩ (by decide) exitS ((debts 0).drop 11) (by decide)) $$ HE Ke2 [] O
  · unfold regPay; rw [if_neg (by decide)]; iempintro
  iintro O
  iapply retW
  iapply HQ
  iframe O

end Cert.RunI

end
-- ==== Proof.RunI.Role0pend.lean ====
/-
# Device 0
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 0 sends its last exit signal and waits for its peers' three; it ends with every semaphore done and its buffers back. -/
theorem r0_end {K : Dev nD × Fin 41 → ℕ} {Q : PUnit → sProp 𝕄} :
    iprop(env m K ∗ owesE (F := F) 0 ((debts 0).drop 11)
      ∗ tok (F := F) 3 (.reg exitS) 0
      ∗ at0 (F := F) 0 (.reg exitS)
      ∗ pass (F := F) 0 (.reg exitS) 3
      ∗ Pt 0 aTop fullShare.left (accS m 0)
      ∗ Pt 0 aTop fullShare.right (accS m 0)
      ∗ Pt 0 aBot fullShare.left (accS m 0)
      ∗ Pt 0 aBot fullShare.right (accS m 0)
      ∗ Pt 0 lM fullShare.left (lT m 0)
      ∗ Pt 0 lM fullShare.right (lT m 0)
      ∗ Pt 0 tM fullShare (totA m 0)
      ∗ Pt 0 uM fullShare (totL m 0)
      ∗ Pt 0 s1 fullShare (stripA m)
      ∗ Pt 0 sB fullShare (stripA m)
      ∗ Pt 0 s2 fullShare (stripA m)
      ∗ Pt 0 s3 fullShare (stripA m)
      ∗ Pt 0 sl1 fullShare (stripL m)
      ∗ Pt 0 slB fullShare (stripL m)
      ∗ Pt 0 sl2 fullShare (stripL m)
      ∗ Pt 0 sl3 fullShare (stripL m)
      ∗ restS (F := F) 0
      ∗ restSL (F := F) 0
      ∗ at0 (F := F) 0 (.dma q12)
      ∗ at0 (F := F) 0 (.dma q13)
      ∗ at0 (F := F) 0 (.dma q14)
      ∗ at0 (F := F) 0 (.dma q15)
      ∗ at0 (F := F) 0 (.dma q16)
      ∗ at0 (F := F) 0 (.dma q17)
      ∗ at0 (F := F) 0 (.dma q18)
      ∗ at0 (F := F) 0 (.dma q19)
      ∗ at0 (F := F) 0 (.dma q20)
      ∗ at0 (F := F) 0 (.dma q21)
      ∗ at0 (F := F) 0 (.dma q22)
      ∗ at0 (F := F) 0 (.dma q23)
      ∗ at0 (F := F) 0 (.dma q24)
      ∗ at0 (F := F) 0 (.dma q25)
      ∗ at0 (F := F) 0 (.dma q26)
      ∗ at0 (F := F) 0 (.dma q27)
      ∗ at0 (F := F) 0 (.dma q28)
      ∗ at0 (F := F) 0 (.dma q29)
      ∗ at0 (F := F) 0 (.dma q30)
      ∗ at0 (F := F) 0 (.dma q31)
      ∗ at0 (F := F) 0 (.dma q32)
      ∗ at0 (F := F) 0 (.dma q38)
      ∗ at0 (F := F) 0 (.dma q40)
      ∗ at0 (F := F) 0 (.dma q42)
      ∗ at0 (F := F) 0 (.dma q44))
      ⊢ iprop((owesE (F := F) 0 ((debts 0).drop 12)
          ∗ fin0 (F := F) 0 (.reg exitS)
          ∗ Any (F := F) 0 aM
          ∗ Any (F := F) 0 lM
          ∗ Any (F := F) 0 tM
          ∗ Any (F := F) 0 uM
          ∗ Any (F := F) 0 saM
          ∗ Any (F := F) 0 slM
          ∗ fin0 (F := F) 0 (.dma q12)
          ∗ fin0 (F := F) 0 (.dma q13)
          ∗ fin0 (F := F) 0 (.dma q14)
          ∗ fin0 (F := F) 0 (.dma q15)
          ∗ fin0 (F := F) 0 (.dma q16)
          ∗ fin0 (F := F) 0 (.dma q17)
          ∗ fin0 (F := F) 0 (.dma q18)
          ∗ fin0 (F := F) 0 (.dma q19)
          ∗ fin0 (F := F) 0 (.dma q20)
          ∗ fin0 (F := F) 0 (.dma q21)
          ∗ fin0 (F := F) 0 (.dma q22)
          ∗ fin0 (F := F) 0 (.dma q23)
          ∗ fin0 (F := F) 0 (.dma q24)
          ∗ fin0 (F := F) 0 (.dma q25)
          ∗ fin0 (F := F) 0 (.dma q26)
          ∗ fin0 (F := F) 0 (.dma q27)
          ∗ fin0 (F := F) 0 (.dma q28)
          ∗ fin0 (F := F) 0 (.dma q29)
          ∗ fin0 (F := F) 0 (.dma q30)
          ∗ fin0 (F := F) 0 (.dma q31)
          ∗ fin0 (F := F) 0 (.dma q32)
          ∗ fin0 (F := F) 0 (.dma q38)
          ∗ fin0 (F := F) 0 (.dma q40)
          ∗ fin0 (F := F) 0 (.dma q42)
          ∗ fin0 (F := F) 0 (.dma q44)
          -∗ Q ⟨⟩)
        -∗ Wp 0 (.op (.semSignal ((⟨k0_dev39 0, k0_dev39_lt 0⟩ : Dev nD) : Thread nD τ) exitS 1) fun _ => .op (.semWait exitS 3) fun _ => .ret ⟨⟩) Q) := by
  iintro ⟨#HE, O, Ke3, Ae, Pe, Xtl, Xtr, Xbl, Xbr, HLl, HLr, HT, HU, W_s1, W_sB, W_s2, W_s3, W_sl1, W_slB, W_sl2, W_sl3, Rs, Rl, A12, A13, A14, A15, A16, A17, A18, A19, A20, A21, A22, A23, A24, A25, A26, A27, A28, A29, A30, A31, A32, A38, A40, A42, A44⟩ HQ
  ihave O := (Entails.of_eq (show owesE (F := F) 0 ((debts 0).drop 11) = owesE 0 ((3, .reg exitS, 1) :: (debts 0).drop 12) from rfl)) $$ O
  iapply (sigR 0 3 ⟨k0_dev39 0, k0_dev39_lt 0⟩ (by decide) exitS ((debts 0).drop 12) (by decide)) $$ HE Ke3 [] O
  · unfold regPay; rw [if_neg (by decide)]; iempintro
  iintro O
  iapply (waitR 0 exitS ((debts 0).drop 12) (by decide)) $$ HE Ae Pe O; iintro - Ze O
  ihave HH := (share2 0 aTop fullShare (accS m 0)).2 $$ [Xtl Xtr]
  · iframe Xtl Xtr
  irename HH => Xt
  ihave HH := (share2 0 aBot fullShare (accS m 0)).2 $$ [Xbl Xbr]
  · iframe Xbl Xbr
  irename HH => Xb
  ihave HH := (share2 0 lM fullShare (lT m 0)).2 $$ [HLl HLr]
  · iframe HLl HLr
  irename HH => HL
  ihave HH := (halvesA 0 fullShare (accS m 0)).2 $$ [Xt Xb]
  · iframe Xt Xb
  irename HH => HA
  ihave Y_aM := (toAny 0 aM (accS m 0)) $$ HA
  ihave Y_lM := (toAny 0 lM (lT m 0)) $$ HL
  ihave Y_tM := (toAny 0 tM (totA m 0)) $$ HT
  ihave Y_uM := (toAny 0 uM (totL m 0)) $$ HU
  ihave Y0_s1 := (toAny 0 s1 (stripA m)) $$ W_s1
  ihave Y0_sB := (toAny 0 sB (stripA m)) $$ W_sB
  ihave Y0_s2 := (toAny 0 s2 (stripA m)) $$ W_s2
  ihave Y0_s3 := (toAny 0 s3 (stripA m)) $$ W_s3
  ihave Y0_sl1 := (toAny 0 sl1 (stripL m)) $$ W_sl1
  ihave Y0_slB := (toAny 0 slB (stripL m)) $$ W_slB
  ihave Y0_sl2 := (toAny 0 sl2 (stripL m)) $$ W_sl2
  ihave Y0_sl3 := (toAny 0 sl3 (stripL m)) $$ W_sl3
  ihave HH := (slots (F := F) 0).2 $$ [Y0_s1 Y0_sB Y0_s2 Y0_s3 Rs]
  · iframe Y0_s1 Y0_sB Y0_s2 Y0_s3 Rs
  irename HH => Y_saM
  ihave HH := (slotsL (F := F) 0).2 $$ [Y0_sl1 Y0_slB Y0_sl2 Y0_sl3 Rl]
  · iframe Y0_sl1 Y0_slB Y0_sl2 Y0_sl3 Rl
  irename HH => Y_slM
  imod (close0 0 q12 (by decide) rfl) $$ HE A12 with Z12
  imod (close0 0 q13 (by decide) rfl) $$ HE A13 with Z13
  imod (close0 0 q14 (by decide) rfl) $$ HE A14 with Z14
  imod (close0 0 q15 (by decide) rfl) $$ HE A15 with Z15
  imod (close0 0 q16 (by decide) rfl) $$ HE A16 with Z16
  imod (close0 0 q17 (by decide) rfl) $$ HE A17 with Z17
  imod (close0 0 q18 (by decide) rfl) $$ HE A18 with Z18
  imod (close0 0 q19 (by decide) rfl) $$ HE A19 with Z19
  imod (close0 0 q20 (by decide) rfl) $$ HE A20 with Z20
  imod (close0 0 q21 (by decide) rfl) $$ HE A21 with Z21
  imod (close0 0 q22 (by decide) rfl) $$ HE A22 with Z22
  imod (close0 0 q23 (by decide) rfl) $$ HE A23 with Z23
  imod (close0 0 q24 (by decide) rfl) $$ HE A24 with Z24
  imod (close0 0 q25 (by decide) rfl) $$ HE A25 with Z25
  imod (close0 0 q26 (by decide) rfl) $$ HE A26 with Z26
  imod (close0 0 q27 (by decide) rfl) $$ HE A27 with Z27
  imod (close0 0 q28 (by decide) rfl) $$ HE A28 with Z28
  imod (close0 0 q29 (by decide) rfl) $$ HE A29 with Z29
  imod (close0 0 q30 (by decide) rfl) $$ HE A30 with Z30
  imod (close0 0 q31 (by decide) rfl) $$ HE A31 with Z31
  imod (close0 0 q32 (by decide) rfl) $$ HE A32 with Z32
  imod (close0 0 q38 (by decide) rfl) $$ HE A38 with Z38
  imod (close0 0 q40 (by decide) rfl) $$ HE A40 with Z40
  imod (close0 0 q42 (by decide) rfl) $$ HE A42 with Z42
  imod (close0 0 q44 (by decide) rfl) $$ HE A44 with Z44
  iapply retW
  iapply HQ
  iframe O Ze Y_aM Y_lM Y_tM Y_uM Y_saM Y_slM Z12 Z13 Z14 Z15 Z16 Z17 Z18 Z19 Z20 Z21 Z22 Z23 Z24 Z25 Z26 Z27 Z28 Z29 Z30 Z31 Z32 Z38 Z40 Z42 Z44

end Cert.RunI

end
-- ==== Proof.RunI.Tail0.lean ====
/-
# Device 0: the end of its program
-/
module

public import proofs.«01_k».proof.Proof.RunI.Tail
public import proofs.«01_k».proof.Proof.RunI.Role0p29
public import proofs.«01_k».proof.Proof.RunI.Role0p30
public import proofs.«01_k».proof.Proof.RunI.Role0p31
public import proofs.«01_k».proof.Proof.RunI.Role0p32
public import proofs.«01_k».proof.Proof.RunI.Role0pend

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The waits that device 0 is to be paid for, one by one. -/
theorem passes0 : (bigSepL (passes 0) fun x => pass (F := F) 0 x.1 x.2) = iprop(pass (F := F) 0 (.reg barS) 3 ∗ pass (F := F) 0 (.reg exitS) 3 ∗ pass (F := F) 0 (.dma q33) (amt q33.val) ∗ pass (F := F) 0 (.dma q34) (amt q34.val) ∗ pass (F := F) 0 (.dma q35) (amt q35.val) ∗ pass (F := F) 0 (.dma q36) (amt q36.val) ∗ pass (F := F) 0 (.dma q37) (amt q37.val) ∗ pass (F := F) 0 (.dma q39) (amt q39.val) ∗ pass (F := F) 0 (.dma q41) (amt q41.val) ∗ pass (F := F) 0 (.dma q43) (amt q43.val)) := rfl
/-- The duties that device 0 is to pay, one by one. -/
theorem toks0 : (bigSepL (toks 0) fun x => tok (F := F) x.1 x.2.1 x.2.2) = iprop(tok (F := F) 1 (.reg barS) 0 ∗ tok (F := F) 2 (.reg barS) 0 ∗ tok (F := F) 3 (.reg barS) 0 ∗ tok (F := F) 1 (.reg exitS) 0 ∗ tok (F := F) 2 (.reg exitS) 0 ∗ tok (F := F) 3 (.reg exitS) 0 ∗ tok (F := F) 0 (.dma q6) 0 ∗ tok (F := F) 1 (.dma q12) 0 ∗ tok (F := F) 0 (.dma q9) 0 ∗ tok (F := F) 3 (.dma q13) 0 ∗ tok (F := F) 0 (.dma q7) 0 ∗ tok (F := F) 1 (.dma q13) 0 ∗ tok (F := F) 0 (.dma q10) 0 ∗ tok (F := F) 3 (.dma q12) 0 ∗ tok (F := F) 0 (.dma q8) 0 ∗ tok (F := F) 1 (.dma q14) 0 ∗ tok (F := F) 0 (.dma q11) 0 ∗ tok (F := F) 3 (.dma q14) 0) := rfl

set_option maxHeartbeats 3200000

/-- The whole exchange on device 0, from its own sums to its result. -/
theorem tail0 {K : Dev nD × Fin 41 → ℕ} {v237 v238 : BitVec 32} {v239 v240 : BitVec 1} {Q : PUnit → sProp 𝕄} :
    iprop(env m K ∗ Mid m 0) ⊢ iprop((Done m 0 -∗ Q ⟨⟩)
      -∗ Wp 0 (tailP (F := F) 0 0#32 (SemArray.scalar (sig.barrier 0 rfl)) v237 v238 v239 v240) Q) := by
  unfold tailP Mid Ghost Done Closed
  rw [cells_at, cells_at, passes0, toks0]
  simp only [semSignalWord, semWaitWord, Prog.lift, Prog.bind_op, Prog.bind_ret, Prog.pure_eq_ret]
  simp only [wp_bind]
  iintro ⟨#HE, ⟨⟨Ab, A6, A7, A8, A9, A10, A11, A12, A13, A14, A15, A16, A17, A18, A19, A20, A21, A22, A23, A24, A25, A26, A27, A28, A29, A30, A31, A32, A33, A34, A35, A36, A37, A38, A39, A40, A41, A42, A43, A44, Ae⟩, ⟨Pb, Pe, P33, P34, P35, P36, P37, P39, P41, P43⟩, ⟨Kb1, Kb2, Kb3, Ke1, Ke2, Ke3, K6, R1_12, K9, R3_13, K7, R1_13, K10, R3_12, K8, R1_14, K11, R3_14⟩, O⟩, HW, Y_outM, HT, HU, HA, HL, Y_baM, Y_blM, Y_saM, Y_slM⟩ HQ
  ihave O := (Entails.of_eq (show owesE (F := F) 0 (debts 0) = owesE (F := F) 0 ((debts 0).drop 0) from rfl)) $$ O
  iapply (r0_29 m) $$ [Y_saM Y_slM O Kb1 Kb2 Kb3]
  · iframe HE Y_saM Y_slM O Kb1 Kb2 Kb3
  iintro ⟨O, Rs, Rl⟩
  iapply (r0_30 m) $$ [O Ab Pb HA HL K6 R1_12 K9 R3_13 K7 R1_13 K10 R3_12 K8 R1_14 K11 R3_14 A33 P33 A35 P35 HT HU A34 P34 A36 P36 A37 P37 A39 P39 A41 P41 A43 P43]
  · iframe HE O Ab Pb HA HL K6 R1_12 K9 R3_13 K7 R1_13 K10 R3_12 K8 R1_14 K11 R3_14 A33 P33 A35 P35 HT HU A34 P34 A36 P36 A37 P37 A39 P39 A41 P41 A43 P43
  iintro ⟨O, HT, HU, Zb, P6, P9, P7, P10, P8, P11, W_s1, Z33, W_sl1, Z35, W_sB, Z34, W_slB, Z36, W_s2, Z37, W_sl2, Z39, W_s3, Z41, W_sl3, Z43⟩
  iapply (r0_31 m) $$ [HW Y_outM O A6 P6 A7 P7 A9 P9 A10 P10 A8 P8 A11 P11]
  · iframe HE HW Y_outM O A6 P6 A7 P7 A9 P9 A10 P10 A8 P8 A11 P11
  iintro ⟨O, HW, HO, Xtl, Z6, Xbl, Z7, Xbr, Z9, Xtr, Z10, HLl, Z8, HLr, Z11⟩
  iapply (r0_32 m) $$ [O Ke1 Ke2]
  · iframe HE O Ke1 Ke2
  iintro O
  iapply (r0_end m) $$ [O Ke3 Ae Pe Xtl Xtr Xbl Xbr HLl HLr HT HU W_s1 W_sB W_s2 W_s3 W_sl1 W_slB W_sl2 W_sl3 Rs Rl A12 A13 A14 A15 A16 A17 A18 A19 A20 A21 A22 A23 A24 A25 A26 A27 A28 A29 A30 A31 A32 A38 A40 A42 A44]
  · iframe HE O Ke3 Ae Pe Xtl Xtr Xbl Xbr HLl HLr HT HU W_s1 W_sB W_s2 W_s3 W_sl1 W_slB W_sl2 W_sl3 Rs Rl A12 A13 A14 A15 A16 A17 A18 A19 A20 A21 A22 A23 A24 A25 A26 A27 A28 A29 A30 A31 A32 A38 A40 A42 A44
  iintro ⟨O, Ze, Y_aM, Y_lM, Y_tM, Y_uM, Y_saM, Y_slM, Z12, Z13, Z14, Z15, Z16, Z17, Z18, Z19, Z20, Z21, Z22, Z23, Z24, Z25, Z26, Z27, Z28, Z29, Z30, Z31, Z32, Z38, Z40, Z42, Z44⟩
  iapply HQ
  isplitl [Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze O]
  · isplitl [Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze]
    · iframe Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze
    · iapply (Entails.of_eq (show owesE (F := F) 0 ((debts 0).drop 12) = owesE (F := F) 0 [] from rfl)); iexact O
  · iframe HW HO Y_aM Y_lM Y_baM Y_blM Y_saM Y_slM Y_tM Y_uM

end Cert.RunI

end
-- ==== Proof.RunI.Role1p29.lean ====
/-
# Device 1
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 1 signals its three peers, handing each the regions that it may write. -/
theorem r1_29 {v2 v237 v238 : BitVec 32} {v239 v240 : BitVec 1} {K : Dev nD × Fin 41 → ℕ} {Q : _ → sProp 𝕄} :
    iprop(env m K ∗ Any (F := F) 1 saM
      ∗ Any (F := F) 1 slM
      ∗ Any (F := F) 1 baM
      ∗ Any (F := F) 1 blM
      ∗ owesE (F := F) 1 ((debts 1).drop 0)
      ∗ tok (F := F) 2 (.reg barS) 1
      ∗ tok (F := F) 3 (.reg barS) 1
      ∗ tok (F := F) 0 (.reg barS) 1)
      ⊢ iprop((owesE (F := F) 1 ((debts 1).drop 3)
          ∗ Any (F := F) 1 s1
          ∗ Any (F := F) 1 sB
          ∗ restS (F := F) 1
          ∗ Any (F := F) 1 sl1
          ∗ Any (F := F) 1 slB
          ∗ restSL (F := F) 1
          -∗ Q ⟨⟩)
        -∗ Wp 1 (p29 (F := F) 1 v2 (SemArray.scalar (sig.barrier 0 rfl)) v237 v238 v239 v240) Q) := by
  simp only [p29, k0_part29_eq_skeleton]; unfold k0_part29_skel
  simp only [semSignalWord, semWaitWord, Prog.lift, Prog.bind_op, Prog.bind_ret, Prog.pure_eq_ret]
  iintro ⟨#HE, Y_saM, Y_slM, Y_baM, Y_blM, O, Kb2, Kb3, Kb0⟩ HQ
  ihave HH := (slots (F := F) 1).1 $$ Y_saM
  icases HH with ⟨Y1_s1, Y1_sB, Y1_s2, Y1_s3, Rs⟩
  ihave HH := (slotsL (F := F) 1).1 $$ Y_slM
  icases HH with ⟨Y1_sl1, Y1_slB, Y1_sl2, Y1_sl3, Rl⟩
  ihave HH := (halvesAnyB (F := F) 1).1 $$ Y_baM
  icases HH with ⟨Y1_bTop, Y1_bBot⟩
  irename Y_blM => Y1_blM
  ihave O := (Entails.of_eq (show owesE (F := F) 1 ((debts 1).drop 0) = owesE 1 ((2, .reg barS, 1) :: (debts 1).drop 1) from rfl)) $$ O
  iapply (sigR 1 2 ⟨k0_dev1 1, k0_dev1_lt 1⟩ (by decide) barS ((debts 1).drop 1) (by decide)) $$ HE Kb2 [Y1_s2 Y1_sl2] O
  · iapply (Entails.of_eq (pay_2_1 (F := F)).symm); iframe Y1_s2 Y1_sl2
  iintro O
  ihave O := (Entails.of_eq (show owesE (F := F) 1 ((debts 1).drop 1) = owesE 1 ((3, .reg barS, 1) :: (debts 1).drop 2) from rfl)) $$ O
  iapply (sigR 1 3 ⟨k0_dev2 1, k0_dev2_lt 1⟩ (by decide) barS ((debts 1).drop 2) (by decide)) $$ HE Kb3 [Y1_s3 Y1_sl3] O
  · iapply (Entails.of_eq (pay_3_1 (F := F)).symm); iframe Y1_s3 Y1_sl3
  iintro O
  ihave O := (Entails.of_eq (show owesE (F := F) 1 ((debts 1).drop 2) = owesE 1 ((0, .reg barS, 1) :: (debts 1).drop 3) from rfl)) $$ O
  iapply (sigR 1 0 ⟨k0_dev3 1, k0_dev3_lt 1⟩ (by decide) barS ((debts 1).drop 3) (by decide)) $$ HE Kb0 [Y1_bTop Y1_bBot Y1_blM] O
  · iapply (Entails.of_eq (pay_0_1 (F := F)).symm); iframe Y1_bTop Y1_bBot Y1_blM
  iintro O
  iapply retW
  iapply HQ
  iframe O Y1_s1 Y1_sB Rs Y1_sl1 Y1_slB Rl

end Cert.RunI

end
-- ==== Proof.RunI.Role1p30.lean ====
/-
# Device 1
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 1 takes its three peers' barrier units, starts its transfers and adds what it is sent, up to its totals. -/
theorem r1_30 {K : Dev nD × Fin 41 → ℕ} {Q : _ → sProp 𝕄} :
    iprop(env m K ∗ owesE (F := F) 1 ((debts 1).drop 3)
      ∗ at0 (F := F) 1 (.reg barS)
      ∗ pass (F := F) 1 (.reg barS) 3
      ∗ Pt 1 aM fullShare (accS m 1)
      ∗ Pt 1 lM fullShare (lT m 1)
      ∗ tok (F := F) 1 (.dma q17) 0
      ∗ tok (F := F) 0 (.dma q33) 0
      ∗ tok (F := F) 1 (.dma q19) 0
      ∗ tok (F := F) 0 (.dma q35) 0
      ∗ tok (F := F) 1 (.dma q18) 0
      ∗ tok (F := F) 0 (.dma q34) 0
      ∗ tok (F := F) 1 (.dma q20) 0
      ∗ tok (F := F) 0 (.dma q36) 0
      ∗ tok (F := F) 1 (.dma q21) 0
      ∗ tok (F := F) 2 (.dma q33) 0
      ∗ tok (F := F) 1 (.dma q23) 0
      ∗ tok (F := F) 2 (.dma q35) 0
      ∗ tok (F := F) 1 (.dma q22) 0
      ∗ tok (F := F) 2 (.dma q34) 0
      ∗ tok (F := F) 1 (.dma q24) 0
      ∗ tok (F := F) 2 (.dma q36) 0
      ∗ tok (F := F) 1 (.dma q25) 0
      ∗ tok (F := F) 3 (.dma q33) 0
      ∗ tok (F := F) 1 (.dma q27) 0
      ∗ tok (F := F) 3 (.dma q35) 0
      ∗ tok (F := F) 1 (.dma q26) 0
      ∗ tok (F := F) 3 (.dma q34) 0
      ∗ tok (F := F) 1 (.dma q28) 0
      ∗ tok (F := F) 3 (.dma q36) 0
      ∗ at0 (F := F) 1 (.dma q12)
      ∗ pass (F := F) 1 (.dma q12) (amt q12.val)
      ∗ tok (F := F) 1 (.dma q15) 0
      ∗ tok (F := F) 2 (.dma q12) 0
      ∗ at0 (F := F) 1 (.dma q14)
      ∗ pass (F := F) 1 (.dma q14) (amt q14.val)
      ∗ tok (F := F) 1 (.dma q16) 0
      ∗ tok (F := F) 2 (.dma q14) 0
      ∗ at0 (F := F) 1 (.dma q13)
      ∗ pass (F := F) 1 (.dma q13) (amt q13.val)
      ∗ Pt 1 tM fullShare (accT m 1)
      ∗ Pt 1 uM fullShare (lT m 1)
      ∗ at0 (F := F) 1 (.dma q37)
      ∗ pass (F := F) 1 (.dma q37) (amt q37.val)
      ∗ at0 (F := F) 1 (.dma q39)
      ∗ pass (F := F) 1 (.dma q39) (amt q39.val)
      ∗ at0 (F := F) 1 (.dma q41)
      ∗ pass (F := F) 1 (.dma q41) (amt q41.val)
      ∗ at0 (F := F) 1 (.dma q43)
      ∗ pass (F := F) 1 (.dma q43) (amt q43.val))
      ⊢ iprop((owesE (F := F) 1 ((debts 1).drop 17)
          ∗ Pt 1 tM fullShare (totA m 1)
          ∗ Pt 1 uM fullShare (totL m 1)
          ∗ fin0 (F := F) 1 (.reg barS)
          ∗ restA 1 (accS m 1)
          ∗ restL 1 (lT m 1)
          ∗ pass (F := F) 1 (.dma q17) (amt q17.val)
          ∗ pass (F := F) 1 (.dma q19) (amt q19.val)
          ∗ pass (F := F) 1 (.dma q18) (amt q18.val)
          ∗ pass (F := F) 1 (.dma q20) (amt q20.val)
          ∗ pass (F := F) 1 (.dma q21) (amt q21.val)
          ∗ pass (F := F) 1 (.dma q23) (amt q23.val)
          ∗ pass (F := F) 1 (.dma q22) (amt q22.val)
          ∗ pass (F := F) 1 (.dma q24) (amt q24.val)
          ∗ pass (F := F) 1 (.dma q25) (amt q25.val)
          ∗ pass (F := F) 1 (.dma q27) (amt q27.val)
          ∗ pass (F := F) 1 (.dma q26) (amt q26.val)
          ∗ pass (F := F) 1 (.dma q28) (amt q28.val)
          ∗ fin0 (F := F) 1 (.dma q12)
          ∗ pass (F := F) 1 (.dma q15) (amt q15.val)
          ∗ fin0 (F := F) 1 (.dma q14)
          ∗ Pt 1 blM fullShare.right (lT m 0)
          ∗ pass (F := F) 1 (.dma q16) (amt q16.val)
          ∗ fin0 (F := F) 1 (.dma q13)
          ∗ Pt 1 bBot fullShare.left (accS m 0)
          ∗ Pt 1 bTop fullShare.right (accS m 0)
          ∗ Pt 1 bBot fullShare.right (accS m 0)
          ∗ Pt 1 s2 fullShare (stripA m)
          ∗ fin0 (F := F) 1 (.dma q37)
          ∗ Pt 1 sl2 fullShare (stripL m)
          ∗ fin0 (F := F) 1 (.dma q39)
          ∗ Pt 1 s3 fullShare (stripA m)
          ∗ fin0 (F := F) 1 (.dma q41)
          ∗ Pt 1 sl3 fullShare (stripL m)
          ∗ fin0 (F := F) 1 (.dma q43)
          -∗ Q ⟨totA m 1, totL m 1, k0_pay72 (totA m 1), k0_pay73 (totL m 1)⟩)
        -∗ Wp 1 (p30 (F := F) 1 1#32 (SemArray.scalar (sig.barrier 0 rfl))) Q) := by
  simp only [p30, k0_part30_eq_skeleton]; unfold k0_part30_skel
  have h1 : ¬ (k0_cond1 1 = 1#1) := by decide
  have h2 : (k0_cond2 1 = 1#1) := by decide
  have h3 : ¬ (k0_cond3 1 = 1#1) := by decide
  have h4 : ¬ (k0_cond4 1 = 1#1) := by decide
  have h5 : (Scalar.cmpi .ne (Scalar.extui (Scalar.cmpi .ne 1#32 0#32) : BitVec 32) 0#32 = 1#1) := by decide
  have h6 : ¬ (Scalar.cmpi .ne (Scalar.extui (Scalar.cmpi .ne 1#32 1#32) : BitVec 32) 0#32 = 1#1) := by decide
  have h7 : (Scalar.cmpi .ne (Scalar.extui (Scalar.cmpi .ne 1#32 2#32) : BitVec 32) 0#32 = 1#1) := by decide
  have h8 : (Scalar.cmpi .ne (Scalar.extui (Scalar.cmpi .ne 1#32 3#32) : BitVec 32) 0#32 = 1#1) := by decide
  simp only [dif_neg h1, dif_pos h2, dif_neg h3, dif_neg h4, dif_pos h5, dif_neg h6, dif_pos h7, dif_pos h8]
  simp only [k0_part2_eq_skeleton, k0_part3_eq_skeleton, k0_part4_eq_skeleton, k0_part5_eq_skeleton, k0_part6_eq_skeleton, k0_part14_eq_skeleton, k0_part15_eq_skeleton]
  unfold k0_part2_skel k0_part3_skel k0_part4_skel k0_part5_skel k0_part6_skel k0_part14_skel k0_part15_skel
  simp only [semSignalWord, semWaitWord, Prog.lift, Prog.bind_op, Prog.bind_ret, Prog.pure_eq_ret]
  iintro ⟨#HE, O, Ab, Pb, HA, HL, K17, R0_33, K19, R0_35, K18, R0_34, K20, R0_36, K21, R2_33, K23, R2_35, K22, R2_34, K24, R2_36, K25, R3_33, K27, R3_35, K26, R3_34, K28, R3_36, A12, P12, K15, R2_12, A14, P14, K16, R2_14, A13, P13, HT, HU, A37, P37, A39, P39, A41, P41, A43, P43⟩ HQ
  iapply (waitR 1 barS ((debts 1).drop 3) (by decide)) $$ HE Ab Pb O; iintro Hp Zb O
  ihave Hp := (Entails.of_eq (got_1 (F := F))) $$ Hp
  icases Hp with ⟨H0, H1, H2⟩
  ihave H0 := (Entails.of_eq (pay_1_0 (F := F))) $$ H0
  icases H0 with ⟨Y0_s1, Y0_sB, Y0_sl1, Y0_slB⟩
  ihave H1 := (Entails.of_eq (pay_1_2 (F := F))) $$ H1
  icases H1 with ⟨⟨Y2_s1, Y2_sB, Y2_sl1, Y2_slB⟩, Y2_bTop, Y2_blM⟩
  ihave H2 := (Entails.of_eq (pay_1_3 (F := F))) $$ H2
  icases H2 with ⟨Y3_s1, Y3_sB, Y3_sl1, Y3_slB⟩
  ihave HH := (sentA 1 (accS m 1)).1 $$ HA
  icases HH with ⟨Xg, Xb, Ra⟩
  ihave HH := (sentL 1 (lT m 1)).1 $$ HL
  icases HH with ⟨Lg, Lb, Rll⟩
  ihave HH := (share3 1 aG (accS m 1)).1 $$ Xg
  icases HH with ⟨Xg0, Xg1, Xg2⟩
  ihave HH := (share3 1 lG (lT m 1)).1 $$ Lg
  icases HH with ⟨Lg0, Lg1, Lg2⟩
  ihave HH := (share3 1 aB (accS m 1)).1 $$ Xb
  icases HH with ⟨Xb0, Xb1, Xb2⟩
  ihave HH := (share3 1 lB (lT m 1)).1 $$ Lb
  icases HH with ⟨Lb0, Lb1, Lb2⟩
  ihave O := (Entails.of_eq (show owesE (F := F) 1 ((debts 1).drop 3) = owesE 1 ((0, .dma q33, amt q33.val) :: (debts 1).drop 4) from rfl)) $$ O
  show Entails' (PROP := sProp 𝕄) _ (Wp 1 (.op (.enqueueDma aG (.remote ((⟨k0_dev10, k0_dev10_lt 1 h2⟩ : Dev nD) : Thread nD τ) s1 (.dma q17) _) (.dma q33) _ _ _) _) Q)
  iapply (xfer 1 0 ⟨k0_dev10, k0_dev10_lt 1 h2⟩ (Fin.ext (show k0_dev10 = 0 from by decide)) q17 q33 aG s1 (part 0) (accS m 1) (stripA m) ((debts 1).drop 4)
    (by decide) (by decide) rfl rfl rfl rfl (Idealize.SL.BI.BIBase.Entails.of_eq rfl) (read_s1 m) (Idealize.SL.BI.BIBase.Entails.of_eq rfl)) $$ HE K17 R0_33 Xg0 Y0_s1 O
  iintro P17 O
  ihave O := (Entails.of_eq (show owesE (F := F) 1 ((debts 1).drop 4) = owesE 1 ((0, .dma q35, amt q35.val) :: (debts 1).drop 5) from rfl)) $$ O
  show Entails' (PROP := sProp 𝕄) _ (Wp 1 (.op (.enqueueDma lG (.remote ((⟨k0_dev11, k0_dev11_lt 1 h2⟩ : Dev nD) : Thread nD τ) sl1 (.dma q19) _) (.dma q35) _ _ _) _) Q)
  iapply (xfer 1 0 ⟨k0_dev11, k0_dev11_lt 1 h2⟩ (Fin.ext (show k0_dev11 = 0 from by decide)) q19 q35 lG sl1 (part 0) (lT m 1) (stripL m) ((debts 1).drop 5)
    (by decide) (by decide) rfl rfl rfl rfl (Idealize.SL.BI.BIBase.Entails.of_eq rfl) (read_sl1 m) (Idealize.SL.BI.BIBase.Entails.of_eq rfl)) $$ HE K19 R0_35 Lg0 Y0_sl1 O
  iintro P19 O
  ihave O := (Entails.of_eq (show owesE (F := F) 1 ((debts 1).drop 5) = owesE 1 ((0, .dma q34, amt q34.val) :: (debts 1).drop 6) from rfl)) $$ O
  show Entails' (PROP := sProp 𝕄) _ (Wp 1 (.op (.enqueueDma aB (.remote ((⟨k0_dev12, k0_dev12_lt 1 h2⟩ : Dev nD) : Thread nD τ) sB (.dma q18) _) (.dma q34) _ _ _) _) Q)
  iapply (xfer 1 0 ⟨k0_dev12, k0_dev12_lt 1 h2⟩ (Fin.ext (show k0_dev12 = 0 from by decide)) q18 q34 aB sB (part 0) (accS m 1) (stripA m) ((debts 1).drop 6)
    (by decide) (by decide) rfl rfl rfl rfl (Idealize.SL.BI.BIBase.Entails.of_eq rfl) (read_sB m) (Idealize.SL.BI.BIBase.Entails.of_eq rfl)) $$ HE K18 R0_34 Xb0 Y0_sB O
  iintro P18 O
  ihave O := (Entails.of_eq (show owesE (F := F) 1 ((debts 1).drop 6) = owesE 1 ((0, .dma q36, amt q36.val) :: (debts 1).drop 7) from rfl)) $$ O
  show Entails' (PROP := sProp 𝕄) _ (Wp 1 (.op (.enqueueDma lB (.remote ((⟨k0_dev13, k0_dev13_lt 1 h2⟩ : Dev nD) : Thread nD τ) slB (.dma q20) _) (.dma q36) _ _ _) _) Q)
  iapply (xfer 1 0 ⟨k0_dev13, k0_dev13_lt 1 h2⟩ (Fin.ext (show k0_dev13 = 0 from by decide)) q20 q36 lB slB (part 0) (lT m 1) (stripL m) ((debts 1).drop 7)
    (by decide) (by decide) rfl rfl rfl rfl (Idealize.SL.BI.BIBase.Entails.of_eq rfl) (read_slB m) (Idealize.SL.BI.BIBase.Entails.of_eq rfl)) $$ HE K20 R0_36 Lb0 Y0_slB O
  iintro P20 O
  ihave O := (Entails.of_eq (show owesE (F := F) 1 ((debts 1).drop 7) = owesE 1 ((2, .dma q33, amt q33.val) :: (debts 1).drop 8) from rfl)) $$ O
  show Entails' (PROP := sProp 𝕄) _ (Wp 1 (.op (.enqueueDma aG (.remote ((⟨k0_dev14, k0_dev14_lt 1 h2⟩ : Dev nD) : Thread nD τ) s1 (.dma q21) _) (.dma q33) _ _ _) _) Q)
  iapply (xfer 1 2 ⟨k0_dev14, k0_dev14_lt 1 h2⟩ (Fin.ext (show k0_dev14 = 2 from by decide)) q21 q33 aG s1 (part 1) (accS m 1) (stripA m) ((debts 1).drop 8)
    (by decide) (by decide) rfl rfl rfl rfl (Idealize.SL.BI.BIBase.Entails.of_eq rfl) (read_s1 m) (Idealize.SL.BI.BIBase.Entails.of_eq rfl)) $$ HE K21 R2_33 Xg1 Y2_s1 O
  iintro P21 O
  ihave O := (Entails.of_eq (show owesE (F := F) 1 ((debts 1).drop 8) = owesE 1 ((2, .dma q35, amt q35.val) :: (debts 1).drop 9) from rfl)) $$ O
  show Entails' (PROP := sProp 𝕄) _ (Wp 1 (.op (.enqueueDma lG (.remote ((⟨k0_dev15, k0_dev15_lt 1 h2⟩ : Dev nD) : Thread nD τ) sl1 (.dma q23) _) (.dma q35) _ _ _) _) Q)
  iapply (xfer 1 2 ⟨k0_dev15, k0_dev15_lt 1 h2⟩ (Fin.ext (show k0_dev15 = 2 from by decide)) q23 q35 lG sl1 (part 1) (lT m 1) (stripL m) ((debts 1).drop 9)
    (by decide) (by decide) rfl rfl rfl rfl (Idealize.SL.BI.BIBase.Entails.of_eq rfl) (read_sl1 m) (Idealize.SL.BI.BIBase.Entails.of_eq rfl)) $$ HE K23 R2_35 Lg1 Y2_sl1 O
  iintro P23 O
  ihave O := (Entails.of_eq (show owesE (F := F) 1 ((debts 1).drop 9) = owesE 1 ((2, .dma q34, amt q34.val) :: (debts 1).drop 10) from rfl)) $$ O
  show Entails' (PROP := sProp 𝕄) _ (Wp 1 (.op (.enqueueDma aB (.remote ((⟨k0_dev16, k0_dev16_lt 1 h2⟩ : Dev nD) : Thread nD τ) sB (.dma q22) _) (.dma q34) _ _ _) _) Q)
  iapply (xfer 1 2 ⟨k0_dev16, k0_dev16_lt 1 h2⟩ (Fin.ext (show k0_dev16 = 2 from by decide)) q22 q34 aB sB (part 1) (accS m 1) (stripA m) ((debts 1).drop 10)
    (by decide) (by decide) rfl rfl rfl rfl (Idealize.SL.BI.BIBase.Entails.of_eq rfl) (read_sB m) (Idealize.SL.BI.BIBase.Entails.of_eq rfl)) $$ HE K22 R2_34 Xb1 Y2_sB O
  iintro P22 O
  ihave O := (Entails.of_eq (show owesE (F := F) 1 ((debts 1).drop 10) = owesE 1 ((2, .dma q36, amt q36.val) :: (debts 1).drop 11) from rfl)) $$ O
  show Entails' (PROP := sProp 𝕄) _ (Wp 1 (.op (.enqueueDma lB (.remote ((⟨k0_dev17, k0_dev17_lt 1 h2⟩ : Dev nD) : Thread nD τ) slB (.dma q24) _) (.dma q36) _ _ _) _) Q)
  iapply (xfer 1 2 ⟨k0_dev17, k0_dev17_lt 1 h2⟩ (Fin.ext (show k0_dev17 = 2 from by decide)) q24 q36 lB slB (part 1) (lT m 1) (stripL m) ((debts 1).drop 11)
    (by decide) (by decide) rfl rfl rfl rfl (Idealize.SL.BI.BIBase.Entails.of_eq rfl) (read_slB m) (Idealize.SL.BI.BIBase.Entails.of_eq rfl)) $$ HE K24 R2_36 Lb1 Y2_slB O
  iintro P24 O
  ihave O := (Entails.of_eq (show owesE (F := F) 1 ((debts 1).drop 11) = owesE 1 ((3, .dma q33, amt q33.val) :: (debts 1).drop 12) from rfl)) $$ O
  show Entails' (PROP := sProp 𝕄) _ (Wp 1 (.op (.enqueueDma aG (.remote ((⟨k0_dev18, k0_dev18_lt 1 h2⟩ : Dev nD) : Thread nD τ) s1 (.dma q25) _) (.dma q33) _ _ _) _) Q)
  iapply (xfer 1 3 ⟨k0_dev18, k0_dev18_lt 1 h2⟩ (Fin.ext (show k0_dev18 = 3 from by decide)) q25 q33 aG s1 (part 2) (accS m 1) (stripA m) ((debts 1).drop 12)
    (by decide) (by decide) rfl rfl rfl rfl (Idealize.SL.BI.BIBase.Entails.of_eq rfl) (read_s1 m) (Idealize.SL.BI.BIBase.Entails.of_eq rfl)) $$ HE K25 R3_33 Xg2 Y3_s1 O
  iintro P25 O
  ihave O := (Entails.of_eq (show owesE (F := F) 1 ((debts 1).drop 12) = owesE 1 ((3, .dma q35, amt q35.val) :: (debts 1).drop 13) from rfl)) $$ O
  show Entails' (PROP := sProp 𝕄) _ (Wp 1 (.op (.enqueueDma lG (.remote ((⟨k0_dev19, k0_dev19_lt 1 h2⟩ : Dev nD) : Thread nD τ) sl1 (.dma q27) _) (.dma q35) _ _ _) _) Q)
  iapply (xfer 1 3 ⟨k0_dev19, k0_dev19_lt 1 h2⟩ (Fin.ext (show k0_dev19 = 3 from by decide)) q27 q35 lG sl1 (part 2) (lT m 1) (stripL m) ((debts 1).drop 13)
    (by decide) (by decide) rfl rfl rfl rfl (Idealize.SL.BI.BIBase.Entails.of_eq rfl) (read_sl1 m) (Idealize.SL.BI.BIBase.Entails.of_eq rfl)) $$ HE K27 R3_35 Lg2 Y3_sl1 O
  iintro P27 O
  ihave O := (Entails.of_eq (show owesE (F := F) 1 ((debts 1).drop 13) = owesE 1 ((3, .dma q34, amt q34.val) :: (debts 1).drop 14) from rfl)) $$ O
  show Entails' (PROP := sProp 𝕄) _ (Wp 1 (.op (.enqueueDma aB (.remote ((⟨k0_dev20, k0_dev20_lt 1 h2⟩ : Dev nD) : Thread nD τ) sB (.dma q26) _) (.dma q34) _ _ _) _) Q)
  iapply (xfer 1 3 ⟨k0_dev20, k0_dev20_lt 1 h2⟩ (Fin.ext (show k0_dev20 = 3 from by decide)) q26 q34 aB sB (part 2) (accS m 1) (stripA m) ((debts 1).drop 14)
    (by decide) (by decide) rfl rfl rfl rfl (Idealize.SL.BI.BIBase.Entails.of_eq rfl) (read_sB m) (Idealize.SL.BI.BIBase.Entails.of_eq rfl)) $$ HE K26 R3_34 Xb2 Y3_sB O
  iintro P26 O
  ihave O := (Entails.of_eq (show owesE (F := F) 1 ((debts 1).drop 14) = owesE 1 ((3, .dma q36, amt q36.val) :: (debts 1).drop 15) from rfl)) $$ O
  show Entails' (PROP := sProp 𝕄) _ (Wp 1 (.op (.enqueueDma lB (.remote ((⟨k0_dev21, k0_dev21_lt 1 h2⟩ : Dev nD) : Thread nD τ) slB (.dma q28) _) (.dma q36) _ _ _) _) Q)
  iapply (xfer 1 3 ⟨k0_dev21, k0_dev21_lt 1 h2⟩ (Fin.ext (show k0_dev21 = 3 from by decide)) q28 q36 lB slB (part 2) (lT m 1) (stripL m) ((debts 1).drop 15)
    (by decide) (by decide) rfl rfl rfl rfl (Idealize.SL.BI.BIBase.Entails.of_eq rfl) (read_slB m) (Idealize.SL.BI.BIBase.Entails.of_eq rfl)) $$ HE K28 R3_36 Lb2 Y3_slB O
  iintro P28 O
  show Entails' (PROP := sProp 𝕄) _ (Wp 1 (.op (.waitDma2 q12 _ bTop _ _) _) Q)
  iapply (waitD 1 q12 ((debts 1).drop 15) (dst := bTop) (by decide) rfl (by decide) rfl) $$ HE A12 P12 O; iintro Bt Z12 O
  ihave Bt := (Entails.of_eq (show dmaPay m 1 q12.val = Pt 1 bTop fullShare (accS m 0) from rfl)) $$ Bt
  ihave HH := (share2 1 bTop fullShare (accS m 0)).1 $$ Bt
  icases HH with ⟨Btl, Btr⟩
  ihave O := (Entails.of_eq (show owesE (F := F) 1 ((debts 1).drop 15) = owesE 1 ((2, .dma q12, amt q12.val) :: (debts 1).drop 16) from rfl)) $$ O
  show Entails' (PROP := sProp 𝕄) _ (Wp 1 (.op (.enqueueDma bTop (.remote ((⟨k0_dev22, k0_dev22_lt 1 h2⟩ : Dev nD) : Thread nD τ) bTop (.dma q15) _) (.dma q12) _ _ _) _) Q)
  iapply (xfer 1 2 ⟨k0_dev22, k0_dev22_lt 1 h2⟩ (Fin.ext (show k0_dev22 = 2 from by decide)) q15 q12 bTop bTop fullShare.left (accS m 0) (accS m 0) ((debts 1).drop 16)
    (by decide) (by decide) rfl rfl rfl rfl (Idealize.SL.BI.BIBase.Entails.of_eq rfl) rfl (Idealize.SL.BI.BIBase.Entails.of_eq rfl)) $$ HE K15 R2_12 Btl Y2_bTop O
  iintro P15 O
  show Entails' (PROP := sProp 𝕄) _ (Wp 1 (.op (.waitDma2 q14 _ blM _ _) _) Q)
  iapply (waitD 1 q14 ((debts 1).drop 16) (dst := blM) (by decide) rfl (by decide) rfl) $$ HE A14 P14 O; iintro Bl Z14 O
  ihave Bl := (Entails.of_eq (show dmaPay m 1 q14.val = Pt 1 blM fullShare (lT m 0) from rfl)) $$ Bl
  ihave HH := (share2 1 blM fullShare (lT m 0)).1 $$ Bl
  icases HH with ⟨Bll, Blr⟩
  ihave O := (Entails.of_eq (show owesE (F := F) 1 ((debts 1).drop 16) = owesE 1 ((2, .dma q14, amt q14.val) :: (debts 1).drop 17) from rfl)) $$ O
  show Entails' (PROP := sProp 𝕄) _ (Wp 1 (.op (.enqueueDma blM (.remote ((⟨k0_dev23, k0_dev23_lt 1 h2⟩ : Dev nD) : Thread nD τ) blM (.dma q16) _) (.dma q14) _ _ _) _) Q)
  iapply (xfer 1 2 ⟨k0_dev23, k0_dev23_lt 1 h2⟩ (Fin.ext (show k0_dev23 = 2 from by decide)) q16 q14 blM blM fullShare.left (lT m 0) (lT m 0) ((debts 1).drop 17)
    (by decide) (by decide) rfl rfl rfl rfl (Idealize.SL.BI.BIBase.Entails.of_eq rfl) rfl (Idealize.SL.BI.BIBase.Entails.of_eq rfl)) $$ HE K16 R2_14 Bll Y2_blM O
  iintro P16 O
  show Entails' (PROP := sProp 𝕄) _ (Wp 1 (.op (.waitDma2 q13 _ bBot _ _) _) Q)
  iapply (waitD 1 q13 ((debts 1).drop 17) (dst := bBot) (by decide) rfl (by decide) rfl) $$ HE A13 P13 O; iintro Bb Z13 O
  ihave Bb := (Entails.of_eq (show dmaPay m 1 q13.val = Pt 1 bBot fullShare (accS m 0) from rfl)) $$ Bb
  ihave HH := (share2 1 bBot fullShare (accS m 0)).1 $$ Bb
  icases HH with ⟨Bbl, Bbr⟩
  ihave HH := (halvesB 1 fullShare.right (accS m 0)).2 $$ [Btr Bbr]
  · iframe Btr Bbr
  irename HH => Ba
  iapply (ldE 1 tM (accT m 1) (Memref.readAt_unit_zero (Elt F) cc0_scratch6 zero2 _ _)) $$ HT; iintro HT
  iapply (ldE 1 baM (accS m 0) (Memref.readAt_unit_zero (Elt F) cc0_scratch2 zero2 _ _)) $$ Ba; iintro Ba
  iapply (ldE 1 tM (accT m 1) (Memref.readAt_unit_zero (Elt F) cc0_scratch6 zero2 _ _)) $$ HT; iintro HT
  iapply (stE 1 tM (addA m (accT m 1)) (Memref.write_access_unit_zero_univ (Elt F) cc0_scratch6 zero2 _ _ _)) $$ HT; iintro HT
  iapply (ldE 1 uM (lT m 1) (Memref.readAt_unit_zero (Elt F) cc0_scratch7 zero2 _ _)) $$ HU; iintro HU
  iapply (ldE 1 blM (lT m 0) (Memref.readAt_unit_zero (Elt F) cc0_scratch3 zero2 _ _)) $$ Blr; iintro Blr
  iapply (ldE 1 uM (lT m 1) (Memref.readAt_unit_zero (Elt F) cc0_scratch7 zero2 _ _)) $$ HU; iintro HU
  iapply (stE 1 uM (addL m (lT m 1)) (Memref.write_access_unit_zero_univ (Elt F) cc0_scratch7 zero2 _ _ _)) $$ HU; iintro HU
  ihave HH := (halvesB 1 fullShare.right (accS m 0)).1 $$ Ba
  icases HH with ⟨Btr, Bbr⟩
  show Entails' (PROP := sProp 𝕄) _ (Wp 1 (.op (.waitDma2 q37 _ s2 _ _) _) Q)
  iapply (waitD 1 q37 ((debts 1).drop 17) (dst := s2) (by decide) rfl (by decide) rfl) $$ HE A37 P37 O; iintro W_s2 Z37 O
  ihave W_s2 := (Entails.of_eq (show dmaPay m 1 q37.val = Pt 1 s2 fullShare (stripA m) from rfl)) $$ W_s2
  show Entails' (PROP := sProp 𝕄) _ (Wp 1 (.op (.waitDma2 q39 _ sl2 _ _) _) Q)
  iapply (waitD 1 q39 ((debts 1).drop 17) (dst := sl2) (by decide) rfl (by decide) rfl) $$ HE A39 P39 O; iintro W_sl2 Z39 O
  ihave W_sl2 := (Entails.of_eq (show dmaPay m 1 q39.val = Pt 1 sl2 fullShare (stripL m) from rfl)) $$ W_sl2
  iapply (ldE 1 tM (tM.view.readAt (Elt F) rG.toLoadRect (addA m (accT m 1))) rfl) $$ HT; iintro HT
  iapply (ldS 1 saM (saM.view.readAt (Elt F) rs2.toLoadRect (stripA m)) on_s2 rfl) $$ W_s2; iintro W_s2
  iapply (ldE 1 tM (tM.view.readAt (Elt F) rG.toLoadRect (addA m (accT m 1))) rfl) $$ HT; iintro HT
  iapply (stE 1 tM (stA2 m (addA m (accT m 1))) rfl) $$ HT; iintro HT
  iapply (ldE 1 uM (uM.view.readAt (Elt F) rlG.toLoadRect (addL m (lT m 1))) rfl) $$ HU; iintro HU
  iapply (ldS 1 slM (slM.view.readAt (Elt F) rsl2.toLoadRect (stripL m)) on_sl2 rfl) $$ W_sl2; iintro W_sl2
  iapply (ldE 1 uM (uM.view.readAt (Elt F) rlG.toLoadRect (addL m (lT m 1))) rfl) $$ HU; iintro HU
  iapply (stE 1 uM (stL2 m (addL m (lT m 1))) rfl) $$ HU; iintro HU
  show Entails' (PROP := sProp 𝕄) _ (Wp 1 (.op (.waitDma2 q41 _ s3 _ _) _) Q)
  iapply (waitD 1 q41 ((debts 1).drop 17) (dst := s3) (by decide) rfl (by decide) rfl) $$ HE A41 P41 O; iintro W_s3 Z41 O
  ihave W_s3 := (Entails.of_eq (show dmaPay m 1 q41.val = Pt 1 s3 fullShare (stripA m) from rfl)) $$ W_s3
  show Entails' (PROP := sProp 𝕄) _ (Wp 1 (.op (.waitDma2 q43 _ sl3 _ _) _) Q)
  iapply (waitD 1 q43 ((debts 1).drop 17) (dst := sl3) (by decide) rfl (by decide) rfl) $$ HE A43 P43 O; iintro W_sl3 Z43 O
  ihave W_sl3 := (Entails.of_eq (show dmaPay m 1 q43.val = Pt 1 sl3 fullShare (stripL m) from rfl)) $$ W_sl3
  iapply (ldE 1 tM (tM.view.readAt (Elt F) rG.toLoadRect (stA2 m (addA m (accT m 1)))) rfl) $$ HT; iintro HT
  iapply (ldS 1 saM (saM.view.readAt (Elt F) rs3.toLoadRect (stripA m)) on_s3 rfl) $$ W_s3; iintro W_s3
  iapply (ldE 1 tM (tM.view.readAt (Elt F) rG.toLoadRect (stA2 m (addA m (accT m 1)))) rfl) $$ HT; iintro HT
  iapply (stE 1 tM (stA3 m (stA2 m (addA m (accT m 1)))) rfl) $$ HT; iintro HT
  iapply (ldE 1 uM (uM.view.readAt (Elt F) rlG.toLoadRect (stL2 m (addL m (lT m 1)))) rfl) $$ HU; iintro HU
  iapply (ldS 1 slM (slM.view.readAt (Elt F) rsl3.toLoadRect (stripL m)) on_sl3 rfl) $$ W_sl3; iintro W_sl3
  iapply (ldE 1 uM (uM.view.readAt (Elt F) rlG.toLoadRect (stL2 m (addL m (lT m 1)))) rfl) $$ HU; iintro HU
  iapply (stE 1 uM (stL3 m (stL2 m (addL m (lT m 1)))) rfl) $$ HU; iintro HU
  ihave HT := (Entails.of_eq (show Pt 1 tM fullShare (stA3 m (stA2 m (addA m (accT m 1)))) = Pt 1 tM fullShare (totA m 1) from rfl)) $$ HT
  ihave HU := (Entails.of_eq (show Pt 1 uM fullShare (stL3 m (stL2 m (addL m (lT m 1)))) = Pt 1 uM fullShare (totL m 1) from rfl)) $$ HU
  iapply (ldE 1 tM (totA m 1) (Memref.readAt_unit_zero (Elt F) cc0_scratch6 zero2 _ _)) $$ HT; iintro HT
  iapply (ldE 1 uM (totL m 1) (Memref.readAt_unit_zero (Elt F) cc0_scratch7 zero2 _ _)) $$ HU; iintro HU
  iapply retW
  iapply HQ
  iframe O HT HU Zb Ra Rll P17 P19 P18 P20 P21 P23 P22 P24 P25 P27 P26 P28 Z12 P15 Z14 Blr P16 Z13 Bbl Btr Bbr W_s2 Z37 W_sl2 Z39 W_s3 Z41 W_sl3 Z43

end Cert.RunI

end
-- ==== Proof.RunI.Role1p31.lean ====
/-
# Device 1
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 1 writes its result and begins to take back what its transfers borrowed. -/
theorem r1_31 {K : Dev nD × Fin 41 → ℕ} {Q : _ → sProp 𝕄} :
    iprop(env m K ∗ Pt 1 woM fullShare (woIn m 1)
      ∗ Any (F := F) 1 outM
      ∗ owesE (F := F) 1 ((debts 1).drop 17)
      ∗ at0 (F := F) 1 (.dma q17)
      ∗ pass (F := F) 1 (.dma q17) (amt q17.val)
      ∗ at0 (F := F) 1 (.dma q19)
      ∗ pass (F := F) 1 (.dma q19) (amt q19.val)
      ∗ at0 (F := F) 1 (.dma q18)
      ∗ pass (F := F) 1 (.dma q18) (amt q18.val)
      ∗ at0 (F := F) 1 (.dma q20)
      ∗ pass (F := F) 1 (.dma q20) (amt q20.val)
      ∗ at0 (F := F) 1 (.dma q21)
      ∗ pass (F := F) 1 (.dma q21) (amt q21.val)
      ∗ at0 (F := F) 1 (.dma q23)
      ∗ pass (F := F) 1 (.dma q23) (amt q23.val)
      ∗ at0 (F := F) 1 (.dma q22)
      ∗ pass (F := F) 1 (.dma q22) (amt q22.val)
      ∗ at0 (F := F) 1 (.dma q24)
      ∗ pass (F := F) 1 (.dma q24) (amt q24.val)
      ∗ at0 (F := F) 1 (.dma q25)
      ∗ pass (F := F) 1 (.dma q25) (amt q25.val)
      ∗ at0 (F := F) 1 (.dma q27)
      ∗ pass (F := F) 1 (.dma q27) (amt q27.val)
      ∗ at0 (F := F) 1 (.dma q26)
      ∗ pass (F := F) 1 (.dma q26) (amt q26.val)
      ∗ at0 (F := F) 1 (.dma q28)
      ∗ pass (F := F) 1 (.dma q28) (amt q28.val)
      ∗ at0 (F := F) 1 (.dma q15)
      ∗ pass (F := F) 1 (.dma q15) (amt q15.val)
      ∗ at0 (F := F) 1 (.dma q16)
      ∗ pass (F := F) 1 (.dma q16) (amt q16.val))
      ⊢ iprop((owesE (F := F) 1 ((debts 1).drop 17)
          ∗ Pt 1 woM fullShare (woIn m 1)
          ∗ Pt 1 outM fullShare (outV m 1)
          ∗ Pt 1 aG (part 0) (accS m 1)
          ∗ fin0 (F := F) 1 (.dma q17)
          ∗ Pt 1 lG (part 0) (lT m 1)
          ∗ fin0 (F := F) 1 (.dma q19)
          ∗ Pt 1 aB (part 0) (accS m 1)
          ∗ fin0 (F := F) 1 (.dma q18)
          ∗ Pt 1 lB (part 0) (lT m 1)
          ∗ fin0 (F := F) 1 (.dma q20)
          ∗ Pt 1 aG (part 1) (accS m 1)
          ∗ fin0 (F := F) 1 (.dma q21)
          ∗ Pt 1 lG (part 1) (lT m 1)
          ∗ fin0 (F := F) 1 (.dma q23)
          ∗ Pt 1 aB (part 1) (accS m 1)
          ∗ fin0 (F := F) 1 (.dma q22)
          ∗ Pt 1 lB (part 1) (lT m 1)
          ∗ fin0 (F := F) 1 (.dma q24)
          ∗ Pt 1 aG (part 2) (accS m 1)
          ∗ fin0 (F := F) 1 (.dma q25)
          ∗ Pt 1 lG (part 2) (lT m 1)
          ∗ fin0 (F := F) 1 (.dma q27)
          ∗ Pt 1 aB (part 2) (accS m 1)
          ∗ fin0 (F := F) 1 (.dma q26)
          ∗ Pt 1 lB (part 2) (lT m 1)
          ∗ fin0 (F := F) 1 (.dma q28)
          ∗ Pt 1 bTop fullShare.left (accS m 0)
          ∗ fin0 (F := F) 1 (.dma q15)
          ∗ Pt 1 blM fullShare.left (lT m 0)
          ∗ fin0 (F := F) 1 (.dma q16)
          -∗ Q 3#32)
        -∗ Wp 1 (p31 (F := F) 1#32 (totA m 1) (totL m 1) (k0_pay72 (totA m 1)) (k0_pay73 (totL m 1))) Q) := by
  simp only [p31, k0_part31_eq_skeleton]; unfold k0_part31_skel
  have h9 : ¬ (Scalar.cmpi .ne (Scalar.extui (Scalar.cmpi .eq 1#32 0#32) : BitVec 32) 0#32 = 1#1) := by decide
  have h10 : (Scalar.cmpi .ne (Scalar.extui (Scalar.cmpi .eq 1#32 1#32) : BitVec 32) 0#32 = 1#1) := by decide
  have h11 : ¬ (Scalar.cmpi .ne (Scalar.extui (Scalar.cmpi .eq 1#32 2#32) : BitVec 32) 0#32 = 1#1) := by decide
  simp only [dif_neg h9, dif_pos h10, dif_neg h11]
  simp only [k0_part17_eq_skeleton, k0_part18_eq_skeleton, k0_part19_eq_skeleton]
  unfold k0_part17_skel k0_part18_skel k0_part19_skel
  simp only [semSignalWord, semWaitWord, Prog.lift, Prog.bind_op, Prog.bind_ret, Prog.pure_eq_ret]
  iintro ⟨#HE, HW, Y_outM, O, A17, P17, A19, P19, A18, P18, A20, P20, A21, P21, A23, P23, A22, P22, A24, P24, A25, P25, A27, P27, A26, P26, A28, P28, A15, P15, A16, P16⟩ HQ
  iapply (ldE 1 woM (woIn m 1) (Memref.readAt_unit_zero (Elt F) cc0_stg4_0 zero2 _ _)) $$ HW; iintro HW
  unfold Any; icases Y_outM with ⟨%fo, HO⟩
  iapply (ldE 1 outM fo (Memref.readAt_unit_zero (Elt F) cc0_stg5_0 zero2 _ _)) $$ HO; iintro HO
  iapply (stE 1 outM (outV m 1) (Memref.write_access_unit_zero_univ (Elt F) cc0_stg5_0 zero2 _ _ _)) $$ HO; iintro HO
  show Entails' (PROP := sProp 𝕄) _ (Wp 1 (.op (.waitDma2 q17 _ aG _ _) _) Q)
  iapply (waitD 1 q17 ((debts 1).drop 17) (dst := aG) (by decide) rfl (by decide) rfl) $$ HE A17 P17 O; iintro Xg0 Z17 O
  ihave Xg0 := (Entails.of_eq (show dmaPay m 1 q17.val = Pt 1 aG (part 0) (accS m 1) from rfl)) $$ Xg0
  show Entails' (PROP := sProp 𝕄) _ (Wp 1 (.op (.waitDma2 q19 _ lG _ _) _) Q)
  iapply (waitD 1 q19 ((debts 1).drop 17) (dst := lG) (by decide) rfl (by decide) rfl) $$ HE A19 P19 O; iintro Lg0 Z19 O
  ihave Lg0 := (Entails.of_eq (show dmaPay m 1 q19.val = Pt 1 lG (part 0) (lT m 1) from rfl)) $$ Lg0
  show Entails' (PROP := sProp 𝕄) _ (Wp 1 (.op (.waitDma2 q18 _ aB _ _) _) Q)
  iapply (waitD 1 q18 ((debts 1).drop 17) (dst := aB) (by decide) rfl (by decide) rfl) $$ HE A18 P18 O; iintro Xb0 Z18 O
  ihave Xb0 := (Entails.of_eq (show dmaPay m 1 q18.val = Pt 1 aB (part 0) (accS m 1) from rfl)) $$ Xb0
  show Entails' (PROP := sProp 𝕄) _ (Wp 1 (.op (.waitDma2 q20 _ lB _ _) _) Q)
  iapply (waitD 1 q20 ((debts 1).drop 17) (dst := lB) (by decide) rfl (by decide) rfl) $$ HE A20 P20 O; iintro Lb0 Z20 O
  ihave Lb0 := (Entails.of_eq (show dmaPay m 1 q20.val = Pt 1 lB (part 0) (lT m 1) from rfl)) $$ Lb0
  show Entails' (PROP := sProp 𝕄) _ (Wp 1 (.op (.waitDma2 q21 _ aG _ _) _) Q)
  iapply (waitD 1 q21 ((debts 1).drop 17) (dst := aG) (by decide) rfl (by decide) rfl) $$ HE A21 P21 O; iintro Xg1 Z21 O
  ihave Xg1 := (Entails.of_eq (show dmaPay m 1 q21.val = Pt 1 aG (part 1) (accS m 1) from rfl)) $$ Xg1
  show Entails' (PROP := sProp 𝕄) _ (Wp 1 (.op (.waitDma2 q23 _ lG _ _) _) Q)
  iapply (waitD 1 q23 ((debts 1).drop 17) (dst := lG) (by decide) rfl (by decide) rfl) $$ HE A23 P23 O; iintro Lg1 Z23 O
  ihave Lg1 := (Entails.of_eq (show dmaPay m 1 q23.val = Pt 1 lG (part 1) (lT m 1) from rfl)) $$ Lg1
  show Entails' (PROP := sProp 𝕄) _ (Wp 1 (.op (.waitDma2 q22 _ aB _ _) _) Q)
  iapply (waitD 1 q22 ((debts 1).drop 17) (dst := aB) (by decide) rfl (by decide) rfl) $$ HE A22 P22 O; iintro Xb1 Z22 O
  ihave Xb1 := (Entails.of_eq (show dmaPay m 1 q22.val = Pt 1 aB (part 1) (accS m 1) from rfl)) $$ Xb1
  show Entails' (PROP := sProp 𝕄) _ (Wp 1 (.op (.waitDma2 q24 _ lB _ _) _) Q)
  iapply (waitD 1 q24 ((debts 1).drop 17) (dst := lB) (by decide) rfl (by decide) rfl) $$ HE A24 P24 O; iintro Lb1 Z24 O
  ihave Lb1 := (Entails.of_eq (show dmaPay m 1 q24.val = Pt 1 lB (part 1) (lT m 1) from rfl)) $$ Lb1
  show Entails' (PROP := sProp 𝕄) _ (Wp 1 (.op (.waitDma2 q25 _ aG _ _) _) Q)
  iapply (waitD 1 q25 ((debts 1).drop 17) (dst := aG) (by decide) rfl (by decide) rfl) $$ HE A25 P25 O; iintro Xg2 Z25 O
  ihave Xg2 := (Entails.of_eq (show dmaPay m 1 q25.val = Pt 1 aG (part 2) (accS m 1) from rfl)) $$ Xg2
  show Entails' (PROP := sProp 𝕄) _ (Wp 1 (.op (.waitDma2 q27 _ lG _ _) _) Q)
  iapply (waitD 1 q27 ((debts 1).drop 17) (dst := lG) (by decide) rfl (by decide) rfl) $$ HE A27 P27 O; iintro Lg2 Z27 O
  ihave Lg2 := (Entails.of_eq (show dmaPay m 1 q27.val = Pt 1 lG (part 2) (lT m 1) from rfl)) $$ Lg2
  show Entails' (PROP := sProp 𝕄) _ (Wp 1 (.op (.waitDma2 q26 _ aB _ _) _) Q)
  iapply (waitD 1 q26 ((debts 1).drop 17) (dst := aB) (by decide) rfl (by decide) rfl) $$ HE A26 P26 O; iintro Xb2 Z26 O
  ihave Xb2 := (Entails.of_eq (show dmaPay m 1 q26.val = Pt 1 aB (part 2) (accS m 1) from rfl)) $$ Xb2
  show Entails' (PROP := sProp 𝕄) _ (Wp 1 (.op (.waitDma2 q28 _ lB _ _) _) Q)
  iapply (waitD 1 q28 ((debts 1).drop 17) (dst := lB) (by decide) rfl (by decide) rfl) $$ HE A28 P28 O; iintro Lb2 Z28 O
  ihave Lb2 := (Entails.of_eq (show dmaPay m 1 q28.val = Pt 1 lB (part 2) (lT m 1) from rfl)) $$ Lb2
  show Entails' (PROP := sProp 𝕄) _ (Wp 1 (.op (.waitDma2 q15 _ bTop _ _) _) Q)
  iapply (waitD 1 q15 ((debts 1).drop 17) (dst := bTop) (by decide) rfl (by decide) rfl) $$ HE A15 P15 O; iintro Btl Z15 O
  ihave Btl := (Entails.of_eq (show dmaPay m 1 q15.val = Pt 1 bTop fullShare.left (accS m 0) from rfl)) $$ Btl
  show Entails' (PROP := sProp 𝕄) _ (Wp 1 (.op (.waitDma2 q16 _ blM _ _) _) Q)
  iapply (waitD 1 q16 ((debts 1).drop 17) (dst := blM) (by decide) rfl (by decide) rfl) $$ HE A16 P16 O; iintro Bll Z16 O
  ihave Bll := (Entails.of_eq (show dmaPay m 1 q16.val = Pt 1 blM fullShare.left (lT m 0) from rfl)) $$ Bll
  iapply retW
  iapply HQ
  iframe O HW HO Xg0 Z17 Lg0 Z19 Xb0 Z18 Lb0 Z20 Xg1 Z21 Lg1 Z23 Xb1 Z22 Lb1 Z24 Xg2 Z25 Lg2 Z27 Xb2 Z26 Lb2 Z28 Btl Z15 Bll Z16

end Cert.RunI

end
-- ==== Proof.RunI.Role1p32.lean ====
/-
# Device 1
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 1 signals two peers that it is about to leave. -/
theorem r1_32 {K : Dev nD × Fin 41 → ℕ} {Q : _ → sProp 𝕄} :
    iprop(env m K ∗ owesE (F := F) 1 ((debts 1).drop 17)
      ∗ tok (F := F) 2 (.reg exitS) 1
      ∗ tok (F := F) 3 (.reg exitS) 1)
      ⊢ iprop((owesE (F := F) 1 ((debts 1).drop 19)
          -∗ Q ⟨Scalar.addi 1#32 3#32, Scalar.select (Scalar.cmpi .eq 4#32 0#32) 1#32 4#32⟩)
        -∗ Wp 1 (p32 (F := F) 1 1#32 3#32) Q) := by
  simp only [p32, k0_part32_eq_skeleton]; unfold k0_part32_skel
  have h12 : ¬ (Scalar.cmpi .ne (Scalar.extui (Scalar.cmpi .eq 1#32 3#32) : BitVec 32) 0#32 = 1#1) := by decide
  simp only [dif_neg h12]
  simp only [semSignalWord, semWaitWord, Prog.lift, Prog.bind_op, Prog.bind_ret, Prog.pure_eq_ret]
  iintro ⟨#HE, O, Ke2, Ke3⟩ HQ
  ihave O := (Entails.of_eq (show owesE (F := F) 1 ((debts 1).drop 17) = owesE 1 ((2, .reg exitS, 1) :: (debts 1).drop 18) from rfl)) $$ O
  iapply (sigR 1 2 ⟨k0_dev37 1, k0_dev37_lt 1⟩ (by decide) exitS ((debts 1).drop 18) (by decide)) $$ HE Ke2 [] O
  · unfold regPay; rw [if_neg (by decide)]; iempintro
  iintro O
  ihave O := (Entails.of_eq (show owesE (F := F) 1 ((debts 1).drop 18) = owesE 1 ((3, .reg exitS, 1) :: (debts 1).drop 19) from rfl)) $$ O
  iapply (sigR 1 3 ⟨k0_dev38 1, k0_dev38_lt 1⟩ (by decide) exitS ((debts 1).drop 19) (by decide)) $$ HE Ke3 [] O
  · unfold regPay; rw [if_neg (by decide)]; iempintro
  iintro O
  iapply retW
  iapply HQ
  iframe O

end Cert.RunI

end
-- ==== Proof.RunI.Role1pend.lean ====
/-
# Device 1
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 1 sends its last exit signal and waits for its peers' three; it ends with every semaphore done and its buffers back. -/
theorem r1_end {K : Dev nD × Fin 41 → ℕ} {Q : PUnit → sProp 𝕄} :
    iprop(env m K ∗ owesE (F := F) 1 ((debts 1).drop 19)
      ∗ tok (F := F) 0 (.reg exitS) 1
      ∗ at0 (F := F) 1 (.reg exitS)
      ∗ pass (F := F) 1 (.reg exitS) 3
      ∗ Pt 1 aG (part 0) (accS m 1)
      ∗ Pt 1 aG (part 1) (accS m 1)
      ∗ Pt 1 aG (part 2) (accS m 1)
      ∗ Pt 1 lG (part 0) (lT m 1)
      ∗ Pt 1 lG (part 1) (lT m 1)
      ∗ Pt 1 lG (part 2) (lT m 1)
      ∗ Pt 1 aB (part 0) (accS m 1)
      ∗ Pt 1 aB (part 1) (accS m 1)
      ∗ Pt 1 aB (part 2) (accS m 1)
      ∗ Pt 1 lB (part 0) (lT m 1)
      ∗ Pt 1 lB (part 1) (lT m 1)
      ∗ Pt 1 lB (part 2) (lT m 1)
      ∗ restA 1 (accS m 1)
      ∗ restL 1 (lT m 1)
      ∗ Pt 1 bTop fullShare.left (accS m 0)
      ∗ Pt 1 bTop fullShare.right (accS m 0)
      ∗ Pt 1 bBot fullShare.left (accS m 0)
      ∗ Pt 1 bBot fullShare.right (accS m 0)
      ∗ Pt 1 blM fullShare.left (lT m 0)
      ∗ Pt 1 blM fullShare.right (lT m 0)
      ∗ Pt 1 tM fullShare (totA m 1)
      ∗ Pt 1 uM fullShare (totL m 1)
      ∗ Pt 1 s2 fullShare (stripA m)
      ∗ Pt 1 s3 fullShare (stripA m)
      ∗ Pt 1 sl2 fullShare (stripL m)
      ∗ Pt 1 sl3 fullShare (stripL m)
      ∗ Any (F := F) 1 s1
      ∗ Any (F := F) 1 sB
      ∗ restS (F := F) 1
      ∗ Any (F := F) 1 sl1
      ∗ Any (F := F) 1 slB
      ∗ restSL (F := F) 1
      ∗ at0 (F := F) 1 (.dma q6)
      ∗ at0 (F := F) 1 (.dma q7)
      ∗ at0 (F := F) 1 (.dma q8)
      ∗ at0 (F := F) 1 (.dma q9)
      ∗ at0 (F := F) 1 (.dma q10)
      ∗ at0 (F := F) 1 (.dma q11)
      ∗ at0 (F := F) 1 (.dma q29)
      ∗ at0 (F := F) 1 (.dma q30)
      ∗ at0 (F := F) 1 (.dma q31)
      ∗ at0 (F := F) 1 (.dma q32)
      ∗ at0 (F := F) 1 (.dma q33)
      ∗ at0 (F := F) 1 (.dma q34)
      ∗ at0 (F := F) 1 (.dma q35)
      ∗ at0 (F := F) 1 (.dma q36)
      ∗ at0 (F := F) 1 (.dma q38)
      ∗ at0 (F := F) 1 (.dma q40)
      ∗ at0 (F := F) 1 (.dma q42)
      ∗ at0 (F := F) 1 (.dma q44))
      ⊢ iprop((owesE (F := F) 1 ((debts 1).drop 20)
          ∗ fin0 (F := F) 1 (.reg exitS)
          ∗ Any (F := F) 1 baM
          ∗ Any (F := F) 1 blM
          ∗ Any (F := F) 1 aM
          ∗ Any (F := F) 1 lM
          ∗ Any (F := F) 1 tM
          ∗ Any (F := F) 1 uM
          ∗ Any (F := F) 1 saM
          ∗ Any (F := F) 1 slM
          ∗ fin0 (F := F) 1 (.dma q6)
          ∗ fin0 (F := F) 1 (.dma q7)
          ∗ fin0 (F := F) 1 (.dma q8)
          ∗ fin0 (F := F) 1 (.dma q9)
          ∗ fin0 (F := F) 1 (.dma q10)
          ∗ fin0 (F := F) 1 (.dma q11)
          ∗ fin0 (F := F) 1 (.dma q29)
          ∗ fin0 (F := F) 1 (.dma q30)
          ∗ fin0 (F := F) 1 (.dma q31)
          ∗ fin0 (F := F) 1 (.dma q32)
          ∗ fin0 (F := F) 1 (.dma q33)
          ∗ fin0 (F := F) 1 (.dma q34)
          ∗ fin0 (F := F) 1 (.dma q35)
          ∗ fin0 (F := F) 1 (.dma q36)
          ∗ fin0 (F := F) 1 (.dma q38)
          ∗ fin0 (F := F) 1 (.dma q40)
          ∗ fin0 (F := F) 1 (.dma q42)
          ∗ fin0 (F := F) 1 (.dma q44)
          -∗ Q ⟨⟩)
        -∗ Wp 1 (.op (.semSignal ((⟨k0_dev39 1, k0_dev39_lt 1⟩ : Dev nD) : Thread nD τ) exitS 1) fun _ => .op (.semWait exitS 3) fun _ => .ret ⟨⟩) Q) := by
  iintro ⟨#HE, O, Ke0, Ae, Pe, Xg0, Xg1, Xg2, Lg0, Lg1, Lg2, Xb0, Xb1, Xb2, Lb0, Lb1, Lb2, Ra, Rll, Btl, Btr, Bbl, Bbr, Bll, Blr, HT, HU, W_s2, W_s3, W_sl2, W_sl3, Y1_s1, Y1_sB, Rs, Y1_sl1, Y1_slB, Rl, A6, A7, A8, A9, A10, A11, A29, A30, A31, A32, A33, A34, A35, A36, A38, A40, A42, A44⟩ HQ
  ihave O := (Entails.of_eq (show owesE (F := F) 1 ((debts 1).drop 19) = owesE 1 ((0, .reg exitS, 1) :: (debts 1).drop 20) from rfl)) $$ O
  iapply (sigR 1 0 ⟨k0_dev39 1, k0_dev39_lt 1⟩ (by decide) exitS ((debts 1).drop 20) (by decide)) $$ HE Ke0 [] O
  · unfold regPay; rw [if_neg (by decide)]; iempintro
  iintro O
  iapply (waitR 1 exitS ((debts 1).drop 20) (by decide)) $$ HE Ae Pe O; iintro - Ze O
  ihave HH := (share3 1 aG (accS m 1)).2 $$ [Xg0 Xg1 Xg2]
  · iframe Xg0 Xg1 Xg2
  irename HH => Xg
  ihave HH := (share3 1 lG (lT m 1)).2 $$ [Lg0 Lg1 Lg2]
  · iframe Lg0 Lg1 Lg2
  irename HH => Lg
  ihave HH := (share3 1 aB (accS m 1)).2 $$ [Xb0 Xb1 Xb2]
  · iframe Xb0 Xb1 Xb2
  irename HH => Xb
  ihave HH := (share3 1 lB (lT m 1)).2 $$ [Lb0 Lb1 Lb2]
  · iframe Lb0 Lb1 Lb2
  irename HH => Lb
  ihave HH := (sentA 1 (accS m 1)).2 $$ [Xg Xb Ra]
  · iframe Xg Xb Ra
  irename HH => HA
  ihave HH := (sentL 1 (lT m 1)).2 $$ [Lg Lb Rll]
  · iframe Lg Lb Rll
  irename HH => HL
  ihave HH := (share2 1 bTop fullShare (accS m 0)).2 $$ [Btl Btr]
  · iframe Btl Btr
  irename HH => Bt
  ihave HH := (share2 1 bBot fullShare (accS m 0)).2 $$ [Bbl Bbr]
  · iframe Bbl Bbr
  irename HH => Bb
  ihave HH := (share2 1 blM fullShare (lT m 0)).2 $$ [Bll Blr]
  · iframe Bll Blr
  irename HH => Bl
  ihave HH := (halvesB 1 fullShare (accS m 0)).2 $$ [Bt Bb]
  · iframe Bt Bb
  irename HH => Ba
  ihave Y_baM := (toAny 1 baM (accS m 0)) $$ Ba
  ihave Y_blM := (toAny 1 blM (lT m 0)) $$ Bl
  ihave Y_aM := (toAny 1 aM (accS m 1)) $$ HA
  ihave Y_lM := (toAny 1 lM (lT m 1)) $$ HL
  ihave Y_tM := (toAny 1 tM (totA m 1)) $$ HT
  ihave Y_uM := (toAny 1 uM (totL m 1)) $$ HU
  ihave Y1_s2 := (toAny 1 s2 (stripA m)) $$ W_s2
  ihave Y1_s3 := (toAny 1 s3 (stripA m)) $$ W_s3
  ihave Y1_sl2 := (toAny 1 sl2 (stripL m)) $$ W_sl2
  ihave Y1_sl3 := (toAny 1 sl3 (stripL m)) $$ W_sl3
  ihave HH := (slots (F := F) 1).2 $$ [Y1_s1 Y1_sB Y1_s2 Y1_s3 Rs]
  · iframe Y1_s1 Y1_sB Y1_s2 Y1_s3 Rs
  irename HH => Y_saM
  ihave HH := (slotsL (F := F) 1).2 $$ [Y1_sl1 Y1_slB Y1_sl2 Y1_sl3 Rl]
  · iframe Y1_sl1 Y1_slB Y1_sl2 Y1_sl3 Rl
  irename HH => Y_slM
  imod (close0 1 q6 (by decide) rfl) $$ HE A6 with Z6
  imod (close0 1 q7 (by decide) rfl) $$ HE A7 with Z7
  imod (close0 1 q8 (by decide) rfl) $$ HE A8 with Z8
  imod (close0 1 q9 (by decide) rfl) $$ HE A9 with Z9
  imod (close0 1 q10 (by decide) rfl) $$ HE A10 with Z10
  imod (close0 1 q11 (by decide) rfl) $$ HE A11 with Z11
  imod (close0 1 q29 (by decide) rfl) $$ HE A29 with Z29
  imod (close0 1 q30 (by decide) rfl) $$ HE A30 with Z30
  imod (close0 1 q31 (by decide) rfl) $$ HE A31 with Z31
  imod (close0 1 q32 (by decide) rfl) $$ HE A32 with Z32
  imod (close0 1 q33 (by decide) rfl) $$ HE A33 with Z33
  imod (close0 1 q34 (by decide) rfl) $$ HE A34 with Z34
  imod (close0 1 q35 (by decide) rfl) $$ HE A35 with Z35
  imod (close0 1 q36 (by decide) rfl) $$ HE A36 with Z36
  imod (close0 1 q38 (by decide) rfl) $$ HE A38 with Z38
  imod (close0 1 q40 (by decide) rfl) $$ HE A40 with Z40
  imod (close0 1 q42 (by decide) rfl) $$ HE A42 with Z42
  imod (close0 1 q44 (by decide) rfl) $$ HE A44 with Z44
  iapply retW
  iapply HQ
  iframe O Ze Y_baM Y_blM Y_aM Y_lM Y_tM Y_uM Y_saM Y_slM Z6 Z7 Z8 Z9 Z10 Z11 Z29 Z30 Z31 Z32 Z33 Z34 Z35 Z36 Z38 Z40 Z42 Z44

end Cert.RunI

end
-- ==== Proof.RunI.Tail1.lean ====
/-
# Device 1: the end of its program
-/
module

public import proofs.«01_k».proof.Proof.RunI.Tail
public import proofs.«01_k».proof.Proof.RunI.Role1p29
public import proofs.«01_k».proof.Proof.RunI.Role1p30
public import proofs.«01_k».proof.Proof.RunI.Role1p31
public import proofs.«01_k».proof.Proof.RunI.Role1p32
public import proofs.«01_k».proof.Proof.RunI.Role1pend

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The waits that device 1 is to be paid for, one by one. -/
theorem passes1 : (bigSepL (passes 1) fun x => pass (F := F) 1 x.1 x.2) = iprop(pass (F := F) 1 (.reg barS) 3 ∗ pass (F := F) 1 (.reg exitS) 3 ∗ pass (F := F) 1 (.dma q12) (amt q12.val) ∗ pass (F := F) 1 (.dma q13) (amt q13.val) ∗ pass (F := F) 1 (.dma q14) (amt q14.val) ∗ pass (F := F) 1 (.dma q37) (amt q37.val) ∗ pass (F := F) 1 (.dma q39) (amt q39.val) ∗ pass (F := F) 1 (.dma q41) (amt q41.val) ∗ pass (F := F) 1 (.dma q43) (amt q43.val)) := rfl
/-- The duties that device 1 is to pay, one by one. -/
theorem toks1 : (bigSepL (toks 1) fun x => tok (F := F) x.1 x.2.1 x.2.2) = iprop(tok (F := F) 2 (.reg barS) 1 ∗ tok (F := F) 3 (.reg barS) 1 ∗ tok (F := F) 0 (.reg barS) 1 ∗ tok (F := F) 2 (.reg exitS) 1 ∗ tok (F := F) 3 (.reg exitS) 1 ∗ tok (F := F) 0 (.reg exitS) 1 ∗ tok (F := F) 1 (.dma q17) 0 ∗ tok (F := F) 0 (.dma q33) 0 ∗ tok (F := F) 1 (.dma q19) 0 ∗ tok (F := F) 0 (.dma q35) 0 ∗ tok (F := F) 1 (.dma q18) 0 ∗ tok (F := F) 0 (.dma q34) 0 ∗ tok (F := F) 1 (.dma q20) 0 ∗ tok (F := F) 0 (.dma q36) 0 ∗ tok (F := F) 1 (.dma q21) 0 ∗ tok (F := F) 2 (.dma q33) 0 ∗ tok (F := F) 1 (.dma q23) 0 ∗ tok (F := F) 2 (.dma q35) 0 ∗ tok (F := F) 1 (.dma q22) 0 ∗ tok (F := F) 2 (.dma q34) 0 ∗ tok (F := F) 1 (.dma q24) 0 ∗ tok (F := F) 2 (.dma q36) 0 ∗ tok (F := F) 1 (.dma q25) 0 ∗ tok (F := F) 3 (.dma q33) 0 ∗ tok (F := F) 1 (.dma q27) 0 ∗ tok (F := F) 3 (.dma q35) 0 ∗ tok (F := F) 1 (.dma q26) 0 ∗ tok (F := F) 3 (.dma q34) 0 ∗ tok (F := F) 1 (.dma q28) 0 ∗ tok (F := F) 3 (.dma q36) 0 ∗ tok (F := F) 1 (.dma q15) 0 ∗ tok (F := F) 2 (.dma q12) 0 ∗ tok (F := F) 1 (.dma q16) 0 ∗ tok (F := F) 2 (.dma q14) 0) := rfl

set_option maxHeartbeats 3200000

/-- The whole exchange on device 1, from its own sums to its result. -/
theorem tail1 {K : Dev nD × Fin 41 → ℕ} {v237 v238 : BitVec 32} {v239 v240 : BitVec 1} {Q : PUnit → sProp 𝕄} :
    iprop(env m K ∗ Mid m 1) ⊢ iprop((Done m 1 -∗ Q ⟨⟩)
      -∗ Wp 1 (tailP (F := F) 1 1#32 (SemArray.scalar (sig.barrier 0 rfl)) v237 v238 v239 v240) Q) := by
  unfold tailP Mid Ghost Done Closed
  rw [cells_at, cells_at, passes1, toks1]
  simp only [semSignalWord, semWaitWord, Prog.lift, Prog.bind_op, Prog.bind_ret, Prog.pure_eq_ret]
  simp only [wp_bind]
  iintro ⟨#HE, ⟨⟨Ab, A6, A7, A8, A9, A10, A11, A12, A13, A14, A15, A16, A17, A18, A19, A20, A21, A22, A23, A24, A25, A26, A27, A28, A29, A30, A31, A32, A33, A34, A35, A36, A37, A38, A39, A40, A41, A42, A43, A44, Ae⟩, ⟨Pb, Pe, P12, P13, P14, P37, P39, P41, P43⟩, ⟨Kb2, Kb3, Kb0, Ke2, Ke3, Ke0, K17, R0_33, K19, R0_35, K18, R0_34, K20, R0_36, K21, R2_33, K23, R2_35, K22, R2_34, K24, R2_36, K25, R3_33, K27, R3_35, K26, R3_34, K28, R3_36, K15, R2_12, K16, R2_14⟩, O⟩, HW, Y_outM, HT, HU, HA, HL, Y_baM, Y_blM, Y_saM, Y_slM⟩ HQ
  ihave O := (Entails.of_eq (show owesE (F := F) 1 (debts 1) = owesE (F := F) 1 ((debts 1).drop 0) from rfl)) $$ O
  iapply (r1_29 m) $$ [Y_saM Y_slM Y_baM Y_blM O Kb2 Kb3 Kb0]
  · iframe HE Y_saM Y_slM Y_baM Y_blM O Kb2 Kb3 Kb0
  iintro ⟨O, Y1_s1, Y1_sB, Rs, Y1_sl1, Y1_slB, Rl⟩
  iapply (r1_30 m) $$ [O Ab Pb HA HL K17 R0_33 K19 R0_35 K18 R0_34 K20 R0_36 K21 R2_33 K23 R2_35 K22 R2_34 K24 R2_36 K25 R3_33 K27 R3_35 K26 R3_34 K28 R3_36 A12 P12 K15 R2_12 A14 P14 K16 R2_14 A13 P13 HT HU A37 P37 A39 P39 A41 P41 A43 P43]
  · iframe HE O Ab Pb HA HL K17 R0_33 K19 R0_35 K18 R0_34 K20 R0_36 K21 R2_33 K23 R2_35 K22 R2_34 K24 R2_36 K25 R3_33 K27 R3_35 K26 R3_34 K28 R3_36 A12 P12 K15 R2_12 A14 P14 K16 R2_14 A13 P13 HT HU A37 P37 A39 P39 A41 P41 A43 P43
  iintro ⟨O, HT, HU, Zb, Ra, Rll, P17, P19, P18, P20, P21, P23, P22, P24, P25, P27, P26, P28, Z12, P15, Z14, Blr, P16, Z13, Bbl, Btr, Bbr, W_s2, Z37, W_sl2, Z39, W_s3, Z41, W_sl3, Z43⟩
  iapply (r1_31 m) $$ [HW Y_outM O A17 P17 A19 P19 A18 P18 A20 P20 A21 P21 A23 P23 A22 P22 A24 P24 A25 P25 A27 P27 A26 P26 A28 P28 A15 P15 A16 P16]
  · iframe HE HW Y_outM O A17 P17 A19 P19 A18 P18 A20 P20 A21 P21 A23 P23 A22 P22 A24 P24 A25 P25 A27 P27 A26 P26 A28 P28 A15 P15 A16 P16
  iintro ⟨O, HW, HO, Xg0, Z17, Lg0, Z19, Xb0, Z18, Lb0, Z20, Xg1, Z21, Lg1, Z23, Xb1, Z22, Lb1, Z24, Xg2, Z25, Lg2, Z27, Xb2, Z26, Lb2, Z28, Btl, Z15, Bll, Z16⟩
  iapply (r1_32 m) $$ [O Ke2 Ke3]
  · iframe HE O Ke2 Ke3
  iintro O
  iapply (r1_end m) $$ [O Ke0 Ae Pe Xg0 Xg1 Xg2 Lg0 Lg1 Lg2 Xb0 Xb1 Xb2 Lb0 Lb1 Lb2 Ra Rll Btl Btr Bbl Bbr Bll Blr HT HU W_s2 W_s3 W_sl2 W_sl3 Y1_s1 Y1_sB Rs Y1_sl1 Y1_slB Rl A6 A7 A8 A9 A10 A11 A29 A30 A31 A32 A33 A34 A35 A36 A38 A40 A42 A44]
  · iframe HE O Ke0 Ae Pe Xg0 Xg1 Xg2 Lg0 Lg1 Lg2 Xb0 Xb1 Xb2 Lb0 Lb1 Lb2 Ra Rll Btl Btr Bbl Bbr Bll Blr HT HU W_s2 W_s3 W_sl2 W_sl3 Y1_s1 Y1_sB Rs Y1_sl1 Y1_slB Rl A6 A7 A8 A9 A10 A11 A29 A30 A31 A32 A33 A34 A35 A36 A38 A40 A42 A44
  iintro ⟨O, Ze, Y_baM, Y_blM, Y_aM, Y_lM, Y_tM, Y_uM, Y_saM, Y_slM, Z6, Z7, Z8, Z9, Z10, Z11, Z29, Z30, Z31, Z32, Z33, Z34, Z35, Z36, Z38, Z40, Z42, Z44⟩
  iapply HQ
  isplitl [Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze O]
  · isplitl [Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze]
    · iframe Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze
    · iapply (Entails.of_eq (show owesE (F := F) 1 ((debts 1).drop 20) = owesE (F := F) 1 [] from rfl)); iexact O
  · iframe HW HO Y_aM Y_lM Y_baM Y_blM Y_saM Y_slM Y_tM Y_uM

end Cert.RunI

end
-- ==== Proof.RunI.Role2p29.lean ====
/-
# Device 2
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 2 signals its three peers, handing each the regions that it may write. -/
theorem r2_29 {v2 v237 v238 : BitVec 32} {v239 v240 : BitVec 1} {K : Dev nD × Fin 41 → ℕ} {Q : _ → sProp 𝕄} :
    iprop(env m K ∗ Any (F := F) 2 saM
      ∗ Any (F := F) 2 slM
      ∗ Any (F := F) 2 baM
      ∗ Any (F := F) 2 blM
      ∗ owesE (F := F) 2 ((debts 2).drop 0)
      ∗ tok (F := F) 3 (.reg barS) 2
      ∗ tok (F := F) 0 (.reg barS) 2
      ∗ tok (F := F) 1 (.reg barS) 2)
      ⊢ iprop((owesE (F := F) 2 ((debts 2).drop 3)
          ∗ Any (F := F) 2 s2
          ∗ restS (F := F) 2
          ∗ Any (F := F) 2 sl2
          ∗ restSL (F := F) 2
          -∗ Q ⟨⟩)
        -∗ Wp 2 (p29 (F := F) 2 v2 (SemArray.scalar (sig.barrier 0 rfl)) v237 v238 v239 v240) Q) := by
  simp only [p29, k0_part29_eq_skeleton]; unfold k0_part29_skel
  simp only [semSignalWord, semWaitWord, Prog.lift, Prog.bind_op, Prog.bind_ret, Prog.pure_eq_ret]
  iintro ⟨#HE, Y_saM, Y_slM, Y_baM, Y_blM, O, Kb3, Kb0, Kb1⟩ HQ
  ihave HH := (slots (F := F) 2).1 $$ Y_saM
  icases HH with ⟨Y2_s1, Y2_sB, Y2_s2, Y2_s3, Rs⟩
  ihave HH := (slotsL (F := F) 2).1 $$ Y_slM
  icases HH with ⟨Y2_sl1, Y2_slB, Y2_sl2, Y2_sl3, Rl⟩
  ihave HH := (halvesAnyB (F := F) 2).1 $$ Y_baM
  icases HH with ⟨Y2_bTop, Y2_bBot⟩
  irename Y_blM => Y2_blM
  ihave O := (Entails.of_eq (show owesE (F := F) 2 ((debts 2).drop 0) = owesE 2 ((3, .reg barS, 1) :: (debts 2).drop 1) from rfl)) $$ O
  iapply (sigR 2 3 ⟨k0_dev1 2, k0_dev1_lt 2⟩ (by decide) barS ((debts 2).drop 1) (by decide)) $$ HE Kb3 [Y2_s3 Y2_sl3 Y2_bBot] O
  · iapply (Entails.of_eq (pay_3_2 (F := F)).symm); iframe Y2_s3 Y2_sl3 Y2_bBot
  iintro O
  ihave O := (Entails.of_eq (show owesE (F := F) 2 ((debts 2).drop 1) = owesE 2 ((0, .reg barS, 1) :: (debts 2).drop 2) from rfl)) $$ O
  iapply (sigR 2 0 ⟨k0_dev2 2, k0_dev2_lt 2⟩ (by decide) barS ((debts 2).drop 2) (by decide)) $$ HE Kb0 [] O
  · iapply (Entails.of_eq (pay_0_2 (F := F)).symm); iempintro
  iintro O
  ihave O := (Entails.of_eq (show owesE (F := F) 2 ((debts 2).drop 2) = owesE 2 ((1, .reg barS, 1) :: (debts 2).drop 3) from rfl)) $$ O
  iapply (sigR 2 1 ⟨k0_dev3 2, k0_dev3_lt 2⟩ (by decide) barS ((debts 2).drop 3) (by decide)) $$ HE Kb1 [Y2_s1 Y2_sB Y2_sl1 Y2_slB Y2_bTop Y2_blM] O
  · iapply (Entails.of_eq (pay_1_2 (F := F)).symm); iframe Y2_s1 Y2_sB Y2_sl1 Y2_slB Y2_bTop Y2_blM
  iintro O
  iapply retW
  iapply HQ
  iframe O Y2_s2 Rs Y2_sl2 Rl

end Cert.RunI

end
-- ==== Proof.RunI.Role2p30.lean ====
/-
# Device 2
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 2 takes its three peers' barrier units, starts its transfers and adds what it is sent, up to its totals. -/
theorem r2_30 {K : Dev nD × Fin 41 → ℕ} {Q : _ → sProp 𝕄} :
    iprop(env m K ∗ owesE (F := F) 2 ((debts 2).drop 3)
      ∗ at0 (F := F) 2 (.reg barS)
      ∗ pass (F := F) 2 (.reg barS) 3
      ∗ Pt 2 aM fullShare (accS m 2)
      ∗ Pt 2 lM fullShare (lT m 2)
      ∗ tok (F := F) 2 (.dma q17) 0
      ∗ tok (F := F) 0 (.dma q37) 0
      ∗ tok (F := F) 2 (.dma q19) 0
      ∗ tok (F := F) 0 (.dma q39) 0
      ∗ tok (F := F) 2 (.dma q21) 0
      ∗ tok (F := F) 1 (.dma q37) 0
      ∗ tok (F := F) 2 (.dma q23) 0
      ∗ tok (F := F) 1 (.dma q39) 0
      ∗ tok (F := F) 2 (.dma q25) 0
      ∗ tok (F := F) 3 (.dma q37) 0
      ∗ tok (F := F) 2 (.dma q27) 0
      ∗ tok (F := F) 3 (.dma q39) 0
      ∗ at0 (F := F) 2 (.dma q12)
      ∗ pass (F := F) 2 (.dma q12) (amt q12.val)
      ∗ at0 (F := F) 2 (.dma q13)
      ∗ pass (F := F) 2 (.dma q13) (amt q13.val)
      ∗ at0 (F := F) 2 (.dma q14)
      ∗ pass (F := F) 2 (.dma q14) (amt q14.val)
      ∗ Pt 2 tM fullShare (accT m 2)
      ∗ Pt 2 uM fullShare (lT m 2)
      ∗ at0 (F := F) 2 (.dma q33)
      ∗ pass (F := F) 2 (.dma q33) (amt q33.val)
      ∗ at0 (F := F) 2 (.dma q35)
      ∗ pass (F := F) 2 (.dma q35) (amt q35.val)
      ∗ at0 (F := F) 2 (.dma q34)
      ∗ pass (F := F) 2 (.dma q34) (amt q34.val)
      ∗ at0 (F := F) 2 (.dma q36)
      ∗ pass (F := F) 2 (.dma q36) (amt q36.val)
      ∗ at0 (F := F) 2 (.dma q41)
      ∗ pass (F := F) 2 (.dma q41) (amt q41.val)
      ∗ at0 (F := F) 2 (.dma q43)
      ∗ pass (F := F) 2 (.dma q43) (amt q43.val))
      ⊢ iprop((owesE (F := F) 2 ((debts 2).drop 9)
          ∗ Pt 2 tM fullShare (totA m 2)
          ∗ Pt 2 uM fullShare (totL m 2)
          ∗ fin0 (F := F) 2 (.reg barS)
          ∗ Pt 2 aB fullShare (accS m 2)
          ∗ restA 2 (accS m 2)
          ∗ Pt 2 lB fullShare (lT m 2)
          ∗ restL 2 (lT m 2)
          ∗ pass (F := F) 2 (.dma q17) (amt q17.val)
          ∗ pass (F := F) 2 (.dma q19) (amt q19.val)
          ∗ pass (F := F) 2 (.dma q21) (amt q21.val)
          ∗ pass (F := F) 2 (.dma q23) (amt q23.val)
          ∗ pass (F := F) 2 (.dma q25) (amt q25.val)
          ∗ pass (F := F) 2 (.dma q27) (amt q27.val)
          ∗ fin0 (F := F) 2 (.dma q12)
          ∗ fin0 (F := F) 2 (.dma q13)
          ∗ Pt 2 blM fullShare (lT m 0)
          ∗ fin0 (F := F) 2 (.dma q14)
          ∗ Pt 2 bTop fullShare (accS m 0)
          ∗ Pt 2 bBot fullShare (accS m 0)
          ∗ Pt 2 s1 fullShare (stripA m)
          ∗ fin0 (F := F) 2 (.dma q33)
          ∗ Pt 2 sl1 fullShare (stripL m)
          ∗ fin0 (F := F) 2 (.dma q35)
          ∗ Pt 2 sB fullShare (stripA m)
          ∗ fin0 (F := F) 2 (.dma q34)
          ∗ Pt 2 slB fullShare (stripL m)
          ∗ fin0 (F := F) 2 (.dma q36)
          ∗ Pt 2 s3 fullShare (stripA m)
          ∗ fin0 (F := F) 2 (.dma q41)
          ∗ Pt 2 sl3 fullShare (stripL m)
          ∗ fin0 (F := F) 2 (.dma q43)
          -∗ Q ⟨totA m 2, totL m 2, k0_pay72 (totA m 2), k0_pay73 (totL m 2)⟩)
        -∗ Wp 2 (p30 (F := F) 2 2#32 (SemArray.scalar (sig.barrier 0 rfl))) Q) := by
  simp only [p30, k0_part30_eq_skeleton]; unfold k0_part30_skel
  have h1 : ¬ (k0_cond1 2 = 1#1) := by decide
  have h2 : ¬ (k0_cond2 2 = 1#1) := by decide
  have h3 : (k0_cond3 2 = 1#1) := by decide
  have h4 : ¬ (k0_cond4 2 = 1#1) := by decide
  have h5 : (Scalar.cmpi .ne (Scalar.extui (Scalar.cmpi .ne 2#32 0#32) : BitVec 32) 0#32 = 1#1) := by decide
  have h6 : (Scalar.cmpi .ne (Scalar.extui (Scalar.cmpi .ne 2#32 1#32) : BitVec 32) 0#32 = 1#1) := by decide
  have h7 : ¬ (Scalar.cmpi .ne (Scalar.extui (Scalar.cmpi .ne 2#32 2#32) : BitVec 32) 0#32 = 1#1) := by decide
  have h8 : (Scalar.cmpi .ne (Scalar.extui (Scalar.cmpi .ne 2#32 3#32) : BitVec 32) 0#32 = 1#1) := by decide
  simp only [dif_neg h1, dif_neg h2, dif_pos h3, dif_neg h4, dif_pos h5, dif_pos h6, dif_neg h7, dif_pos h8]
  simp only [k0_part7_eq_skeleton, k0_part8_eq_skeleton, k0_part12_eq_skeleton, k0_part13_eq_skeleton, k0_part15_eq_skeleton]
  unfold k0_part7_skel k0_part8_skel k0_part12_skel k0_part13_skel k0_part15_skel
  simp only [semSignalWord, semWaitWord, Prog.lift, Prog.bind_op, Prog.bind_ret, Prog.pure_eq_ret]
  iintro ⟨#HE, O, Ab, Pb, HA, HL, K17, R0_37, K19, R0_39, K21, R1_37, K23, R1_39, K25, R3_37, K27, R3_39, A12, P12, A13, P13, A14, P14, HT, HU, A33, P33, A35, P35, A34, P34, A36, P36, A41, P41, A43, P43⟩ HQ
  iapply (waitR 2 barS ((debts 2).drop 3) (by decide)) $$ HE Ab Pb O; iintro Hp Zb O
  ihave Hp := (Entails.of_eq (got_2 (F := F))) $$ Hp
  icases Hp with ⟨H0, H1, H2⟩
  ihave H0 := (Entails.of_eq (pay_2_0 (F := F))) $$ H0
  icases H0 with ⟨Y0_s2, Y0_sl2⟩
  ihave H1 := (Entails.of_eq (pay_2_1 (F := F))) $$ H1
  icases H1 with ⟨Y1_s2, Y1_sl2⟩
  ihave H2 := (Entails.of_eq (pay_2_3 (F := F))) $$ H2
  icases H2 with ⟨Y3_s2, Y3_sl2⟩
  ihave HH := (sentA 2 (accS m 2)).1 $$ HA
  icases HH with ⟨Xg, Xb, Ra⟩
  ihave HH := (sentL 2 (lT m 2)).1 $$ HL
  icases HH with ⟨Lg, Lb, Rll⟩
  ihave HH := (share3 2 aG (accS m 2)).1 $$ Xg
  icases HH with ⟨Xg0, Xg1, Xg2⟩
  ihave HH := (share3 2 lG (lT m 2)).1 $$ Lg
  icases HH with ⟨Lg0, Lg1, Lg2⟩
  ihave O := (Entails.of_eq (show owesE (F := F) 2 ((debts 2).drop 3) = owesE 2 ((0, .dma q37, amt q37.val) :: (debts 2).drop 4) from rfl)) $$ O
  show Entails' (PROP := sProp 𝕄) _ (Wp 2 (.op (.enqueueDma aG (.remote ((⟨k0_dev24, k0_dev24_lt 2 h3⟩ : Dev nD) : Thread nD τ) s2 (.dma q17) _) (.dma q37) _ _ _) _) Q)
  iapply (xfer 2 0 ⟨k0_dev24, k0_dev24_lt 2 h3⟩ (Fin.ext (show k0_dev24 = 0 from by decide)) q17 q37 aG s2 (part 0) (accS m 2) (stripA m) ((debts 2).drop 4)
    (by decide) (by decide) rfl rfl rfl rfl (Idealize.SL.BI.BIBase.Entails.of_eq rfl) (read_s2 m) (Idealize.SL.BI.BIBase.Entails.of_eq rfl)) $$ HE K17 R0_37 Xg0 Y0_s2 O
  iintro P17 O
  ihave O := (Entails.of_eq (show owesE (F := F) 2 ((debts 2).drop 4) = owesE 2 ((0, .dma q39, amt q39.val) :: (debts 2).drop 5) from rfl)) $$ O
  show Entails' (PROP := sProp 𝕄) _ (Wp 2 (.op (.enqueueDma lG (.remote ((⟨k0_dev25, k0_dev25_lt 2 h3⟩ : Dev nD) : Thread nD τ) sl2 (.dma q19) _) (.dma q39) _ _ _) _) Q)
  iapply (xfer 2 0 ⟨k0_dev25, k0_dev25_lt 2 h3⟩ (Fin.ext (show k0_dev25 = 0 from by decide)) q19 q39 lG sl2 (part 0) (lT m 2) (stripL m) ((debts 2).drop 5)
    (by decide) (by decide) rfl rfl rfl rfl (Idealize.SL.BI.BIBase.Entails.of_eq rfl) (read_sl2 m) (Idealize.SL.BI.BIBase.Entails.of_eq rfl)) $$ HE K19 R0_39 Lg0 Y0_sl2 O
  iintro P19 O
  ihave O := (Entails.of_eq (show owesE (F := F) 2 ((debts 2).drop 5) = owesE 2 ((1, .dma q37, amt q37.val) :: (debts 2).drop 6) from rfl)) $$ O
  show Entails' (PROP := sProp 𝕄) _ (Wp 2 (.op (.enqueueDma aG (.remote ((⟨k0_dev26, k0_dev26_lt 2 h3⟩ : Dev nD) : Thread nD τ) s2 (.dma q21) _) (.dma q37) _ _ _) _) Q)
  iapply (xfer 2 1 ⟨k0_dev26, k0_dev26_lt 2 h3⟩ (Fin.ext (show k0_dev26 = 1 from by decide)) q21 q37 aG s2 (part 1) (accS m 2) (stripA m) ((debts 2).drop 6)
    (by decide) (by decide) rfl rfl rfl rfl (Idealize.SL.BI.BIBase.Entails.of_eq rfl) (read_s2 m) (Idealize.SL.BI.BIBase.Entails.of_eq rfl)) $$ HE K21 R1_37 Xg1 Y1_s2 O
  iintro P21 O
  ihave O := (Entails.of_eq (show owesE (F := F) 2 ((debts 2).drop 6) = owesE 2 ((1, .dma q39, amt q39.val) :: (debts 2).drop 7) from rfl)) $$ O
  show Entails' (PROP := sProp 𝕄) _ (Wp 2 (.op (.enqueueDma lG (.remote ((⟨k0_dev27, k0_dev27_lt 2 h3⟩ : Dev nD) : Thread nD τ) sl2 (.dma q23) _) (.dma q39) _ _ _) _) Q)
  iapply (xfer 2 1 ⟨k0_dev27, k0_dev27_lt 2 h3⟩ (Fin.ext (show k0_dev27 = 1 from by decide)) q23 q39 lG sl2 (part 1) (lT m 2) (stripL m) ((debts 2).drop 7)
    (by decide) (by decide) rfl rfl rfl rfl (Idealize.SL.BI.BIBase.Entails.of_eq rfl) (read_sl2 m) (Idealize.SL.BI.BIBase.Entails.of_eq rfl)) $$ HE K23 R1_39 Lg1 Y1_sl2 O
  iintro P23 O
  ihave O := (Entails.of_eq (show owesE (F := F) 2 ((debts 2).drop 7) = owesE 2 ((3, .dma q37, amt q37.val) :: (debts 2).drop 8) from rfl)) $$ O
  show Entails' (PROP := sProp 𝕄) _ (Wp 2 (.op (.enqueueDma aG (.remote ((⟨k0_dev28, k0_dev28_lt 2 h3⟩ : Dev nD) : Thread nD τ) s2 (.dma q25) _) (.dma q37) _ _ _) _) Q)
  iapply (xfer 2 3 ⟨k0_dev28, k0_dev28_lt 2 h3⟩ (Fin.ext (show k0_dev28 = 3 from by decide)) q25 q37 aG s2 (part 2) (accS m 2) (stripA m) ((debts 2).drop 8)
    (by decide) (by decide) rfl rfl rfl rfl (Idealize.SL.BI.BIBase.Entails.of_eq rfl) (read_s2 m) (Idealize.SL.BI.BIBase.Entails.of_eq rfl)) $$ HE K25 R3_37 Xg2 Y3_s2 O
  iintro P25 O
  ihave O := (Entails.of_eq (show owesE (F := F) 2 ((debts 2).drop 8) = owesE 2 ((3, .dma q39, amt q39.val) :: (debts 2).drop 9) from rfl)) $$ O
  show Entails' (PROP := sProp 𝕄) _ (Wp 2 (.op (.enqueueDma lG (.remote ((⟨k0_dev29, k0_dev29_lt 2 h3⟩ : Dev nD) : Thread nD τ) sl2 (.dma q27) _) (.dma q39) _ _ _) _) Q)
  iapply (xfer 2 3 ⟨k0_dev29, k0_dev29_lt 2 h3⟩ (Fin.ext (show k0_dev29 = 3 from by decide)) q27 q39 lG sl2 (part 2) (lT m 2) (stripL m) ((debts 2).drop 9)
    (by decide) (by decide) rfl rfl rfl rfl (Idealize.SL.BI.BIBase.Entails.of_eq rfl) (read_sl2 m) (Idealize.SL.BI.BIBase.Entails.of_eq rfl)) $$ HE K27 R3_39 Lg2 Y3_sl2 O
  iintro P27 O
  show Entails' (PROP := sProp 𝕄) _ (Wp 2 (.op (.waitDma2 q12 _ bTop _ _) _) Q)
  iapply (waitD 2 q12 ((debts 2).drop 9) (dst := bTop) (by decide) rfl (by decide) rfl) $$ HE A12 P12 O; iintro Bt Z12 O
  ihave Bt := (Entails.of_eq (show dmaPay m 2 q12.val = Pt 2 bTop fullShare (accS m 0) from rfl)) $$ Bt
  show Entails' (PROP := sProp 𝕄) _ (Wp 2 (.op (.waitDma2 q13 _ bBot _ _) _) Q)
  iapply (waitD 2 q13 ((debts 2).drop 9) (dst := bBot) (by decide) rfl (by decide) rfl) $$ HE A13 P13 O; iintro Bb Z13 O
  ihave Bb := (Entails.of_eq (show dmaPay m 2 q13.val = Pt 2 bBot fullShare (accS m 0) from rfl)) $$ Bb
  show Entails' (PROP := sProp 𝕄) _ (Wp 2 (.op (.waitDma2 q14 _ blM _ _) _) Q)
  iapply (waitD 2 q14 ((debts 2).drop 9) (dst := blM) (by decide) rfl (by decide) rfl) $$ HE A14 P14 O; iintro Bl Z14 O
  ihave Bl := (Entails.of_eq (show dmaPay m 2 q14.val = Pt 2 blM fullShare (lT m 0) from rfl)) $$ Bl
  ihave HH := (halvesB 2 fullShare (accS m 0)).2 $$ [Bt Bb]
  · iframe Bt Bb
  irename HH => Ba
  iapply (ldE 2 tM (accT m 2) (Memref.readAt_unit_zero (Elt F) cc0_scratch6 zero2 _ _)) $$ HT; iintro HT
  iapply (ldE 2 baM (accS m 0) (Memref.readAt_unit_zero (Elt F) cc0_scratch2 zero2 _ _)) $$ Ba; iintro Ba
  iapply (ldE 2 tM (accT m 2) (Memref.readAt_unit_zero (Elt F) cc0_scratch6 zero2 _ _)) $$ HT; iintro HT
  iapply (stE 2 tM (addA m (accT m 2)) (Memref.write_access_unit_zero_univ (Elt F) cc0_scratch6 zero2 _ _ _)) $$ HT; iintro HT
  iapply (ldE 2 uM (lT m 2) (Memref.readAt_unit_zero (Elt F) cc0_scratch7 zero2 _ _)) $$ HU; iintro HU
  iapply (ldE 2 blM (lT m 0) (Memref.readAt_unit_zero (Elt F) cc0_scratch3 zero2 _ _)) $$ Bl; iintro Bl
  iapply (ldE 2 uM (lT m 2) (Memref.readAt_unit_zero (Elt F) cc0_scratch7 zero2 _ _)) $$ HU; iintro HU
  iapply (stE 2 uM (addL m (lT m 2)) (Memref.write_access_unit_zero_univ (Elt F) cc0_scratch7 zero2 _ _ _)) $$ HU; iintro HU
  ihave HH := (halvesB 2 fullShare (accS m 0)).1 $$ Ba
  icases HH with ⟨Bt, Bb⟩
  show Entails' (PROP := sProp 𝕄) _ (Wp 2 (.op (.waitDma2 q33 _ s1 _ _) _) Q)
  iapply (waitD 2 q33 ((debts 2).drop 9) (dst := s1) (by decide) rfl (by decide) rfl) $$ HE A33 P33 O; iintro W_s1 Z33 O
  ihave W_s1 := (Entails.of_eq (show dmaPay m 2 q33.val = Pt 2 s1 fullShare (stripA m) from rfl)) $$ W_s1
  show Entails' (PROP := sProp 𝕄) _ (Wp 2 (.op (.waitDma2 q35 _ sl1 _ _) _) Q)
  iapply (waitD 2 q35 ((debts 2).drop 9) (dst := sl1) (by decide) rfl (by decide) rfl) $$ HE A35 P35 O; iintro W_sl1 Z35 O
  ihave W_sl1 := (Entails.of_eq (show dmaPay m 2 q35.val = Pt 2 sl1 fullShare (stripL m) from rfl)) $$ W_sl1
  iapply (ldE 2 tM (tM.view.readAt (Elt F) rG.toLoadRect (addA m (accT m 2))) rfl) $$ HT; iintro HT
  iapply (ldS 2 saM (saM.view.readAt (Elt F) rs1.toLoadRect (stripA m)) on_s1 rfl) $$ W_s1; iintro W_s1
  iapply (ldE 2 tM (tM.view.readAt (Elt F) rG.toLoadRect (addA m (accT m 2))) rfl) $$ HT; iintro HT
  iapply (stE 2 tM (stA1 m (addA m (accT m 2))) rfl) $$ HT; iintro HT
  iapply (ldE 2 uM (uM.view.readAt (Elt F) rlG.toLoadRect (addL m (lT m 2))) rfl) $$ HU; iintro HU
  iapply (ldS 2 slM (slM.view.readAt (Elt F) rsl1.toLoadRect (stripL m)) on_sl1 rfl) $$ W_sl1; iintro W_sl1
  iapply (ldE 2 uM (uM.view.readAt (Elt F) rlG.toLoadRect (addL m (lT m 2))) rfl) $$ HU; iintro HU
  iapply (stE 2 uM (stL1 m (addL m (lT m 2))) rfl) $$ HU; iintro HU
  show Entails' (PROP := sProp 𝕄) _ (Wp 2 (.op (.waitDma2 q34 _ sB _ _) _) Q)
  iapply (waitD 2 q34 ((debts 2).drop 9) (dst := sB) (by decide) rfl (by decide) rfl) $$ HE A34 P34 O; iintro W_sB Z34 O
  ihave W_sB := (Entails.of_eq (show dmaPay m 2 q34.val = Pt 2 sB fullShare (stripA m) from rfl)) $$ W_sB
  show Entails' (PROP := sProp 𝕄) _ (Wp 2 (.op (.waitDma2 q36 _ slB _ _) _) Q)
  iapply (waitD 2 q36 ((debts 2).drop 9) (dst := slB) (by decide) rfl (by decide) rfl) $$ HE A36 P36 O; iintro W_slB Z36 O
  ihave W_slB := (Entails.of_eq (show dmaPay m 2 q36.val = Pt 2 slB fullShare (stripL m) from rfl)) $$ W_slB
  iapply (ldE 2 tM (tM.view.readAt (Elt F) rB.toLoadRect (stA1 m (addA m (accT m 2)))) rfl) $$ HT; iintro HT
  iapply (ldS 2 saM (saM.view.readAt (Elt F) rsB.toLoadRect (stripA m)) on_sB rfl) $$ W_sB; iintro W_sB
  iapply (ldE 2 tM (tM.view.readAt (Elt F) rB.toLoadRect (stA1 m (addA m (accT m 2)))) rfl) $$ HT; iintro HT
  iapply (stE 2 tM (stAB m (stA1 m (addA m (accT m 2)))) rfl) $$ HT; iintro HT
  iapply (ldE 2 uM (uM.view.readAt (Elt F) rlB.toLoadRect (stL1 m (addL m (lT m 2)))) rfl) $$ HU; iintro HU
  iapply (ldS 2 slM (slM.view.readAt (Elt F) rslB.toLoadRect (stripL m)) on_slB rfl) $$ W_slB; iintro W_slB
  iapply (ldE 2 uM (uM.view.readAt (Elt F) rlB.toLoadRect (stL1 m (addL m (lT m 2)))) rfl) $$ HU; iintro HU
  iapply (stE 2 uM (stLB m (stL1 m (addL m (lT m 2)))) rfl) $$ HU; iintro HU
  show Entails' (PROP := sProp 𝕄) _ (Wp 2 (.op (.waitDma2 q41 _ s3 _ _) _) Q)
  iapply (waitD 2 q41 ((debts 2).drop 9) (dst := s3) (by decide) rfl (by decide) rfl) $$ HE A41 P41 O; iintro W_s3 Z41 O
  ihave W_s3 := (Entails.of_eq (show dmaPay m 2 q41.val = Pt 2 s3 fullShare (stripA m) from rfl)) $$ W_s3
  show Entails' (PROP := sProp 𝕄) _ (Wp 2 (.op (.waitDma2 q43 _ sl3 _ _) _) Q)
  iapply (waitD 2 q43 ((debts 2).drop 9) (dst := sl3) (by decide) rfl (by decide) rfl) $$ HE A43 P43 O; iintro W_sl3 Z43 O
  ihave W_sl3 := (Entails.of_eq (show dmaPay m 2 q43.val = Pt 2 sl3 fullShare (stripL m) from rfl)) $$ W_sl3
  iapply (ldE 2 tM (tM.view.readAt (Elt F) rG.toLoadRect (stAB m (stA1 m (addA m (accT m 2))))) rfl) $$ HT; iintro HT
  iapply (ldS 2 saM (saM.view.readAt (Elt F) rs3.toLoadRect (stripA m)) on_s3 rfl) $$ W_s3; iintro W_s3
  iapply (ldE 2 tM (tM.view.readAt (Elt F) rG.toLoadRect (stAB m (stA1 m (addA m (accT m 2))))) rfl) $$ HT; iintro HT
  iapply (stE 2 tM (stA3 m (stAB m (stA1 m (addA m (accT m 2))))) rfl) $$ HT; iintro HT
  iapply (ldE 2 uM (uM.view.readAt (Elt F) rlG.toLoadRect (stLB m (stL1 m (addL m (lT m 2))))) rfl) $$ HU; iintro HU
  iapply (ldS 2 slM (slM.view.readAt (Elt F) rsl3.toLoadRect (stripL m)) on_sl3 rfl) $$ W_sl3; iintro W_sl3
  iapply (ldE 2 uM (uM.view.readAt (Elt F) rlG.toLoadRect (stLB m (stL1 m (addL m (lT m 2))))) rfl) $$ HU; iintro HU
  iapply (stE 2 uM (stL3 m (stLB m (stL1 m (addL m (lT m 2))))) rfl) $$ HU; iintro HU
  ihave HT := (Entails.of_eq (show Pt 2 tM fullShare (stA3 m (stAB m (stA1 m (addA m (accT m 2))))) = Pt 2 tM fullShare (totA m 2) from rfl)) $$ HT
  ihave HU := (Entails.of_eq (show Pt 2 uM fullShare (stL3 m (stLB m (stL1 m (addL m (lT m 2))))) = Pt 2 uM fullShare (totL m 2) from rfl)) $$ HU
  iapply (ldE 2 tM (totA m 2) (Memref.readAt_unit_zero (Elt F) cc0_scratch6 zero2 _ _)) $$ HT; iintro HT
  iapply (ldE 2 uM (totL m 2) (Memref.readAt_unit_zero (Elt F) cc0_scratch7 zero2 _ _)) $$ HU; iintro HU
  iapply retW
  iapply HQ
  iframe O HT HU Zb Xb Ra Lb Rll P17 P19 P21 P23 P25 P27 Z12 Z13 Bl Z14 Bt Bb W_s1 Z33 W_sl1 Z35 W_sB Z34 W_slB Z36 W_s3 Z41 W_sl3 Z43

end Cert.RunI

end
-- ==== Proof.RunI.Role2p31.lean ====
/-
# Device 2
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 2 writes its result and begins to take back what its transfers borrowed. -/
theorem r2_31 {K : Dev nD × Fin 41 → ℕ} {Q : _ → sProp 𝕄} :
    iprop(env m K ∗ Pt 2 woM fullShare (woIn m 2)
      ∗ Any (F := F) 2 outM
      ∗ owesE (F := F) 2 ((debts 2).drop 9)
      ∗ at0 (F := F) 2 (.dma q17)
      ∗ pass (F := F) 2 (.dma q17) (amt q17.val)
      ∗ at0 (F := F) 2 (.dma q19)
      ∗ pass (F := F) 2 (.dma q19) (amt q19.val)
      ∗ at0 (F := F) 2 (.dma q21)
      ∗ pass (F := F) 2 (.dma q21) (amt q21.val)
      ∗ at0 (F := F) 2 (.dma q23)
      ∗ pass (F := F) 2 (.dma q23) (amt q23.val)
      ∗ at0 (F := F) 2 (.dma q25)
      ∗ pass (F := F) 2 (.dma q25) (amt q25.val)
      ∗ at0 (F := F) 2 (.dma q27)
      ∗ pass (F := F) 2 (.dma q27) (amt q27.val))
      ⊢ iprop((owesE (F := F) 2 ((debts 2).drop 9)
          ∗ Pt 2 woM fullShare (woIn m 2)
          ∗ Pt 2 outM fullShare (outV m 2)
          ∗ Pt 2 aG (part 0) (accS m 2)
          ∗ fin0 (F := F) 2 (.dma q17)
          ∗ Pt 2 lG (part 0) (lT m 2)
          ∗ fin0 (F := F) 2 (.dma q19)
          ∗ Pt 2 aG (part 1) (accS m 2)
          ∗ fin0 (F := F) 2 (.dma q21)
          ∗ Pt 2 lG (part 1) (lT m 2)
          ∗ fin0 (F := F) 2 (.dma q23)
          ∗ Pt 2 aG (part 2) (accS m 2)
          ∗ fin0 (F := F) 2 (.dma q25)
          ∗ Pt 2 lG (part 2) (lT m 2)
          ∗ fin0 (F := F) 2 (.dma q27)
          -∗ Q 3#32)
        -∗ Wp 2 (p31 (F := F) 2#32 (totA m 2) (totL m 2) (k0_pay72 (totA m 2)) (k0_pay73 (totL m 2))) Q) := by
  simp only [p31, k0_part31_eq_skeleton]; unfold k0_part31_skel
  have h9 : ¬ (Scalar.cmpi .ne (Scalar.extui (Scalar.cmpi .eq 2#32 0#32) : BitVec 32) 0#32 = 1#1) := by decide
  have h10 : ¬ (Scalar.cmpi .ne (Scalar.extui (Scalar.cmpi .eq 2#32 1#32) : BitVec 32) 0#32 = 1#1) := by decide
  have h11 : (Scalar.cmpi .ne (Scalar.extui (Scalar.cmpi .eq 2#32 2#32) : BitVec 32) 0#32 = 1#1) := by decide
  simp only [dif_neg h9, dif_neg h10, dif_pos h11]
  simp only [k0_part20_eq_skeleton]
  unfold k0_part20_skel
  simp only [semSignalWord, semWaitWord, Prog.lift, Prog.bind_op, Prog.bind_ret, Prog.pure_eq_ret]
  iintro ⟨#HE, HW, Y_outM, O, A17, P17, A19, P19, A21, P21, A23, P23, A25, P25, A27, P27⟩ HQ
  iapply (ldE 2 woM (woIn m 2) (Memref.readAt_unit_zero (Elt F) cc0_stg4_0 zero2 _ _)) $$ HW; iintro HW
  unfold Any; icases Y_outM with ⟨%fo, HO⟩
  iapply (ldE 2 outM fo (Memref.readAt_unit_zero (Elt F) cc0_stg5_0 zero2 _ _)) $$ HO; iintro HO
  iapply (stE 2 outM (outV m 2) (Memref.write_access_unit_zero_univ (Elt F) cc0_stg5_0 zero2 _ _ _)) $$ HO; iintro HO
  show Entails' (PROP := sProp 𝕄) _ (Wp 2 (.op (.waitDma2 q17 _ aG _ _) _) Q)
  iapply (waitD 2 q17 ((debts 2).drop 9) (dst := aG) (by decide) rfl (by decide) rfl) $$ HE A17 P17 O; iintro Xg0 Z17 O
  ihave Xg0 := (Entails.of_eq (show dmaPay m 2 q17.val = Pt 2 aG (part 0) (accS m 2) from rfl)) $$ Xg0
  show Entails' (PROP := sProp 𝕄) _ (Wp 2 (.op (.waitDma2 q19 _ lG _ _) _) Q)
  iapply (waitD 2 q19 ((debts 2).drop 9) (dst := lG) (by decide) rfl (by decide) rfl) $$ HE A19 P19 O; iintro Lg0 Z19 O
  ihave Lg0 := (Entails.of_eq (show dmaPay m 2 q19.val = Pt 2 lG (part 0) (lT m 2) from rfl)) $$ Lg0
  show Entails' (PROP := sProp 𝕄) _ (Wp 2 (.op (.waitDma2 q21 _ aG _ _) _) Q)
  iapply (waitD 2 q21 ((debts 2).drop 9) (dst := aG) (by decide) rfl (by decide) rfl) $$ HE A21 P21 O; iintro Xg1 Z21 O
  ihave Xg1 := (Entails.of_eq (show dmaPay m 2 q21.val = Pt 2 aG (part 1) (accS m 2) from rfl)) $$ Xg1
  show Entails' (PROP := sProp 𝕄) _ (Wp 2 (.op (.waitDma2 q23 _ lG _ _) _) Q)
  iapply (waitD 2 q23 ((debts 2).drop 9) (dst := lG) (by decide) rfl (by decide) rfl) $$ HE A23 P23 O; iintro Lg1 Z23 O
  ihave Lg1 := (Entails.of_eq (show dmaPay m 2 q23.val = Pt 2 lG (part 1) (lT m 2) from rfl)) $$ Lg1
  show Entails' (PROP := sProp 𝕄) _ (Wp 2 (.op (.waitDma2 q25 _ aG _ _) _) Q)
  iapply (waitD 2 q25 ((debts 2).drop 9) (dst := aG) (by decide) rfl (by decide) rfl) $$ HE A25 P25 O; iintro Xg2 Z25 O
  ihave Xg2 := (Entails.of_eq (show dmaPay m 2 q25.val = Pt 2 aG (part 2) (accS m 2) from rfl)) $$ Xg2
  show Entails' (PROP := sProp 𝕄) _ (Wp 2 (.op (.waitDma2 q27 _ lG _ _) _) Q)
  iapply (waitD 2 q27 ((debts 2).drop 9) (dst := lG) (by decide) rfl (by decide) rfl) $$ HE A27 P27 O; iintro Lg2 Z27 O
  ihave Lg2 := (Entails.of_eq (show dmaPay m 2 q27.val = Pt 2 lG (part 2) (lT m 2) from rfl)) $$ Lg2
  iapply retW
  iapply HQ
  iframe O HW HO Xg0 Z17 Lg0 Z19 Xg1 Z21 Lg1 Z23 Xg2 Z25 Lg2 Z27

end Cert.RunI

end
-- ==== Proof.RunI.Role2p32.lean ====
/-
# Device 2
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 2 signals two peers that it is about to leave. -/
theorem r2_32 {K : Dev nD × Fin 41 → ℕ} {Q : _ → sProp 𝕄} :
    iprop(env m K ∗ owesE (F := F) 2 ((debts 2).drop 9)
      ∗ tok (F := F) 3 (.reg exitS) 2
      ∗ tok (F := F) 0 (.reg exitS) 2)
      ⊢ iprop((owesE (F := F) 2 ((debts 2).drop 11)
          -∗ Q ⟨Scalar.addi 2#32 3#32, Scalar.select (Scalar.cmpi .eq 4#32 0#32) 1#32 4#32⟩)
        -∗ Wp 2 (p32 (F := F) 2 2#32 3#32) Q) := by
  simp only [p32, k0_part32_eq_skeleton]; unfold k0_part32_skel
  have h12 : ¬ (Scalar.cmpi .ne (Scalar.extui (Scalar.cmpi .eq 2#32 3#32) : BitVec 32) 0#32 = 1#1) := by decide
  simp only [dif_neg h12]
  simp only [semSignalWord, semWaitWord, Prog.lift, Prog.bind_op, Prog.bind_ret, Prog.pure_eq_ret]
  iintro ⟨#HE, O, Ke3, Ke0⟩ HQ
  ihave O := (Entails.of_eq (show owesE (F := F) 2 ((debts 2).drop 9) = owesE 2 ((3, .reg exitS, 1) :: (debts 2).drop 10) from rfl)) $$ O
  iapply (sigR 2 3 ⟨k0_dev37 2, k0_dev37_lt 2⟩ (by decide) exitS ((debts 2).drop 10) (by decide)) $$ HE Ke3 [] O
  · unfold regPay; rw [if_neg (by decide)]; iempintro
  iintro O
  ihave O := (Entails.of_eq (show owesE (F := F) 2 ((debts 2).drop 10) = owesE 2 ((0, .reg exitS, 1) :: (debts 2).drop 11) from rfl)) $$ O
  iapply (sigR 2 0 ⟨k0_dev38 2, k0_dev38_lt 2⟩ (by decide) exitS ((debts 2).drop 11) (by decide)) $$ HE Ke0 [] O
  · unfold regPay; rw [if_neg (by decide)]; iempintro
  iintro O
  iapply retW
  iapply HQ
  iframe O

end Cert.RunI

end
-- ==== Proof.RunI.Role2pend.lean ====
/-
# Device 2
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 2 sends its last exit signal and waits for its peers' three; it ends with every semaphore done and its buffers back. -/
theorem r2_end {K : Dev nD × Fin 41 → ℕ} {Q : PUnit → sProp 𝕄} :
    iprop(env m K ∗ owesE (F := F) 2 ((debts 2).drop 11)
      ∗ tok (F := F) 1 (.reg exitS) 2
      ∗ at0 (F := F) 2 (.reg exitS)
      ∗ pass (F := F) 2 (.reg exitS) 3
      ∗ Pt 2 aG (part 0) (accS m 2)
      ∗ Pt 2 aG (part 1) (accS m 2)
      ∗ Pt 2 aG (part 2) (accS m 2)
      ∗ Pt 2 lG (part 0) (lT m 2)
      ∗ Pt 2 lG (part 1) (lT m 2)
      ∗ Pt 2 lG (part 2) (lT m 2)
      ∗ Pt 2 aB fullShare (accS m 2)
      ∗ restA 2 (accS m 2)
      ∗ Pt 2 lB fullShare (lT m 2)
      ∗ restL 2 (lT m 2)
      ∗ Pt 2 bTop fullShare (accS m 0)
      ∗ Pt 2 bBot fullShare (accS m 0)
      ∗ Pt 2 blM fullShare (lT m 0)
      ∗ Pt 2 tM fullShare (totA m 2)
      ∗ Pt 2 uM fullShare (totL m 2)
      ∗ Pt 2 s1 fullShare (stripA m)
      ∗ Pt 2 sB fullShare (stripA m)
      ∗ Pt 2 s3 fullShare (stripA m)
      ∗ Pt 2 sl1 fullShare (stripL m)
      ∗ Pt 2 slB fullShare (stripL m)
      ∗ Pt 2 sl3 fullShare (stripL m)
      ∗ Any (F := F) 2 s2
      ∗ restS (F := F) 2
      ∗ Any (F := F) 2 sl2
      ∗ restSL (F := F) 2
      ∗ at0 (F := F) 2 (.dma q6)
      ∗ at0 (F := F) 2 (.dma q7)
      ∗ at0 (F := F) 2 (.dma q8)
      ∗ at0 (F := F) 2 (.dma q9)
      ∗ at0 (F := F) 2 (.dma q10)
      ∗ at0 (F := F) 2 (.dma q11)
      ∗ at0 (F := F) 2 (.dma q15)
      ∗ at0 (F := F) 2 (.dma q16)
      ∗ at0 (F := F) 2 (.dma q18)
      ∗ at0 (F := F) 2 (.dma q20)
      ∗ at0 (F := F) 2 (.dma q22)
      ∗ at0 (F := F) 2 (.dma q24)
      ∗ at0 (F := F) 2 (.dma q26)
      ∗ at0 (F := F) 2 (.dma q28)
      ∗ at0 (F := F) 2 (.dma q29)
      ∗ at0 (F := F) 2 (.dma q30)
      ∗ at0 (F := F) 2 (.dma q31)
      ∗ at0 (F := F) 2 (.dma q32)
      ∗ at0 (F := F) 2 (.dma q37)
      ∗ at0 (F := F) 2 (.dma q38)
      ∗ at0 (F := F) 2 (.dma q39)
      ∗ at0 (F := F) 2 (.dma q40)
      ∗ at0 (F := F) 2 (.dma q42)
      ∗ at0 (F := F) 2 (.dma q44))
      ⊢ iprop((owesE (F := F) 2 ((debts 2).drop 12)
          ∗ fin0 (F := F) 2 (.reg exitS)
          ∗ Any (F := F) 2 baM
          ∗ Any (F := F) 2 blM
          ∗ Any (F := F) 2 aM
          ∗ Any (F := F) 2 lM
          ∗ Any (F := F) 2 tM
          ∗ Any (F := F) 2 uM
          ∗ Any (F := F) 2 saM
          ∗ Any (F := F) 2 slM
          ∗ fin0 (F := F) 2 (.dma q6)
          ∗ fin0 (F := F) 2 (.dma q7)
          ∗ fin0 (F := F) 2 (.dma q8)
          ∗ fin0 (F := F) 2 (.dma q9)
          ∗ fin0 (F := F) 2 (.dma q10)
          ∗ fin0 (F := F) 2 (.dma q11)
          ∗ fin0 (F := F) 2 (.dma q15)
          ∗ fin0 (F := F) 2 (.dma q16)
          ∗ fin0 (F := F) 2 (.dma q18)
          ∗ fin0 (F := F) 2 (.dma q20)
          ∗ fin0 (F := F) 2 (.dma q22)
          ∗ fin0 (F := F) 2 (.dma q24)
          ∗ fin0 (F := F) 2 (.dma q26)
          ∗ fin0 (F := F) 2 (.dma q28)
          ∗ fin0 (F := F) 2 (.dma q29)
          ∗ fin0 (F := F) 2 (.dma q30)
          ∗ fin0 (F := F) 2 (.dma q31)
          ∗ fin0 (F := F) 2 (.dma q32)
          ∗ fin0 (F := F) 2 (.dma q37)
          ∗ fin0 (F := F) 2 (.dma q38)
          ∗ fin0 (F := F) 2 (.dma q39)
          ∗ fin0 (F := F) 2 (.dma q40)
          ∗ fin0 (F := F) 2 (.dma q42)
          ∗ fin0 (F := F) 2 (.dma q44)
          -∗ Q ⟨⟩)
        -∗ Wp 2 (.op (.semSignal ((⟨k0_dev39 2, k0_dev39_lt 2⟩ : Dev nD) : Thread nD τ) exitS 1) fun _ => .op (.semWait exitS 3) fun _ => .ret ⟨⟩) Q) := by
  iintro ⟨#HE, O, Ke1, Ae, Pe, Xg0, Xg1, Xg2, Lg0, Lg1, Lg2, Xb, Ra, Lb, Rll, Bt, Bb, Bl, HT, HU, W_s1, W_sB, W_s3, W_sl1, W_slB, W_sl3, Y2_s2, Rs, Y2_sl2, Rl, A6, A7, A8, A9, A10, A11, A15, A16, A18, A20, A22, A24, A26, A28, A29, A30, A31, A32, A37, A38, A39, A40, A42, A44⟩ HQ
  ihave O := (Entails.of_eq (show owesE (F := F) 2 ((debts 2).drop 11) = owesE 2 ((1, .reg exitS, 1) :: (debts 2).drop 12) from rfl)) $$ O
  iapply (sigR 2 1 ⟨k0_dev39 2, k0_dev39_lt 2⟩ (by decide) exitS ((debts 2).drop 12) (by decide)) $$ HE Ke1 [] O
  · unfold regPay; rw [if_neg (by decide)]; iempintro
  iintro O
  iapply (waitR 2 exitS ((debts 2).drop 12) (by decide)) $$ HE Ae Pe O; iintro - Ze O
  ihave HH := (share3 2 aG (accS m 2)).2 $$ [Xg0 Xg1 Xg2]
  · iframe Xg0 Xg1 Xg2
  irename HH => Xg
  ihave HH := (share3 2 lG (lT m 2)).2 $$ [Lg0 Lg1 Lg2]
  · iframe Lg0 Lg1 Lg2
  irename HH => Lg
  ihave HH := (sentA 2 (accS m 2)).2 $$ [Xg Xb Ra]
  · iframe Xg Xb Ra
  irename HH => HA
  ihave HH := (sentL 2 (lT m 2)).2 $$ [Lg Lb Rll]
  · iframe Lg Lb Rll
  irename HH => HL
  ihave HH := (halvesB 2 fullShare (accS m 0)).2 $$ [Bt Bb]
  · iframe Bt Bb
  irename HH => Ba
  ihave Y_baM := (toAny 2 baM (accS m 0)) $$ Ba
  ihave Y_blM := (toAny 2 blM (lT m 0)) $$ Bl
  ihave Y_aM := (toAny 2 aM (accS m 2)) $$ HA
  ihave Y_lM := (toAny 2 lM (lT m 2)) $$ HL
  ihave Y_tM := (toAny 2 tM (totA m 2)) $$ HT
  ihave Y_uM := (toAny 2 uM (totL m 2)) $$ HU
  ihave Y2_s1 := (toAny 2 s1 (stripA m)) $$ W_s1
  ihave Y2_sB := (toAny 2 sB (stripA m)) $$ W_sB
  ihave Y2_s3 := (toAny 2 s3 (stripA m)) $$ W_s3
  ihave Y2_sl1 := (toAny 2 sl1 (stripL m)) $$ W_sl1
  ihave Y2_slB := (toAny 2 slB (stripL m)) $$ W_slB
  ihave Y2_sl3 := (toAny 2 sl3 (stripL m)) $$ W_sl3
  ihave HH := (slots (F := F) 2).2 $$ [Y2_s1 Y2_sB Y2_s2 Y2_s3 Rs]
  · iframe Y2_s1 Y2_sB Y2_s2 Y2_s3 Rs
  irename HH => Y_saM
  ihave HH := (slotsL (F := F) 2).2 $$ [Y2_sl1 Y2_slB Y2_sl2 Y2_sl3 Rl]
  · iframe Y2_sl1 Y2_slB Y2_sl2 Y2_sl3 Rl
  irename HH => Y_slM
  imod (close0 2 q6 (by decide) rfl) $$ HE A6 with Z6
  imod (close0 2 q7 (by decide) rfl) $$ HE A7 with Z7
  imod (close0 2 q8 (by decide) rfl) $$ HE A8 with Z8
  imod (close0 2 q9 (by decide) rfl) $$ HE A9 with Z9
  imod (close0 2 q10 (by decide) rfl) $$ HE A10 with Z10
  imod (close0 2 q11 (by decide) rfl) $$ HE A11 with Z11
  imod (close0 2 q15 (by decide) rfl) $$ HE A15 with Z15
  imod (close0 2 q16 (by decide) rfl) $$ HE A16 with Z16
  imod (close0 2 q18 (by decide) rfl) $$ HE A18 with Z18
  imod (close0 2 q20 (by decide) rfl) $$ HE A20 with Z20
  imod (close0 2 q22 (by decide) rfl) $$ HE A22 with Z22
  imod (close0 2 q24 (by decide) rfl) $$ HE A24 with Z24
  imod (close0 2 q26 (by decide) rfl) $$ HE A26 with Z26
  imod (close0 2 q28 (by decide) rfl) $$ HE A28 with Z28
  imod (close0 2 q29 (by decide) rfl) $$ HE A29 with Z29
  imod (close0 2 q30 (by decide) rfl) $$ HE A30 with Z30
  imod (close0 2 q31 (by decide) rfl) $$ HE A31 with Z31
  imod (close0 2 q32 (by decide) rfl) $$ HE A32 with Z32
  imod (close0 2 q37 (by decide) rfl) $$ HE A37 with Z37
  imod (close0 2 q38 (by decide) rfl) $$ HE A38 with Z38
  imod (close0 2 q39 (by decide) rfl) $$ HE A39 with Z39
  imod (close0 2 q40 (by decide) rfl) $$ HE A40 with Z40
  imod (close0 2 q42 (by decide) rfl) $$ HE A42 with Z42
  imod (close0 2 q44 (by decide) rfl) $$ HE A44 with Z44
  iapply retW
  iapply HQ
  iframe O Ze Y_baM Y_blM Y_aM Y_lM Y_tM Y_uM Y_saM Y_slM Z6 Z7 Z8 Z9 Z10 Z11 Z15 Z16 Z18 Z20 Z22 Z24 Z26 Z28 Z29 Z30 Z31 Z32 Z37 Z38 Z39 Z40 Z42 Z44

end Cert.RunI

end
-- ==== Proof.RunI.Tail2.lean ====
/-
# Device 2: the end of its program
-/
module

public import proofs.«01_k».proof.Proof.RunI.Tail
public import proofs.«01_k».proof.Proof.RunI.Role2p29
public import proofs.«01_k».proof.Proof.RunI.Role2p30
public import proofs.«01_k».proof.Proof.RunI.Role2p31
public import proofs.«01_k».proof.Proof.RunI.Role2p32
public import proofs.«01_k».proof.Proof.RunI.Role2pend

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The waits that device 2 is to be paid for, one by one. -/
theorem passes2 : (bigSepL (passes 2) fun x => pass (F := F) 2 x.1 x.2) = iprop(pass (F := F) 2 (.reg barS) 3 ∗ pass (F := F) 2 (.reg exitS) 3 ∗ pass (F := F) 2 (.dma q12) (amt q12.val) ∗ pass (F := F) 2 (.dma q13) (amt q13.val) ∗ pass (F := F) 2 (.dma q14) (amt q14.val) ∗ pass (F := F) 2 (.dma q33) (amt q33.val) ∗ pass (F := F) 2 (.dma q34) (amt q34.val) ∗ pass (F := F) 2 (.dma q35) (amt q35.val) ∗ pass (F := F) 2 (.dma q36) (amt q36.val) ∗ pass (F := F) 2 (.dma q41) (amt q41.val) ∗ pass (F := F) 2 (.dma q43) (amt q43.val)) := rfl
/-- The duties that device 2 is to pay, one by one. -/
theorem toks2 : (bigSepL (toks 2) fun x => tok (F := F) x.1 x.2.1 x.2.2) = iprop(tok (F := F) 3 (.reg barS) 2 ∗ tok (F := F) 0 (.reg barS) 2 ∗ tok (F := F) 1 (.reg barS) 2 ∗ tok (F := F) 3 (.reg exitS) 2 ∗ tok (F := F) 0 (.reg exitS) 2 ∗ tok (F := F) 1 (.reg exitS) 2 ∗ tok (F := F) 2 (.dma q17) 0 ∗ tok (F := F) 0 (.dma q37) 0 ∗ tok (F := F) 2 (.dma q19) 0 ∗ tok (F := F) 0 (.dma q39) 0 ∗ tok (F := F) 2 (.dma q21) 0 ∗ tok (F := F) 1 (.dma q37) 0 ∗ tok (F := F) 2 (.dma q23) 0 ∗ tok (F := F) 1 (.dma q39) 0 ∗ tok (F := F) 2 (.dma q25) 0 ∗ tok (F := F) 3 (.dma q37) 0 ∗ tok (F := F) 2 (.dma q27) 0 ∗ tok (F := F) 3 (.dma q39) 0) := rfl

set_option maxHeartbeats 3200000

/-- The whole exchange on device 2, from its own sums to its result. -/
theorem tail2 {K : Dev nD × Fin 41 → ℕ} {v237 v238 : BitVec 32} {v239 v240 : BitVec 1} {Q : PUnit → sProp 𝕄} :
    iprop(env m K ∗ Mid m 2) ⊢ iprop((Done m 2 -∗ Q ⟨⟩)
      -∗ Wp 2 (tailP (F := F) 2 2#32 (SemArray.scalar (sig.barrier 0 rfl)) v237 v238 v239 v240) Q) := by
  unfold tailP Mid Ghost Done Closed
  rw [cells_at, cells_at, passes2, toks2]
  simp only [semSignalWord, semWaitWord, Prog.lift, Prog.bind_op, Prog.bind_ret, Prog.pure_eq_ret]
  simp only [wp_bind]
  iintro ⟨#HE, ⟨⟨Ab, A6, A7, A8, A9, A10, A11, A12, A13, A14, A15, A16, A17, A18, A19, A20, A21, A22, A23, A24, A25, A26, A27, A28, A29, A30, A31, A32, A33, A34, A35, A36, A37, A38, A39, A40, A41, A42, A43, A44, Ae⟩, ⟨Pb, Pe, P12, P13, P14, P33, P34, P35, P36, P41, P43⟩, ⟨Kb3, Kb0, Kb1, Ke3, Ke0, Ke1, K17, R0_37, K19, R0_39, K21, R1_37, K23, R1_39, K25, R3_37, K27, R3_39⟩, O⟩, HW, Y_outM, HT, HU, HA, HL, Y_baM, Y_blM, Y_saM, Y_slM⟩ HQ
  ihave O := (Entails.of_eq (show owesE (F := F) 2 (debts 2) = owesE (F := F) 2 ((debts 2).drop 0) from rfl)) $$ O
  iapply (r2_29 m) $$ [Y_saM Y_slM Y_baM Y_blM O Kb3 Kb0 Kb1]
  · iframe HE Y_saM Y_slM Y_baM Y_blM O Kb3 Kb0 Kb1
  iintro ⟨O, Y2_s2, Rs, Y2_sl2, Rl⟩
  iapply (r2_30 m) $$ [O Ab Pb HA HL K17 R0_37 K19 R0_39 K21 R1_37 K23 R1_39 K25 R3_37 K27 R3_39 A12 P12 A13 P13 A14 P14 HT HU A33 P33 A35 P35 A34 P34 A36 P36 A41 P41 A43 P43]
  · iframe HE O Ab Pb HA HL K17 R0_37 K19 R0_39 K21 R1_37 K23 R1_39 K25 R3_37 K27 R3_39 A12 P12 A13 P13 A14 P14 HT HU A33 P33 A35 P35 A34 P34 A36 P36 A41 P41 A43 P43
  iintro ⟨O, HT, HU, Zb, Xb, Ra, Lb, Rll, P17, P19, P21, P23, P25, P27, Z12, Z13, Bl, Z14, Bt, Bb, W_s1, Z33, W_sl1, Z35, W_sB, Z34, W_slB, Z36, W_s3, Z41, W_sl3, Z43⟩
  iapply (r2_31 m) $$ [HW Y_outM O A17 P17 A19 P19 A21 P21 A23 P23 A25 P25 A27 P27]
  · iframe HE HW Y_outM O A17 P17 A19 P19 A21 P21 A23 P23 A25 P25 A27 P27
  iintro ⟨O, HW, HO, Xg0, Z17, Lg0, Z19, Xg1, Z21, Lg1, Z23, Xg2, Z25, Lg2, Z27⟩
  iapply (r2_32 m) $$ [O Ke3 Ke0]
  · iframe HE O Ke3 Ke0
  iintro O
  iapply (r2_end m) $$ [O Ke1 Ae Pe Xg0 Xg1 Xg2 Lg0 Lg1 Lg2 Xb Ra Lb Rll Bt Bb Bl HT HU W_s1 W_sB W_s3 W_sl1 W_slB W_sl3 Y2_s2 Rs Y2_sl2 Rl A6 A7 A8 A9 A10 A11 A15 A16 A18 A20 A22 A24 A26 A28 A29 A30 A31 A32 A37 A38 A39 A40 A42 A44]
  · iframe HE O Ke1 Ae Pe Xg0 Xg1 Xg2 Lg0 Lg1 Lg2 Xb Ra Lb Rll Bt Bb Bl HT HU W_s1 W_sB W_s3 W_sl1 W_slB W_sl3 Y2_s2 Rs Y2_sl2 Rl A6 A7 A8 A9 A10 A11 A15 A16 A18 A20 A22 A24 A26 A28 A29 A30 A31 A32 A37 A38 A39 A40 A42 A44
  iintro ⟨O, Ze, Y_baM, Y_blM, Y_aM, Y_lM, Y_tM, Y_uM, Y_saM, Y_slM, Z6, Z7, Z8, Z9, Z10, Z11, Z15, Z16, Z18, Z20, Z22, Z24, Z26, Z28, Z29, Z30, Z31, Z32, Z37, Z38, Z39, Z40, Z42, Z44⟩
  iapply HQ
  isplitl [Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze O]
  · isplitl [Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze]
    · iframe Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze
    · iapply (Entails.of_eq (show owesE (F := F) 2 ((debts 2).drop 12) = owesE (F := F) 2 [] from rfl)); iexact O
  · iframe HW HO Y_aM Y_lM Y_baM Y_blM Y_saM Y_slM Y_tM Y_uM

end Cert.RunI

end
-- ==== Proof.RunI.Role3p29.lean ====
/-
# Device 3
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 3 signals its three peers, handing each the regions that it may write. -/
theorem r3_29 {v2 v237 v238 : BitVec 32} {v239 v240 : BitVec 1} {K : Dev nD × Fin 41 → ℕ} {Q : _ → sProp 𝕄} :
    iprop(env m K ∗ Any (F := F) 3 saM
      ∗ Any (F := F) 3 slM
      ∗ Any (F := F) 3 baM
      ∗ Any (F := F) 3 blM
      ∗ owesE (F := F) 3 ((debts 3).drop 0)
      ∗ tok (F := F) 0 (.reg barS) 3
      ∗ tok (F := F) 1 (.reg barS) 3
      ∗ tok (F := F) 2 (.reg barS) 3)
      ⊢ iprop((owesE (F := F) 3 ((debts 3).drop 3)
          ∗ Any (F := F) 3 s3
          ∗ restS (F := F) 3
          ∗ Any (F := F) 3 sl3
          ∗ restSL (F := F) 3
          -∗ Q ⟨⟩)
        -∗ Wp 3 (p29 (F := F) 3 v2 (SemArray.scalar (sig.barrier 0 rfl)) v237 v238 v239 v240) Q) := by
  simp only [p29, k0_part29_eq_skeleton]; unfold k0_part29_skel
  simp only [semSignalWord, semWaitWord, Prog.lift, Prog.bind_op, Prog.bind_ret, Prog.pure_eq_ret]
  iintro ⟨#HE, Y_saM, Y_slM, Y_baM, Y_blM, O, Kb0, Kb1, Kb2⟩ HQ
  ihave HH := (slots (F := F) 3).1 $$ Y_saM
  icases HH with ⟨Y3_s1, Y3_sB, Y3_s2, Y3_s3, Rs⟩
  ihave HH := (slotsL (F := F) 3).1 $$ Y_slM
  icases HH with ⟨Y3_sl1, Y3_slB, Y3_sl2, Y3_sl3, Rl⟩
  ihave HH := (halvesAnyB (F := F) 3).1 $$ Y_baM
  icases HH with ⟨Y3_bTop, Y3_bBot⟩
  irename Y_blM => Y3_blM
  ihave O := (Entails.of_eq (show owesE (F := F) 3 ((debts 3).drop 0) = owesE 3 ((0, .reg barS, 1) :: (debts 3).drop 1) from rfl)) $$ O
  iapply (sigR 3 0 ⟨k0_dev1 3, k0_dev1_lt 3⟩ (by decide) barS ((debts 3).drop 1) (by decide)) $$ HE Kb0 [Y3_bTop Y3_bBot Y3_blM] O
  · iapply (Entails.of_eq (pay_0_3 (F := F)).symm); iframe Y3_bTop Y3_bBot Y3_blM
  iintro O
  ihave O := (Entails.of_eq (show owesE (F := F) 3 ((debts 3).drop 1) = owesE 3 ((1, .reg barS, 1) :: (debts 3).drop 2) from rfl)) $$ O
  iapply (sigR 3 1 ⟨k0_dev2 3, k0_dev2_lt 3⟩ (by decide) barS ((debts 3).drop 2) (by decide)) $$ HE Kb1 [Y3_s1 Y3_sB Y3_sl1 Y3_slB] O
  · iapply (Entails.of_eq (pay_1_3 (F := F)).symm); iframe Y3_s1 Y3_sB Y3_sl1 Y3_slB
  iintro O
  ihave O := (Entails.of_eq (show owesE (F := F) 3 ((debts 3).drop 2) = owesE 3 ((2, .reg barS, 1) :: (debts 3).drop 3) from rfl)) $$ O
  iapply (sigR 3 2 ⟨k0_dev3 3, k0_dev3_lt 3⟩ (by decide) barS ((debts 3).drop 3) (by decide)) $$ HE Kb2 [Y3_s2 Y3_sl2] O
  · iapply (Entails.of_eq (pay_2_3 (F := F)).symm); iframe Y3_s2 Y3_sl2
  iintro O
  iapply retW
  iapply HQ
  iframe O Y3_s3 Rs Y3_sl3 Rl

end Cert.RunI

end
-- ==== Proof.RunI.Role3p30.lean ====
/-
# Device 3
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 3 takes its three peers' barrier units, starts its transfers and adds what it is sent, up to its totals. -/
theorem r3_30 {K : Dev nD × Fin 41 → ℕ} {Q : _ → sProp 𝕄} :
    iprop(env m K ∗ owesE (F := F) 3 ((debts 3).drop 3)
      ∗ at0 (F := F) 3 (.reg barS)
      ∗ pass (F := F) 3 (.reg barS) 3
      ∗ Pt 3 aM fullShare (accS m 3)
      ∗ Pt 3 lM fullShare (lT m 3)
      ∗ tok (F := F) 3 (.dma q17) 0
      ∗ tok (F := F) 0 (.dma q41) 0
      ∗ tok (F := F) 3 (.dma q19) 0
      ∗ tok (F := F) 0 (.dma q43) 0
      ∗ tok (F := F) 3 (.dma q21) 0
      ∗ tok (F := F) 1 (.dma q41) 0
      ∗ tok (F := F) 3 (.dma q23) 0
      ∗ tok (F := F) 1 (.dma q43) 0
      ∗ tok (F := F) 3 (.dma q25) 0
      ∗ tok (F := F) 2 (.dma q41) 0
      ∗ tok (F := F) 3 (.dma q27) 0
      ∗ tok (F := F) 2 (.dma q43) 0
      ∗ at0 (F := F) 3 (.dma q13)
      ∗ pass (F := F) 3 (.dma q13) (amt q13.val)
      ∗ tok (F := F) 3 (.dma q15) 0
      ∗ tok (F := F) 2 (.dma q13) 0
      ∗ at0 (F := F) 3 (.dma q12)
      ∗ pass (F := F) 3 (.dma q12) (amt q12.val)
      ∗ at0 (F := F) 3 (.dma q14)
      ∗ pass (F := F) 3 (.dma q14) (amt q14.val)
      ∗ Pt 3 tM fullShare (accT m 3)
      ∗ Pt 3 uM fullShare (lT m 3)
      ∗ at0 (F := F) 3 (.dma q33)
      ∗ pass (F := F) 3 (.dma q33) (amt q33.val)
      ∗ at0 (F := F) 3 (.dma q35)
      ∗ pass (F := F) 3 (.dma q35) (amt q35.val)
      ∗ at0 (F := F) 3 (.dma q34)
      ∗ pass (F := F) 3 (.dma q34) (amt q34.val)
      ∗ at0 (F := F) 3 (.dma q36)
      ∗ pass (F := F) 3 (.dma q36) (amt q36.val)
      ∗ at0 (F := F) 3 (.dma q37)
      ∗ pass (F := F) 3 (.dma q37) (amt q37.val)
      ∗ at0 (F := F) 3 (.dma q39)
      ∗ pass (F := F) 3 (.dma q39) (amt q39.val))
      ⊢ iprop((owesE (F := F) 3 ((debts 3).drop 10)
          ∗ Pt 3 tM fullShare (totA m 3)
          ∗ Pt 3 uM fullShare (totL m 3)
          ∗ fin0 (F := F) 3 (.reg barS)
          ∗ Pt 3 aB fullShare (accS m 3)
          ∗ restA 3 (accS m 3)
          ∗ Pt 3 lB fullShare (lT m 3)
          ∗ restL 3 (lT m 3)
          ∗ pass (F := F) 3 (.dma q17) (amt q17.val)
          ∗ pass (F := F) 3 (.dma q19) (amt q19.val)
          ∗ pass (F := F) 3 (.dma q21) (amt q21.val)
          ∗ pass (F := F) 3 (.dma q23) (amt q23.val)
          ∗ pass (F := F) 3 (.dma q25) (amt q25.val)
          ∗ pass (F := F) 3 (.dma q27) (amt q27.val)
          ∗ fin0 (F := F) 3 (.dma q13)
          ∗ pass (F := F) 3 (.dma q15) (amt q15.val)
          ∗ fin0 (F := F) 3 (.dma q12)
          ∗ Pt 3 blM fullShare (lT m 0)
          ∗ fin0 (F := F) 3 (.dma q14)
          ∗ Pt 3 bTop fullShare.left (accS m 0)
          ∗ Pt 3 bTop fullShare.right (accS m 0)
          ∗ Pt 3 bBot fullShare.right (accS m 0)
          ∗ Pt 3 s1 fullShare (stripA m)
          ∗ fin0 (F := F) 3 (.dma q33)
          ∗ Pt 3 sl1 fullShare (stripL m)
          ∗ fin0 (F := F) 3 (.dma q35)
          ∗ Pt 3 sB fullShare (stripA m)
          ∗ fin0 (F := F) 3 (.dma q34)
          ∗ Pt 3 slB fullShare (stripL m)
          ∗ fin0 (F := F) 3 (.dma q36)
          ∗ Pt 3 s2 fullShare (stripA m)
          ∗ fin0 (F := F) 3 (.dma q37)
          ∗ Pt 3 sl2 fullShare (stripL m)
          ∗ fin0 (F := F) 3 (.dma q39)
          -∗ Q ⟨totA m 3, totL m 3, k0_pay72 (totA m 3), k0_pay73 (totL m 3)⟩)
        -∗ Wp 3 (p30 (F := F) 3 3#32 (SemArray.scalar (sig.barrier 0 rfl))) Q) := by
  simp only [p30, k0_part30_eq_skeleton]; unfold k0_part30_skel
  have h1 : ¬ (k0_cond1 3 = 1#1) := by decide
  have h2 : ¬ (k0_cond2 3 = 1#1) := by decide
  have h3 : ¬ (k0_cond3 3 = 1#1) := by decide
  have h4 : (k0_cond4 3 = 1#1) := by decide
  have h5 : (Scalar.cmpi .ne (Scalar.extui (Scalar.cmpi .ne 3#32 0#32) : BitVec 32) 0#32 = 1#1) := by decide
  have h6 : (Scalar.cmpi .ne (Scalar.extui (Scalar.cmpi .ne 3#32 1#32) : BitVec 32) 0#32 = 1#1) := by decide
  have h7 : (Scalar.cmpi .ne (Scalar.extui (Scalar.cmpi .ne 3#32 2#32) : BitVec 32) 0#32 = 1#1) := by decide
  have h8 : ¬ (Scalar.cmpi .ne (Scalar.extui (Scalar.cmpi .ne 3#32 3#32) : BitVec 32) 0#32 = 1#1) := by decide
  simp only [dif_neg h1, dif_neg h2, dif_neg h3, dif_pos h4, dif_pos h5, dif_pos h6, dif_pos h7, dif_neg h8]
  simp only [k0_part9_eq_skeleton, k0_part10_eq_skeleton, k0_part11_eq_skeleton, k0_part12_eq_skeleton, k0_part13_eq_skeleton, k0_part14_eq_skeleton]
  unfold k0_part9_skel k0_part10_skel k0_part11_skel k0_part12_skel k0_part13_skel k0_part14_skel
  simp only [semSignalWord, semWaitWord, Prog.lift, Prog.bind_op, Prog.bind_ret, Prog.pure_eq_ret]
  iintro ⟨#HE, O, Ab, Pb, HA, HL, K17, R0_41, K19, R0_43, K21, R1_41, K23, R1_43, K25, R2_41, K27, R2_43, A13, P13, K15, R2_13, A12, P12, A14, P14, HT, HU, A33, P33, A35, P35, A34, P34, A36, P36, A37, P37, A39, P39⟩ HQ
  iapply (waitR 3 barS ((debts 3).drop 3) (by decide)) $$ HE Ab Pb O; iintro Hp Zb O
  ihave Hp := (Entails.of_eq (got_3 (F := F))) $$ Hp
  icases Hp with ⟨H0, H1, H2⟩
  ihave H0 := (Entails.of_eq (pay_3_0 (F := F))) $$ H0
  icases H0 with ⟨Y0_s3, Y0_sl3⟩
  ihave H1 := (Entails.of_eq (pay_3_1 (F := F))) $$ H1
  icases H1 with ⟨Y1_s3, Y1_sl3⟩
  ihave H2 := (Entails.of_eq (pay_3_2 (F := F))) $$ H2
  icases H2 with ⟨⟨Y2_s3, Y2_sl3⟩, Y2_bBot⟩
  ihave HH := (sentA 3 (accS m 3)).1 $$ HA
  icases HH with ⟨Xg, Xb, Ra⟩
  ihave HH := (sentL 3 (lT m 3)).1 $$ HL
  icases HH with ⟨Lg, Lb, Rll⟩
  ihave HH := (share3 3 aG (accS m 3)).1 $$ Xg
  icases HH with ⟨Xg0, Xg1, Xg2⟩
  ihave HH := (share3 3 lG (lT m 3)).1 $$ Lg
  icases HH with ⟨Lg0, Lg1, Lg2⟩
  ihave O := (Entails.of_eq (show owesE (F := F) 3 ((debts 3).drop 3) = owesE 3 ((0, .dma q41, amt q41.val) :: (debts 3).drop 4) from rfl)) $$ O
  show Entails' (PROP := sProp 𝕄) _ (Wp 3 (.op (.enqueueDma aG (.remote ((⟨k0_dev30, k0_dev30_lt 3 h4⟩ : Dev nD) : Thread nD τ) s3 (.dma q17) _) (.dma q41) _ _ _) _) Q)
  iapply (xfer 3 0 ⟨k0_dev30, k0_dev30_lt 3 h4⟩ (Fin.ext (show k0_dev30 = 0 from by decide)) q17 q41 aG s3 (part 0) (accS m 3) (stripA m) ((debts 3).drop 4)
    (by decide) (by decide) rfl rfl rfl rfl (Idealize.SL.BI.BIBase.Entails.of_eq rfl) (read_s3 m) (Idealize.SL.BI.BIBase.Entails.of_eq rfl)) $$ HE K17 R0_41 Xg0 Y0_s3 O
  iintro P17 O
  ihave O := (Entails.of_eq (show owesE (F := F) 3 ((debts 3).drop 4) = owesE 3 ((0, .dma q43, amt q43.val) :: (debts 3).drop 5) from rfl)) $$ O
  show Entails' (PROP := sProp 𝕄) _ (Wp 3 (.op (.enqueueDma lG (.remote ((⟨k0_dev31, k0_dev31_lt 3 h4⟩ : Dev nD) : Thread nD τ) sl3 (.dma q19) _) (.dma q43) _ _ _) _) Q)
  iapply (xfer 3 0 ⟨k0_dev31, k0_dev31_lt 3 h4⟩ (Fin.ext (show k0_dev31 = 0 from by decide)) q19 q43 lG sl3 (part 0) (lT m 3) (stripL m) ((debts 3).drop 5)
    (by decide) (by decide) rfl rfl rfl rfl (Idealize.SL.BI.BIBase.Entails.of_eq rfl) (read_sl3 m) (Idealize.SL.BI.BIBase.Entails.of_eq rfl)) $$ HE K19 R0_43 Lg0 Y0_sl3 O
  iintro P19 O
  ihave O := (Entails.of_eq (show owesE (F := F) 3 ((debts 3).drop 5) = owesE 3 ((1, .dma q41, amt q41.val) :: (debts 3).drop 6) from rfl)) $$ O
  show Entails' (PROP := sProp 𝕄) _ (Wp 3 (.op (.enqueueDma aG (.remote ((⟨k0_dev32, k0_dev32_lt 3 h4⟩ : Dev nD) : Thread nD τ) s3 (.dma q21) _) (.dma q41) _ _ _) _) Q)
  iapply (xfer 3 1 ⟨k0_dev32, k0_dev32_lt 3 h4⟩ (Fin.ext (show k0_dev32 = 1 from by decide)) q21 q41 aG s3 (part 1) (accS m 3) (stripA m) ((debts 3).drop 6)
    (by decide) (by decide) rfl rfl rfl rfl (Idealize.SL.BI.BIBase.Entails.of_eq rfl) (read_s3 m) (Idealize.SL.BI.BIBase.Entails.of_eq rfl)) $$ HE K21 R1_41 Xg1 Y1_s3 O
  iintro P21 O
  ihave O := (Entails.of_eq (show owesE (F := F) 3 ((debts 3).drop 6) = owesE 3 ((1, .dma q43, amt q43.val) :: (debts 3).drop 7) from rfl)) $$ O
  show Entails' (PROP := sProp 𝕄) _ (Wp 3 (.op (.enqueueDma lG (.remote ((⟨k0_dev33, k0_dev33_lt 3 h4⟩ : Dev nD) : Thread nD τ) sl3 (.dma q23) _) (.dma q43) _ _ _) _) Q)
  iapply (xfer 3 1 ⟨k0_dev33, k0_dev33_lt 3 h4⟩ (Fin.ext (show k0_dev33 = 1 from by decide)) q23 q43 lG sl3 (part 1) (lT m 3) (stripL m) ((debts 3).drop 7)
    (by decide) (by decide) rfl rfl rfl rfl (Idealize.SL.BI.BIBase.Entails.of_eq rfl) (read_sl3 m) (Idealize.SL.BI.BIBase.Entails.of_eq rfl)) $$ HE K23 R1_43 Lg1 Y1_sl3 O
  iintro P23 O
  ihave O := (Entails.of_eq (show owesE (F := F) 3 ((debts 3).drop 7) = owesE 3 ((2, .dma q41, amt q41.val) :: (debts 3).drop 8) from rfl)) $$ O
  show Entails' (PROP := sProp 𝕄) _ (Wp 3 (.op (.enqueueDma aG (.remote ((⟨k0_dev34, k0_dev34_lt 3 h4⟩ : Dev nD) : Thread nD τ) s3 (.dma q25) _) (.dma q41) _ _ _) _) Q)
  iapply (xfer 3 2 ⟨k0_dev34, k0_dev34_lt 3 h4⟩ (Fin.ext (show k0_dev34 = 2 from by decide)) q25 q41 aG s3 (part 2) (accS m 3) (stripA m) ((debts 3).drop 8)
    (by decide) (by decide) rfl rfl rfl rfl (Idealize.SL.BI.BIBase.Entails.of_eq rfl) (read_s3 m) (Idealize.SL.BI.BIBase.Entails.of_eq rfl)) $$ HE K25 R2_41 Xg2 Y2_s3 O
  iintro P25 O
  ihave O := (Entails.of_eq (show owesE (F := F) 3 ((debts 3).drop 8) = owesE 3 ((2, .dma q43, amt q43.val) :: (debts 3).drop 9) from rfl)) $$ O
  show Entails' (PROP := sProp 𝕄) _ (Wp 3 (.op (.enqueueDma lG (.remote ((⟨k0_dev35, k0_dev35_lt 3 h4⟩ : Dev nD) : Thread nD τ) sl3 (.dma q27) _) (.dma q43) _ _ _) _) Q)
  iapply (xfer 3 2 ⟨k0_dev35, k0_dev35_lt 3 h4⟩ (Fin.ext (show k0_dev35 = 2 from by decide)) q27 q43 lG sl3 (part 2) (lT m 3) (stripL m) ((debts 3).drop 9)
    (by decide) (by decide) rfl rfl rfl rfl (Idealize.SL.BI.BIBase.Entails.of_eq rfl) (read_sl3 m) (Idealize.SL.BI.BIBase.Entails.of_eq rfl)) $$ HE K27 R2_43 Lg2 Y2_sl3 O
  iintro P27 O
  show Entails' (PROP := sProp 𝕄) _ (Wp 3 (.op (.waitDma2 q13 _ bBot _ _) _) Q)
  iapply (waitD 3 q13 ((debts 3).drop 9) (dst := bBot) (by decide) rfl (by decide) rfl) $$ HE A13 P13 O; iintro Bb Z13 O
  ihave Bb := (Entails.of_eq (show dmaPay m 3 q13.val = Pt 3 bBot fullShare (accS m 0) from rfl)) $$ Bb
  ihave HH := (share2 3 bBot fullShare (accS m 0)).1 $$ Bb
  icases HH with ⟨Bbl, Bbr⟩
  ihave O := (Entails.of_eq (show owesE (F := F) 3 ((debts 3).drop 9) = owesE 3 ((2, .dma q13, amt q13.val) :: (debts 3).drop 10) from rfl)) $$ O
  show Entails' (PROP := sProp 𝕄) _ (Wp 3 (.op (.enqueueDma bBot (.remote ((⟨k0_dev36, k0_dev36_lt 3 h4⟩ : Dev nD) : Thread nD τ) bBot (.dma q15) _) (.dma q13) _ _ _) _) Q)
  iapply (xfer 3 2 ⟨k0_dev36, k0_dev36_lt 3 h4⟩ (Fin.ext (show k0_dev36 = 2 from by decide)) q15 q13 bBot bBot fullShare.left (accS m 0) (accS m 0) ((debts 3).drop 10)
    (by decide) (by decide) rfl rfl rfl rfl (Idealize.SL.BI.BIBase.Entails.of_eq rfl) rfl (Idealize.SL.BI.BIBase.Entails.of_eq rfl)) $$ HE K15 R2_13 Bbl Y2_bBot O
  iintro P15 O
  show Entails' (PROP := sProp 𝕄) _ (Wp 3 (.op (.waitDma2 q12 _ bTop _ _) _) Q)
  iapply (waitD 3 q12 ((debts 3).drop 10) (dst := bTop) (by decide) rfl (by decide) rfl) $$ HE A12 P12 O; iintro Bt Z12 O
  ihave Bt := (Entails.of_eq (show dmaPay m 3 q12.val = Pt 3 bTop fullShare (accS m 0) from rfl)) $$ Bt
  show Entails' (PROP := sProp 𝕄) _ (Wp 3 (.op (.waitDma2 q14 _ blM _ _) _) Q)
  iapply (waitD 3 q14 ((debts 3).drop 10) (dst := blM) (by decide) rfl (by decide) rfl) $$ HE A14 P14 O; iintro Bl Z14 O
  ihave Bl := (Entails.of_eq (show dmaPay m 3 q14.val = Pt 3 blM fullShare (lT m 0) from rfl)) $$ Bl
  ihave HH := (share2 3 bTop fullShare (accS m 0)).1 $$ Bt
  icases HH with ⟨Btl, Btr⟩
  ihave HH := (halvesB 3 fullShare.right (accS m 0)).2 $$ [Btr Bbr]
  · iframe Btr Bbr
  irename HH => Ba
  iapply (ldE 3 tM (accT m 3) (Memref.readAt_unit_zero (Elt F) cc0_scratch6 zero2 _ _)) $$ HT; iintro HT
  iapply (ldE 3 baM (accS m 0) (Memref.readAt_unit_zero (Elt F) cc0_scratch2 zero2 _ _)) $$ Ba; iintro Ba
  iapply (ldE 3 tM (accT m 3) (Memref.readAt_unit_zero (Elt F) cc0_scratch6 zero2 _ _)) $$ HT; iintro HT
  iapply (stE 3 tM (addA m (accT m 3)) (Memref.write_access_unit_zero_univ (Elt F) cc0_scratch6 zero2 _ _ _)) $$ HT; iintro HT
  iapply (ldE 3 uM (lT m 3) (Memref.readAt_unit_zero (Elt F) cc0_scratch7 zero2 _ _)) $$ HU; iintro HU
  iapply (ldE 3 blM (lT m 0) (Memref.readAt_unit_zero (Elt F) cc0_scratch3 zero2 _ _)) $$ Bl; iintro Bl
  iapply (ldE 3 uM (lT m 3) (Memref.readAt_unit_zero (Elt F) cc0_scratch7 zero2 _ _)) $$ HU; iintro HU
  iapply (stE 3 uM (addL m (lT m 3)) (Memref.write_access_unit_zero_univ (Elt F) cc0_scratch7 zero2 _ _ _)) $$ HU; iintro HU
  ihave HH := (halvesB 3 fullShare.right (accS m 0)).1 $$ Ba
  icases HH with ⟨Btr, Bbr⟩
  show Entails' (PROP := sProp 𝕄) _ (Wp 3 (.op (.waitDma2 q33 _ s1 _ _) _) Q)
  iapply (waitD 3 q33 ((debts 3).drop 10) (dst := s1) (by decide) rfl (by decide) rfl) $$ HE A33 P33 O; iintro W_s1 Z33 O
  ihave W_s1 := (Entails.of_eq (show dmaPay m 3 q33.val = Pt 3 s1 fullShare (stripA m) from rfl)) $$ W_s1
  show Entails' (PROP := sProp 𝕄) _ (Wp 3 (.op (.waitDma2 q35 _ sl1 _ _) _) Q)
  iapply (waitD 3 q35 ((debts 3).drop 10) (dst := sl1) (by decide) rfl (by decide) rfl) $$ HE A35 P35 O; iintro W_sl1 Z35 O
  ihave W_sl1 := (Entails.of_eq (show dmaPay m 3 q35.val = Pt 3 sl1 fullShare (stripL m) from rfl)) $$ W_sl1
  iapply (ldE 3 tM (tM.view.readAt (Elt F) rG.toLoadRect (addA m (accT m 3))) rfl) $$ HT; iintro HT
  iapply (ldS 3 saM (saM.view.readAt (Elt F) rs1.toLoadRect (stripA m)) on_s1 rfl) $$ W_s1; iintro W_s1
  iapply (ldE 3 tM (tM.view.readAt (Elt F) rG.toLoadRect (addA m (accT m 3))) rfl) $$ HT; iintro HT
  iapply (stE 3 tM (stA1 m (addA m (accT m 3))) rfl) $$ HT; iintro HT
  iapply (ldE 3 uM (uM.view.readAt (Elt F) rlG.toLoadRect (addL m (lT m 3))) rfl) $$ HU; iintro HU
  iapply (ldS 3 slM (slM.view.readAt (Elt F) rsl1.toLoadRect (stripL m)) on_sl1 rfl) $$ W_sl1; iintro W_sl1
  iapply (ldE 3 uM (uM.view.readAt (Elt F) rlG.toLoadRect (addL m (lT m 3))) rfl) $$ HU; iintro HU
  iapply (stE 3 uM (stL1 m (addL m (lT m 3))) rfl) $$ HU; iintro HU
  show Entails' (PROP := sProp 𝕄) _ (Wp 3 (.op (.waitDma2 q34 _ sB _ _) _) Q)
  iapply (waitD 3 q34 ((debts 3).drop 10) (dst := sB) (by decide) rfl (by decide) rfl) $$ HE A34 P34 O; iintro W_sB Z34 O
  ihave W_sB := (Entails.of_eq (show dmaPay m 3 q34.val = Pt 3 sB fullShare (stripA m) from rfl)) $$ W_sB
  show Entails' (PROP := sProp 𝕄) _ (Wp 3 (.op (.waitDma2 q36 _ slB _ _) _) Q)
  iapply (waitD 3 q36 ((debts 3).drop 10) (dst := slB) (by decide) rfl (by decide) rfl) $$ HE A36 P36 O; iintro W_slB Z36 O
  ihave W_slB := (Entails.of_eq (show dmaPay m 3 q36.val = Pt 3 slB fullShare (stripL m) from rfl)) $$ W_slB
  iapply (ldE 3 tM (tM.view.readAt (Elt F) rB.toLoadRect (stA1 m (addA m (accT m 3)))) rfl) $$ HT; iintro HT
  iapply (ldS 3 saM (saM.view.readAt (Elt F) rsB.toLoadRect (stripA m)) on_sB rfl) $$ W_sB; iintro W_sB
  iapply (ldE 3 tM (tM.view.readAt (Elt F) rB.toLoadRect (stA1 m (addA m (accT m 3)))) rfl) $$ HT; iintro HT
  iapply (stE 3 tM (stAB m (stA1 m (addA m (accT m 3)))) rfl) $$ HT; iintro HT
  iapply (ldE 3 uM (uM.view.readAt (Elt F) rlB.toLoadRect (stL1 m (addL m (lT m 3)))) rfl) $$ HU; iintro HU
  iapply (ldS 3 slM (slM.view.readAt (Elt F) rslB.toLoadRect (stripL m)) on_slB rfl) $$ W_slB; iintro W_slB
  iapply (ldE 3 uM (uM.view.readAt (Elt F) rlB.toLoadRect (stL1 m (addL m (lT m 3)))) rfl) $$ HU; iintro HU
  iapply (stE 3 uM (stLB m (stL1 m (addL m (lT m 3)))) rfl) $$ HU; iintro HU
  show Entails' (PROP := sProp 𝕄) _ (Wp 3 (.op (.waitDma2 q37 _ s2 _ _) _) Q)
  iapply (waitD 3 q37 ((debts 3).drop 10) (dst := s2) (by decide) rfl (by decide) rfl) $$ HE A37 P37 O; iintro W_s2 Z37 O
  ihave W_s2 := (Entails.of_eq (show dmaPay m 3 q37.val = Pt 3 s2 fullShare (stripA m) from rfl)) $$ W_s2
  show Entails' (PROP := sProp 𝕄) _ (Wp 3 (.op (.waitDma2 q39 _ sl2 _ _) _) Q)
  iapply (waitD 3 q39 ((debts 3).drop 10) (dst := sl2) (by decide) rfl (by decide) rfl) $$ HE A39 P39 O; iintro W_sl2 Z39 O
  ihave W_sl2 := (Entails.of_eq (show dmaPay m 3 q39.val = Pt 3 sl2 fullShare (stripL m) from rfl)) $$ W_sl2
  iapply (ldE 3 tM (tM.view.readAt (Elt F) rG.toLoadRect (stAB m (stA1 m (addA m (accT m 3))))) rfl) $$ HT; iintro HT
  iapply (ldS 3 saM (saM.view.readAt (Elt F) rs2.toLoadRect (stripA m)) on_s2 rfl) $$ W_s2; iintro W_s2
  iapply (ldE 3 tM (tM.view.readAt (Elt F) rG.toLoadRect (stAB m (stA1 m (addA m (accT m 3))))) rfl) $$ HT; iintro HT
  iapply (stE 3 tM (stA2 m (stAB m (stA1 m (addA m (accT m 3))))) rfl) $$ HT; iintro HT
  iapply (ldE 3 uM (uM.view.readAt (Elt F) rlG.toLoadRect (stLB m (stL1 m (addL m (lT m 3))))) rfl) $$ HU; iintro HU
  iapply (ldS 3 slM (slM.view.readAt (Elt F) rsl2.toLoadRect (stripL m)) on_sl2 rfl) $$ W_sl2; iintro W_sl2
  iapply (ldE 3 uM (uM.view.readAt (Elt F) rlG.toLoadRect (stLB m (stL1 m (addL m (lT m 3))))) rfl) $$ HU; iintro HU
  iapply (stE 3 uM (stL2 m (stLB m (stL1 m (addL m (lT m 3))))) rfl) $$ HU; iintro HU
  ihave HT := (Entails.of_eq (show Pt 3 tM fullShare (stA2 m (stAB m (stA1 m (addA m (accT m 3))))) = Pt 3 tM fullShare (totA m 3) from rfl)) $$ HT
  ihave HU := (Entails.of_eq (show Pt 3 uM fullShare (stL2 m (stLB m (stL1 m (addL m (lT m 3))))) = Pt 3 uM fullShare (totL m 3) from rfl)) $$ HU
  iapply (ldE 3 tM (totA m 3) (Memref.readAt_unit_zero (Elt F) cc0_scratch6 zero2 _ _)) $$ HT; iintro HT
  iapply (ldE 3 uM (totL m 3) (Memref.readAt_unit_zero (Elt F) cc0_scratch7 zero2 _ _)) $$ HU; iintro HU
  iapply retW
  iapply HQ
  iframe O HT HU Zb Xb Ra Lb Rll P17 P19 P21 P23 P25 P27 Z13 P15 Z12 Bl Z14 Btl Btr Bbr W_s1 Z33 W_sl1 Z35 W_sB Z34 W_slB Z36 W_s2 Z37 W_sl2 Z39

end Cert.RunI

end
-- ==== Proof.RunI.Role3p31.lean ====
/-
# Device 3
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 3 writes its result. -/
theorem r3_31 {K : Dev nD × Fin 41 → ℕ} {Q : _ → sProp 𝕄} :
    iprop(env m K ∗ Pt 3 woM fullShare (woIn m 3)
      ∗ Any (F := F) 3 outM)
      ⊢ iprop((Pt 3 woM fullShare (woIn m 3)
          ∗ Pt 3 outM fullShare (outV m 3)
          -∗ Q 3#32)
        -∗ Wp 3 (p31 (F := F) 3#32 (totA m 3) (totL m 3) (k0_pay72 (totA m 3)) (k0_pay73 (totL m 3))) Q) := by
  simp only [p31, k0_part31_eq_skeleton]; unfold k0_part31_skel
  have h9 : ¬ (Scalar.cmpi .ne (Scalar.extui (Scalar.cmpi .eq 3#32 0#32) : BitVec 32) 0#32 = 1#1) := by decide
  have h10 : ¬ (Scalar.cmpi .ne (Scalar.extui (Scalar.cmpi .eq 3#32 1#32) : BitVec 32) 0#32 = 1#1) := by decide
  have h11 : ¬ (Scalar.cmpi .ne (Scalar.extui (Scalar.cmpi .eq 3#32 2#32) : BitVec 32) 0#32 = 1#1) := by decide
  simp only [dif_neg h9, dif_neg h10, dif_neg h11]
  simp only [semSignalWord, semWaitWord, Prog.lift, Prog.bind_op, Prog.bind_ret, Prog.pure_eq_ret]
  iintro ⟨#HE, HW, Y_outM⟩ HQ
  iapply (ldE 3 woM (woIn m 3) (Memref.readAt_unit_zero (Elt F) cc0_stg4_0 zero2 _ _)) $$ HW; iintro HW
  unfold Any; icases Y_outM with ⟨%fo, HO⟩
  iapply (ldE 3 outM fo (Memref.readAt_unit_zero (Elt F) cc0_stg5_0 zero2 _ _)) $$ HO; iintro HO
  iapply (stE 3 outM (outV m 3) (Memref.write_access_unit_zero_univ (Elt F) cc0_stg5_0 zero2 _ _ _)) $$ HO; iintro HO
  iapply retW
  iapply HQ
  iframe HW HO

end Cert.RunI

end
-- ==== Proof.RunI.Role3p32.lean ====
/-
# Device 3
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 3 takes back most of what its transfers borrowed and signals two peers that it is about to leave. -/
theorem r3_32 {K : Dev nD × Fin 41 → ℕ} {Q : _ → sProp 𝕄} :
    iprop(env m K ∗ owesE (F := F) 3 ((debts 3).drop 10)
      ∗ at0 (F := F) 3 (.dma q17)
      ∗ pass (F := F) 3 (.dma q17) (amt q17.val)
      ∗ at0 (F := F) 3 (.dma q19)
      ∗ pass (F := F) 3 (.dma q19) (amt q19.val)
      ∗ at0 (F := F) 3 (.dma q21)
      ∗ pass (F := F) 3 (.dma q21) (amt q21.val)
      ∗ at0 (F := F) 3 (.dma q23)
      ∗ pass (F := F) 3 (.dma q23) (amt q23.val)
      ∗ at0 (F := F) 3 (.dma q25)
      ∗ pass (F := F) 3 (.dma q25) (amt q25.val)
      ∗ at0 (F := F) 3 (.dma q27)
      ∗ pass (F := F) 3 (.dma q27) (amt q27.val)
      ∗ at0 (F := F) 3 (.dma q15)
      ∗ pass (F := F) 3 (.dma q15) (amt q15.val)
      ∗ tok (F := F) 0 (.reg exitS) 3
      ∗ tok (F := F) 1 (.reg exitS) 3)
      ⊢ iprop((owesE (F := F) 3 ((debts 3).drop 12)
          ∗ Pt 3 aG (part 0) (accS m 3)
          ∗ fin0 (F := F) 3 (.dma q17)
          ∗ Pt 3 lG (part 0) (lT m 3)
          ∗ fin0 (F := F) 3 (.dma q19)
          ∗ Pt 3 aG (part 1) (accS m 3)
          ∗ fin0 (F := F) 3 (.dma q21)
          ∗ Pt 3 lG (part 1) (lT m 3)
          ∗ fin0 (F := F) 3 (.dma q23)
          ∗ Pt 3 aG (part 2) (accS m 3)
          ∗ fin0 (F := F) 3 (.dma q25)
          ∗ Pt 3 lG (part 2) (lT m 3)
          ∗ fin0 (F := F) 3 (.dma q27)
          ∗ Pt 3 bBot fullShare.left (accS m 0)
          ∗ fin0 (F := F) 3 (.dma q15)
          -∗ Q ⟨Scalar.addi 3#32 3#32, Scalar.select (Scalar.cmpi .eq 4#32 0#32) 1#32 4#32⟩)
        -∗ Wp 3 (p32 (F := F) 3 3#32 3#32) Q) := by
  simp only [p32, k0_part32_eq_skeleton]; unfold k0_part32_skel
  have h12 : (Scalar.cmpi .ne (Scalar.extui (Scalar.cmpi .eq 3#32 3#32) : BitVec 32) 0#32 = 1#1) := by decide
  simp only [dif_pos h12]
  simp only [k0_part21_eq_skeleton]
  unfold k0_part21_skel
  simp only [semSignalWord, semWaitWord, Prog.lift, Prog.bind_op, Prog.bind_ret, Prog.pure_eq_ret]
  iintro ⟨#HE, O, A17, P17, A19, P19, A21, P21, A23, P23, A25, P25, A27, P27, A15, P15, Ke0, Ke1⟩ HQ
  show Entails' (PROP := sProp 𝕄) _ (Wp 3 (.op (.waitDma2 q17 _ aG _ _) _) Q)
  iapply (waitD 3 q17 ((debts 3).drop 10) (dst := aG) (by decide) rfl (by decide) rfl) $$ HE A17 P17 O; iintro Xg0 Z17 O
  ihave Xg0 := (Entails.of_eq (show dmaPay m 3 q17.val = Pt 3 aG (part 0) (accS m 3) from rfl)) $$ Xg0
  show Entails' (PROP := sProp 𝕄) _ (Wp 3 (.op (.waitDma2 q19 _ lG _ _) _) Q)
  iapply (waitD 3 q19 ((debts 3).drop 10) (dst := lG) (by decide) rfl (by decide) rfl) $$ HE A19 P19 O; iintro Lg0 Z19 O
  ihave Lg0 := (Entails.of_eq (show dmaPay m 3 q19.val = Pt 3 lG (part 0) (lT m 3) from rfl)) $$ Lg0
  show Entails' (PROP := sProp 𝕄) _ (Wp 3 (.op (.waitDma2 q21 _ aG _ _) _) Q)
  iapply (waitD 3 q21 ((debts 3).drop 10) (dst := aG) (by decide) rfl (by decide) rfl) $$ HE A21 P21 O; iintro Xg1 Z21 O
  ihave Xg1 := (Entails.of_eq (show dmaPay m 3 q21.val = Pt 3 aG (part 1) (accS m 3) from rfl)) $$ Xg1
  show Entails' (PROP := sProp 𝕄) _ (Wp 3 (.op (.waitDma2 q23 _ lG _ _) _) Q)
  iapply (waitD 3 q23 ((debts 3).drop 10) (dst := lG) (by decide) rfl (by decide) rfl) $$ HE A23 P23 O; iintro Lg1 Z23 O
  ihave Lg1 := (Entails.of_eq (show dmaPay m 3 q23.val = Pt 3 lG (part 1) (lT m 3) from rfl)) $$ Lg1
  show Entails' (PROP := sProp 𝕄) _ (Wp 3 (.op (.waitDma2 q25 _ aG _ _) _) Q)
  iapply (waitD 3 q25 ((debts 3).drop 10) (dst := aG) (by decide) rfl (by decide) rfl) $$ HE A25 P25 O; iintro Xg2 Z25 O
  ihave Xg2 := (Entails.of_eq (show dmaPay m 3 q25.val = Pt 3 aG (part 2) (accS m 3) from rfl)) $$ Xg2
  show Entails' (PROP := sProp 𝕄) _ (Wp 3 (.op (.waitDma2 q27 _ lG _ _) _) Q)
  iapply (waitD 3 q27 ((debts 3).drop 10) (dst := lG) (by decide) rfl (by decide) rfl) $$ HE A27 P27 O; iintro Lg2 Z27 O
  ihave Lg2 := (Entails.of_eq (show dmaPay m 3 q27.val = Pt 3 lG (part 2) (lT m 3) from rfl)) $$ Lg2
  show Entails' (PROP := sProp 𝕄) _ (Wp 3 (.op (.waitDma2 q15 _ bBot _ _) _) Q)
  iapply (waitD 3 q15 ((debts 3).drop 10) (dst := bBot) (by decide) rfl (by decide) rfl) $$ HE A15 P15 O; iintro Bbl Z15 O
  ihave Bbl := (Entails.of_eq (show dmaPay m 3 q15.val = Pt 3 bBot fullShare.left (accS m 0) from rfl)) $$ Bbl
  ihave O := (Entails.of_eq (show owesE (F := F) 3 ((debts 3).drop 10) = owesE 3 ((0, .reg exitS, 1) :: (debts 3).drop 11) from rfl)) $$ O
  iapply (sigR 3 0 ⟨k0_dev37 3, k0_dev37_lt 3⟩ (by decide) exitS ((debts 3).drop 11) (by decide)) $$ HE Ke0 [] O
  · unfold regPay; rw [if_neg (by decide)]; iempintro
  iintro O
  ihave O := (Entails.of_eq (show owesE (F := F) 3 ((debts 3).drop 11) = owesE 3 ((1, .reg exitS, 1) :: (debts 3).drop 12) from rfl)) $$ O
  iapply (sigR 3 1 ⟨k0_dev38 3, k0_dev38_lt 3⟩ (by decide) exitS ((debts 3).drop 12) (by decide)) $$ HE Ke1 [] O
  · unfold regPay; rw [if_neg (by decide)]; iempintro
  iintro O
  iapply retW
  iapply HQ
  iframe O Xg0 Z17 Lg0 Z19 Xg1 Z21 Lg1 Z23 Xg2 Z25 Lg2 Z27 Bbl Z15

end Cert.RunI

end
-- ==== Proof.RunI.Role3pend.lean ====
/-
# Device 3
-/
module

public import proofs.«01_k».proof.Proof.RunI.Common

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

/-- Device 3 sends its last exit signal and waits for its peers' three; it ends with every semaphore done and its buffers back. -/
theorem r3_end {K : Dev nD × Fin 41 → ℕ} {Q : PUnit → sProp 𝕄} :
    iprop(env m K ∗ owesE (F := F) 3 ((debts 3).drop 12)
      ∗ tok (F := F) 2 (.reg exitS) 3
      ∗ at0 (F := F) 3 (.reg exitS)
      ∗ pass (F := F) 3 (.reg exitS) 3
      ∗ Pt 3 aG (part 0) (accS m 3)
      ∗ Pt 3 aG (part 1) (accS m 3)
      ∗ Pt 3 aG (part 2) (accS m 3)
      ∗ Pt 3 lG (part 0) (lT m 3)
      ∗ Pt 3 lG (part 1) (lT m 3)
      ∗ Pt 3 lG (part 2) (lT m 3)
      ∗ Pt 3 aB fullShare (accS m 3)
      ∗ restA 3 (accS m 3)
      ∗ Pt 3 lB fullShare (lT m 3)
      ∗ restL 3 (lT m 3)
      ∗ Pt 3 bTop fullShare.left (accS m 0)
      ∗ Pt 3 bTop fullShare.right (accS m 0)
      ∗ Pt 3 bBot fullShare.left (accS m 0)
      ∗ Pt 3 bBot fullShare.right (accS m 0)
      ∗ Pt 3 blM fullShare (lT m 0)
      ∗ Pt 3 tM fullShare (totA m 3)
      ∗ Pt 3 uM fullShare (totL m 3)
      ∗ Pt 3 s1 fullShare (stripA m)
      ∗ Pt 3 sB fullShare (stripA m)
      ∗ Pt 3 s2 fullShare (stripA m)
      ∗ Pt 3 sl1 fullShare (stripL m)
      ∗ Pt 3 slB fullShare (stripL m)
      ∗ Pt 3 sl2 fullShare (stripL m)
      ∗ Any (F := F) 3 s3
      ∗ restS (F := F) 3
      ∗ Any (F := F) 3 sl3
      ∗ restSL (F := F) 3
      ∗ at0 (F := F) 3 (.dma q6)
      ∗ at0 (F := F) 3 (.dma q7)
      ∗ at0 (F := F) 3 (.dma q8)
      ∗ at0 (F := F) 3 (.dma q9)
      ∗ at0 (F := F) 3 (.dma q10)
      ∗ at0 (F := F) 3 (.dma q11)
      ∗ at0 (F := F) 3 (.dma q16)
      ∗ at0 (F := F) 3 (.dma q18)
      ∗ at0 (F := F) 3 (.dma q20)
      ∗ at0 (F := F) 3 (.dma q22)
      ∗ at0 (F := F) 3 (.dma q24)
      ∗ at0 (F := F) 3 (.dma q26)
      ∗ at0 (F := F) 3 (.dma q28)
      ∗ at0 (F := F) 3 (.dma q29)
      ∗ at0 (F := F) 3 (.dma q30)
      ∗ at0 (F := F) 3 (.dma q31)
      ∗ at0 (F := F) 3 (.dma q32)
      ∗ at0 (F := F) 3 (.dma q38)
      ∗ at0 (F := F) 3 (.dma q40)
      ∗ at0 (F := F) 3 (.dma q41)
      ∗ at0 (F := F) 3 (.dma q42)
      ∗ at0 (F := F) 3 (.dma q43)
      ∗ at0 (F := F) 3 (.dma q44))
      ⊢ iprop((owesE (F := F) 3 ((debts 3).drop 13)
          ∗ fin0 (F := F) 3 (.reg exitS)
          ∗ Any (F := F) 3 baM
          ∗ Any (F := F) 3 blM
          ∗ Any (F := F) 3 aM
          ∗ Any (F := F) 3 lM
          ∗ Any (F := F) 3 tM
          ∗ Any (F := F) 3 uM
          ∗ Any (F := F) 3 saM
          ∗ Any (F := F) 3 slM
          ∗ fin0 (F := F) 3 (.dma q6)
          ∗ fin0 (F := F) 3 (.dma q7)
          ∗ fin0 (F := F) 3 (.dma q8)
          ∗ fin0 (F := F) 3 (.dma q9)
          ∗ fin0 (F := F) 3 (.dma q10)
          ∗ fin0 (F := F) 3 (.dma q11)
          ∗ fin0 (F := F) 3 (.dma q16)
          ∗ fin0 (F := F) 3 (.dma q18)
          ∗ fin0 (F := F) 3 (.dma q20)
          ∗ fin0 (F := F) 3 (.dma q22)
          ∗ fin0 (F := F) 3 (.dma q24)
          ∗ fin0 (F := F) 3 (.dma q26)
          ∗ fin0 (F := F) 3 (.dma q28)
          ∗ fin0 (F := F) 3 (.dma q29)
          ∗ fin0 (F := F) 3 (.dma q30)
          ∗ fin0 (F := F) 3 (.dma q31)
          ∗ fin0 (F := F) 3 (.dma q32)
          ∗ fin0 (F := F) 3 (.dma q38)
          ∗ fin0 (F := F) 3 (.dma q40)
          ∗ fin0 (F := F) 3 (.dma q41)
          ∗ fin0 (F := F) 3 (.dma q42)
          ∗ fin0 (F := F) 3 (.dma q43)
          ∗ fin0 (F := F) 3 (.dma q44)
          -∗ Q ⟨⟩)
        -∗ Wp 3 (.op (.semSignal ((⟨k0_dev39 3, k0_dev39_lt 3⟩ : Dev nD) : Thread nD τ) exitS 1) fun _ => .op (.semWait exitS 3) fun _ => .ret ⟨⟩) Q) := by
  iintro ⟨#HE, O, Ke2, Ae, Pe, Xg0, Xg1, Xg2, Lg0, Lg1, Lg2, Xb, Ra, Lb, Rll, Btl, Btr, Bbl, Bbr, Bl, HT, HU, W_s1, W_sB, W_s2, W_sl1, W_slB, W_sl2, Y3_s3, Rs, Y3_sl3, Rl, A6, A7, A8, A9, A10, A11, A16, A18, A20, A22, A24, A26, A28, A29, A30, A31, A32, A38, A40, A41, A42, A43, A44⟩ HQ
  ihave O := (Entails.of_eq (show owesE (F := F) 3 ((debts 3).drop 12) = owesE 3 ((2, .reg exitS, 1) :: (debts 3).drop 13) from rfl)) $$ O
  iapply (sigR 3 2 ⟨k0_dev39 3, k0_dev39_lt 3⟩ (by decide) exitS ((debts 3).drop 13) (by decide)) $$ HE Ke2 [] O
  · unfold regPay; rw [if_neg (by decide)]; iempintro
  iintro O
  iapply (waitR 3 exitS ((debts 3).drop 13) (by decide)) $$ HE Ae Pe O; iintro - Ze O
  ihave HH := (share3 3 aG (accS m 3)).2 $$ [Xg0 Xg1 Xg2]
  · iframe Xg0 Xg1 Xg2
  irename HH => Xg
  ihave HH := (share3 3 lG (lT m 3)).2 $$ [Lg0 Lg1 Lg2]
  · iframe Lg0 Lg1 Lg2
  irename HH => Lg
  ihave HH := (sentA 3 (accS m 3)).2 $$ [Xg Xb Ra]
  · iframe Xg Xb Ra
  irename HH => HA
  ihave HH := (sentL 3 (lT m 3)).2 $$ [Lg Lb Rll]
  · iframe Lg Lb Rll
  irename HH => HL
  ihave HH := (share2 3 bTop fullShare (accS m 0)).2 $$ [Btl Btr]
  · iframe Btl Btr
  irename HH => Bt
  ihave HH := (share2 3 bBot fullShare (accS m 0)).2 $$ [Bbl Bbr]
  · iframe Bbl Bbr
  irename HH => Bb
  ihave HH := (halvesB 3 fullShare (accS m 0)).2 $$ [Bt Bb]
  · iframe Bt Bb
  irename HH => Ba
  ihave Y_baM := (toAny 3 baM (accS m 0)) $$ Ba
  ihave Y_blM := (toAny 3 blM (lT m 0)) $$ Bl
  ihave Y_aM := (toAny 3 aM (accS m 3)) $$ HA
  ihave Y_lM := (toAny 3 lM (lT m 3)) $$ HL
  ihave Y_tM := (toAny 3 tM (totA m 3)) $$ HT
  ihave Y_uM := (toAny 3 uM (totL m 3)) $$ HU
  ihave Y3_s1 := (toAny 3 s1 (stripA m)) $$ W_s1
  ihave Y3_sB := (toAny 3 sB (stripA m)) $$ W_sB
  ihave Y3_s2 := (toAny 3 s2 (stripA m)) $$ W_s2
  ihave Y3_sl1 := (toAny 3 sl1 (stripL m)) $$ W_sl1
  ihave Y3_slB := (toAny 3 slB (stripL m)) $$ W_slB
  ihave Y3_sl2 := (toAny 3 sl2 (stripL m)) $$ W_sl2
  ihave HH := (slots (F := F) 3).2 $$ [Y3_s1 Y3_sB Y3_s2 Y3_s3 Rs]
  · iframe Y3_s1 Y3_sB Y3_s2 Y3_s3 Rs
  irename HH => Y_saM
  ihave HH := (slotsL (F := F) 3).2 $$ [Y3_sl1 Y3_slB Y3_sl2 Y3_sl3 Rl]
  · iframe Y3_sl1 Y3_slB Y3_sl2 Y3_sl3 Rl
  irename HH => Y_slM
  imod (close0 3 q6 (by decide) rfl) $$ HE A6 with Z6
  imod (close0 3 q7 (by decide) rfl) $$ HE A7 with Z7
  imod (close0 3 q8 (by decide) rfl) $$ HE A8 with Z8
  imod (close0 3 q9 (by decide) rfl) $$ HE A9 with Z9
  imod (close0 3 q10 (by decide) rfl) $$ HE A10 with Z10
  imod (close0 3 q11 (by decide) rfl) $$ HE A11 with Z11
  imod (close0 3 q16 (by decide) rfl) $$ HE A16 with Z16
  imod (close0 3 q18 (by decide) rfl) $$ HE A18 with Z18
  imod (close0 3 q20 (by decide) rfl) $$ HE A20 with Z20
  imod (close0 3 q22 (by decide) rfl) $$ HE A22 with Z22
  imod (close0 3 q24 (by decide) rfl) $$ HE A24 with Z24
  imod (close0 3 q26 (by decide) rfl) $$ HE A26 with Z26
  imod (close0 3 q28 (by decide) rfl) $$ HE A28 with Z28
  imod (close0 3 q29 (by decide) rfl) $$ HE A29 with Z29
  imod (close0 3 q30 (by decide) rfl) $$ HE A30 with Z30
  imod (close0 3 q31 (by decide) rfl) $$ HE A31 with Z31
  imod (close0 3 q32 (by decide) rfl) $$ HE A32 with Z32
  imod (close0 3 q38 (by decide) rfl) $$ HE A38 with Z38
  imod (close0 3 q40 (by decide) rfl) $$ HE A40 with Z40
  imod (close0 3 q41 (by decide) rfl) $$ HE A41 with Z41
  imod (close0 3 q42 (by decide) rfl) $$ HE A42 with Z42
  imod (close0 3 q43 (by decide) rfl) $$ HE A43 with Z43
  imod (close0 3 q44 (by decide) rfl) $$ HE A44 with Z44
  iapply retW
  iapply HQ
  iframe O Ze Y_baM Y_blM Y_aM Y_lM Y_tM Y_uM Y_saM Y_slM Z6 Z7 Z8 Z9 Z10 Z11 Z16 Z18 Z20 Z22 Z24 Z26 Z28 Z29 Z30 Z31 Z32 Z38 Z40 Z41 Z42 Z43 Z44

end Cert.RunI

end
-- ==== Proof.RunI.Tail3.lean ====
/-
# Device 3: the end of its program
-/
module

public import proofs.«01_k».proof.Proof.RunI.Tail
public import proofs.«01_k».proof.Proof.RunI.Role3p29
public import proofs.«01_k».proof.Proof.RunI.Role3p30
public import proofs.«01_k».proof.Proof.RunI.Role3p31
public import proofs.«01_k».proof.Proof.RunI.Role3p32
public import proofs.«01_k».proof.Proof.RunI.Role3pend

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The waits that device 3 is to be paid for, one by one. -/
theorem passes3 : (bigSepL (passes 3) fun x => pass (F := F) 3 x.1 x.2) = iprop(pass (F := F) 3 (.reg barS) 3 ∗ pass (F := F) 3 (.reg exitS) 3 ∗ pass (F := F) 3 (.dma q12) (amt q12.val) ∗ pass (F := F) 3 (.dma q13) (amt q13.val) ∗ pass (F := F) 3 (.dma q14) (amt q14.val) ∗ pass (F := F) 3 (.dma q33) (amt q33.val) ∗ pass (F := F) 3 (.dma q34) (amt q34.val) ∗ pass (F := F) 3 (.dma q35) (amt q35.val) ∗ pass (F := F) 3 (.dma q36) (amt q36.val) ∗ pass (F := F) 3 (.dma q37) (amt q37.val) ∗ pass (F := F) 3 (.dma q39) (amt q39.val)) := rfl
/-- The duties that device 3 is to pay, one by one. -/
theorem toks3 : (bigSepL (toks 3) fun x => tok (F := F) x.1 x.2.1 x.2.2) = iprop(tok (F := F) 0 (.reg barS) 3 ∗ tok (F := F) 1 (.reg barS) 3 ∗ tok (F := F) 2 (.reg barS) 3 ∗ tok (F := F) 0 (.reg exitS) 3 ∗ tok (F := F) 1 (.reg exitS) 3 ∗ tok (F := F) 2 (.reg exitS) 3 ∗ tok (F := F) 3 (.dma q17) 0 ∗ tok (F := F) 0 (.dma q41) 0 ∗ tok (F := F) 3 (.dma q19) 0 ∗ tok (F := F) 0 (.dma q43) 0 ∗ tok (F := F) 3 (.dma q21) 0 ∗ tok (F := F) 1 (.dma q41) 0 ∗ tok (F := F) 3 (.dma q23) 0 ∗ tok (F := F) 1 (.dma q43) 0 ∗ tok (F := F) 3 (.dma q25) 0 ∗ tok (F := F) 2 (.dma q41) 0 ∗ tok (F := F) 3 (.dma q27) 0 ∗ tok (F := F) 2 (.dma q43) 0 ∗ tok (F := F) 3 (.dma q15) 0 ∗ tok (F := F) 2 (.dma q13) 0) := rfl

set_option maxHeartbeats 3200000

/-- The whole exchange on device 3, from its own sums to its result. -/
theorem tail3 {K : Dev nD × Fin 41 → ℕ} {v237 v238 : BitVec 32} {v239 v240 : BitVec 1} {Q : PUnit → sProp 𝕄} :
    iprop(env m K ∗ Mid m 3) ⊢ iprop((Done m 3 -∗ Q ⟨⟩)
      -∗ Wp 3 (tailP (F := F) 3 3#32 (SemArray.scalar (sig.barrier 0 rfl)) v237 v238 v239 v240) Q) := by
  unfold tailP Mid Ghost Done Closed
  rw [cells_at, cells_at, passes3, toks3]
  simp only [semSignalWord, semWaitWord, Prog.lift, Prog.bind_op, Prog.bind_ret, Prog.pure_eq_ret]
  simp only [wp_bind]
  iintro ⟨#HE, ⟨⟨Ab, A6, A7, A8, A9, A10, A11, A12, A13, A14, A15, A16, A17, A18, A19, A20, A21, A22, A23, A24, A25, A26, A27, A28, A29, A30, A31, A32, A33, A34, A35, A36, A37, A38, A39, A40, A41, A42, A43, A44, Ae⟩, ⟨Pb, Pe, P12, P13, P14, P33, P34, P35, P36, P37, P39⟩, ⟨Kb0, Kb1, Kb2, Ke0, Ke1, Ke2, K17, R0_41, K19, R0_43, K21, R1_41, K23, R1_43, K25, R2_41, K27, R2_43, K15, R2_13⟩, O⟩, HW, Y_outM, HT, HU, HA, HL, Y_baM, Y_blM, Y_saM, Y_slM⟩ HQ
  ihave O := (Entails.of_eq (show owesE (F := F) 3 (debts 3) = owesE (F := F) 3 ((debts 3).drop 0) from rfl)) $$ O
  iapply (r3_29 m) $$ [Y_saM Y_slM Y_baM Y_blM O Kb0 Kb1 Kb2]
  · iframe HE Y_saM Y_slM Y_baM Y_blM O Kb0 Kb1 Kb2
  iintro ⟨O, Y3_s3, Rs, Y3_sl3, Rl⟩
  iapply (r3_30 m) $$ [O Ab Pb HA HL K17 R0_41 K19 R0_43 K21 R1_41 K23 R1_43 K25 R2_41 K27 R2_43 A13 P13 K15 R2_13 A12 P12 A14 P14 HT HU A33 P33 A35 P35 A34 P34 A36 P36 A37 P37 A39 P39]
  · iframe HE O Ab Pb HA HL K17 R0_41 K19 R0_43 K21 R1_41 K23 R1_43 K25 R2_41 K27 R2_43 A13 P13 K15 R2_13 A12 P12 A14 P14 HT HU A33 P33 A35 P35 A34 P34 A36 P36 A37 P37 A39 P39
  iintro ⟨O, HT, HU, Zb, Xb, Ra, Lb, Rll, P17, P19, P21, P23, P25, P27, Z13, P15, Z12, Bl, Z14, Btl, Btr, Bbr, W_s1, Z33, W_sl1, Z35, W_sB, Z34, W_slB, Z36, W_s2, Z37, W_sl2, Z39⟩
  iapply (r3_31 m) $$ [HW Y_outM]
  · iframe HE HW Y_outM
  iintro ⟨HW, HO⟩
  iapply (r3_32 m) $$ [O A17 P17 A19 P19 A21 P21 A23 P23 A25 P25 A27 P27 A15 P15 Ke0 Ke1]
  · iframe HE O A17 P17 A19 P19 A21 P21 A23 P23 A25 P25 A27 P27 A15 P15 Ke0 Ke1
  iintro ⟨O, Xg0, Z17, Lg0, Z19, Xg1, Z21, Lg1, Z23, Xg2, Z25, Lg2, Z27, Bbl, Z15⟩
  iapply (r3_end m) $$ [O Ke2 Ae Pe Xg0 Xg1 Xg2 Lg0 Lg1 Lg2 Xb Ra Lb Rll Btl Btr Bbl Bbr Bl HT HU W_s1 W_sB W_s2 W_sl1 W_slB W_sl2 Y3_s3 Rs Y3_sl3 Rl A6 A7 A8 A9 A10 A11 A16 A18 A20 A22 A24 A26 A28 A29 A30 A31 A32 A38 A40 A41 A42 A43 A44]
  · iframe HE O Ke2 Ae Pe Xg0 Xg1 Xg2 Lg0 Lg1 Lg2 Xb Ra Lb Rll Btl Btr Bbl Bbr Bl HT HU W_s1 W_sB W_s2 W_sl1 W_slB W_sl2 Y3_s3 Rs Y3_sl3 Rl A6 A7 A8 A9 A10 A11 A16 A18 A20 A22 A24 A26 A28 A29 A30 A31 A32 A38 A40 A41 A42 A43 A44
  iintro ⟨O, Ze, Y_baM, Y_blM, Y_aM, Y_lM, Y_tM, Y_uM, Y_saM, Y_slM, Z6, Z7, Z8, Z9, Z10, Z11, Z16, Z18, Z20, Z22, Z24, Z26, Z28, Z29, Z30, Z31, Z32, Z38, Z40, Z41, Z42, Z43, Z44⟩
  iapply HQ
  isplitl [Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze O]
  · isplitl [Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze]
    · iframe Zb Z6 Z7 Z8 Z9 Z10 Z11 Z12 Z13 Z14 Z15 Z16 Z17 Z18 Z19 Z20 Z21 Z22 Z23 Z24 Z25 Z26 Z27 Z28 Z29 Z30 Z31 Z32 Z33 Z34 Z35 Z36 Z37 Z38 Z39 Z40 Z41 Z42 Z43 Z44 Ze
    · iapply (Entails.of_eq (show owesE (F := F) 3 ((debts 3).drop 13) = owesE (F := F) 3 [] from rfl)); iexact O
  · iframe HW HO Y_aM Y_lM Y_baM Y_blM Y_saM Y_slM Y_tM Y_uM

end Cert.RunI

end
-- ==== Proof.RunI.Body.lean ====
/-
# The whole body of a device
-/
module

public import proofs.«01_k».proof.Proof.RunI.Tail0
public import proofs.«01_k».proof.Proof.RunI.Tail1
public import proofs.«01_k».proof.Proof.RunI.Tail2
public import proofs.«01_k».proof.Proof.RunI.Tail3

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 3200000

section
variable (c : Dev nD)

/-- The device's number as the program computes it. -/
abbrev me : BitVec 32 := Scalar.remsi (Scalar.divsi (Dev.word c) 1#32) 4#32
/-- The modulus, and the next device's number, as the program computes them. -/
abbrev w237 : BitVec 32 := Scalar.select (Scalar.cmpi .eq 4#32 0#32) 1#32 4#32
abbrev w238 : BitVec 32 := Scalar.remsi (Scalar.addi (me c) 1#32) w237

/-- No column comes before the first. -/
theorem no_col (n : ℕ) (hn : n = 0) : ∀ i : S1024x1024.Idx, ¬ colsTo n i := by
  subst hn; intro i hi; unfold colsTo at hi; omega
/-- No column of the row sums comes before the first. -/
theorem no_col' (n : ℕ) (hn : n = 0) : ∀ i : S1024x8.Idx, ¬ colTo n i := by
  subst hn; intro i hi; unfold colTo at hi; omega

/-- The first half of the body: from the staged inputs and any scratch contents to the device's own sums, in every buffer they are kept in. -/
theorem run_head {Q : PUnit → sProp 𝕄} :
    iprop(Pt c xM fullShare (xIn m c) ∗ Pt c qM fullShare (qIn m c) ∗ KV m c ∗ Any (F := F) c tM ∗ Any (F := F) c uM ∗ Any (F := F) c aM ∗ Any (F := F) c lM)
      ⊢ iprop((Pt c xM fullShare (xIn m c) ∗ Pt c qM fullShare (qIn m c) ∗ KV m c ∗ Pt c tM fullShare (accT m c) ∗ Pt c uM fullShare (lT m c) ∗ Pt c aM fullShare (accS m c) ∗ Pt c lM fullShare (lT m c)
          -∗ Wp c (tailP (F := F) c (me c) (SemArray.scalar (sig.barrier 0 rfl)) w237 (w238 c) (Scalar.cmpi .ne (w238 c) 0#32) (Scalar.cmpi .slt (w238 c) 0#32)) Q)
        -∗ Wp c (body0 (F := F)) Q) := by
  simp only [body0, cc0_body_eq_skeleton]; unfold cc0_body_skel
  simp only [wp_bind]
  iintro ⟨Hx, Hq, HKV, HT, HU, HA, HL⟩ HQ
  ihave HT := (fill_none c tM (accT m c) (colsTo 0) (no_col 0 rfl)) $$ HT
  ihave HU := (fill_none c uM (lT m c) (colTo 0) (no_col' 0 rfl)) $$ HU
  ihave HA := (fill_none c aM (accS m c) (colsTo 0) (no_col 0 rfl)) $$ HA
  ihave HL := (fill_none c lM (lT m c) (colTo 0) (no_col' 0 rfl)) $$ HL
  iapply (run22 m c) $$ [Hx Hq HKV]
  · iframe Hx Hq HKV
  iintro ⟨Hx, Hq, HKV⟩
  dsimp only
  iapply (run23 m c) $$ [HKV HT HU HA HL]
  · iframe HKV HT HU HA HL
  iintro ⟨HKV, HT, HU, HA, HL⟩
  dsimp only
  iapply (run24 m c) $$ [HKV HT HU HA HL]
  · iframe HKV HT HU HA HL
  iintro ⟨HKV, HT, HU, HA, HL⟩
  iapply (run25 m c) $$ [HKV HT HU HA HL]
  · iframe HKV HT HU HA HL
  iintro ⟨HKV, HT, HU, HA, HL⟩
  dsimp only
  iapply (run26 m c) $$ [HKV HT HU HA HL]
  · iframe HKV HT HU HA HL
  iintro ⟨HKV, HT, HU, HA, HL⟩
  dsimp only
  iapply (run27 m c) $$ [HKV HT HU HA HL]
  · iframe HKV HT HU HA HL
  iintro ⟨HKV, HT, HU, HA, HL⟩
  iapply (run28 m c) $$ [HKV HT HU HA HL]
  · iframe HKV HT HU HA HL
  iintro ⟨HKV, HT, HU, HA, HL⟩
  dsimp only
  ihave H := HQ $$ [Hx Hq HKV HT HU HA HL]
  · iframe Hx Hq HKV HT HU HA HL
  unfold tailP
  simp only [wp_bind]
  iexact H

end

/-- The end of the body, on every device. -/
theorem run_tail (c : Dev nD) {K : Dev nD × Fin 41 → ℕ} {v237 v238 : BitVec 32} {v239 v240 : BitVec 1} {Q : PUnit → sProp 𝕄} :
    iprop(env m K ∗ Mid m c) ⊢ iprop((Done m c -∗ Q ⟨⟩)
      -∗ Wp c (tailP (F := F) c (me c) (SemArray.scalar (sig.barrier 0 rfl)) v237 v238 v239 v240) Q) := by
  match c with
  | 0 => rw [show me (0 : Dev nD) = 0#32 from by decide]; exact tail0 m
  | 1 => rw [show me (1 : Dev nD) = 1#32 from by decide]; exact tail1 m
  | 2 => rw [show me (2 : Dev nD) = 2#32 from by decide]; exact tail2 m
  | 3 => rw [show me (3 : Dev nD) = 3#32 from by decide]; exact tail3 m

/-- The body of device `c`, from the ghost state and the buffers to its result and its cells closed. -/
theorem run_body (c : Dev nD) {K : Dev nD × Fin 41 → ℕ} {Q : PUnit → sProp 𝕄} :
    iprop(env m K ∗ Ghost (F := F) c ∗ Ins m c ∗ Any (F := F) c outM ∗ Scr (F := F) c)
      ⊢ iprop((Closed (F := F) c ∗ Ins m c ∗ Pt c outM fullShare (outV m c) ∗ Scr (F := F) c -∗ Q ⟨⟩) -∗ Wp c (body0 (F := F)) Q) := by
  iintro ⟨#HE, HG, ⟨Hx, Hq, Hk, Hv, Hw⟩, Ho, HA, HL, HBA, HBL, HSA, HSL, HT, HU⟩ HQ
  iapply (run_head m c) $$ [Hx Hq Hk Hv HT HU HA HL]
  · iframe Hx Hq HT HU HA HL
    isplitl [Hk]
    · iexact Hk
    · iexact Hv
  iintro ⟨Hx, Hq, ⟨Hk, Hv⟩, HT, HU, HA, HL⟩
  iapply (run_tail m c (K := K)) $$ [HG Hw Ho HT HU HA HL HBA HBL HSA HSL]
  · iframe HE HG Hw Ho HT HU HA HL HBA HBL HSA HSL
  iintro ⟨HC, Hw, Ho, HS⟩
  iapply HQ
  iframe HC Ho HS
  iframe Hx Hq Hk Hv Hw

end Cert.RunI

end
-- ==== Proof.RunI.Launch.lean ====
/-
# The launch: funding the protocol, and the run of the kernel
-/
module

public import proofs.«01_k».proof.Proof.RunI.Body
public import proofs.«01_k».proof.Proof.Gen.KernelIdeal.Points
public import Idealize.ShloMosaic.Lib.Pipeline.Launch
public import Idealize.ShloMosaic.Lib.Pipeline.BigSepL
public import Idealize.ShloMosaic.Lib.Pipeline.CollectiveSegs

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-- The starting state: memory `m`, every counter at zero. -/
def s₀ : MemSt nD τ sig (Elt F) := ⟨m, fun _ => 0, ρ⟩

/-- The kernel's own semaphores: its transfers and its exit. -/
abbrev osem : Fin 40 → SemLoc sig := fun i => csem ⟨i.val + 1, by omega⟩

set_option maxRecDepth 8000 in
theorem ownSemFacts : Pipeline.OwnSemFacts cfg0.spec osem := by decide

theorem cfg0_N : cfg0.N = 1 := by decide
/-- The grid's one point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What a device starts from -/

/-- The shared facts, its positions and its duties. -/
def G' (c : Dev nD) : sProp 𝕄 :=
  iprop(∃ K, records m K ∗ (bigSep Finset.univ fun k : Fin 41 => at0 (F := F) c (csem k)) ∗ bigSepL (toks c) fun x => tok (F := F) x.1 x.2.1 x.2.2)

/-- That, its credits and the level facts. -/
def start (c : Dev nD) : sProp 𝕄 :=
  iprop(G' m c ∗ (bigSepL (passes c) fun x => pass (F := F) c x.1 x.2) ∗ levAts L lv)

/-- What a device holds before the body. -/
def Φ₀ (c : Dev nD) : sProp 𝕄 := iprop(start m c ∗ Scr (F := F) c)
/-- What it holds after the body. -/
def Φ₁ (c : Dev nD) : sProp 𝕄 := iprop((bigSep Finset.univ fun k : Fin 41 => fin0 (F := F) c (csem k)) ∗ Scr (F := F) c)

/-- The contents of each staged buffer after the body. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xIn m c
    | ⟨1, _⟩ => qIn m c
    | ⟨2, _⟩ => kIn m c
    | ⟨3, _⟩ => vIn m c
    | ⟨4, _⟩ => woIn m c
    | ⟨5, _⟩ => outV m c
  Φ t := match t with
    | ⟨0, _⟩ => Φ₀ m c
    | ⟨_ + 1, _⟩ => Φ₁ c
  q _ := fullShare
  owed t := match t with
    | ⟨0, _⟩ => owe (debts c)
    | ⟨_ + 1, _⟩ => 0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- Owning a whole buffer is holding all its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body at its one point -/

set_option maxRecDepth 4000 in
/-- The body's precondition, buffer by buffer. -/
def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- The body's postcondition, buffer by buffer. -/
def bodyPost (c : Dev nD) : sProp 𝕄 :=
  iprop(Φ₁ (F := F) c ∗ (dats m ρ 0 c).owesAt () t₀.succ ∗ stg c cc0_stg0_0 (xIn m c) ∗ stg c cc0_stg1_0 (qIn m c) ∗ stg c cc0_stg2_0 (kIn m c)
    ∗ stg c cc0_stg3_0 (vIn m c) ∗ stg c cc0_stg4_0 (woIn m c) ∗ stg c cc0_stg5_0 (outV m c))

theorem staged0 (c : Dev nD) : iprop(∃ d, stg c cc0_stg0_0 ((dats m ρ 0 c).before (0 : Fin 6) t₀ d)) ⊢ Pt c xM fullShare (xIn m c) := by
  iintro ⟨%d, %g, %hg, H⟩
  have hx : g = xIn m c := by rw [hg]; unfold Pipeline.Dat.before; rw [if_pos (fetch0_0 t₀)]; rfl
  subst hx
  unfold Pt; rw [View.set_whole]; iexact H
theorem staged1 (c : Dev nD) : iprop(∃ d, stg c cc0_stg1_0 ((dats m ρ 0 c).before (1 : Fin 6) t₀ d)) ⊢ Pt c qM fullShare (qIn m c) := by
  iintro ⟨%d, %g, %hg, H⟩
  have hx : g = qIn m c := by rw [hg]; unfold Pipeline.Dat.before; rw [if_pos (fetch0_1 t₀)]; rfl
  subst hx
  unfold Pt; rw [View.set_whole]; iexact H
theorem staged2 (c : Dev nD) : iprop(∃ d, stg c cc0_stg2_0 ((dats m ρ 0 c).before (2 : Fin 6) t₀ d)) ⊢ Pt c kM fullShare (kIn m c) := by
  iintro ⟨%d, %g, %hg, H⟩
  have hx : g = kIn m c := by rw [hg]; unfold Pipeline.Dat.before; rw [if_pos (fetch0_2 t₀)]; rfl
  subst hx
  unfold Pt; rw [View.set_whole]; iexact H
theorem staged3 (c : Dev nD) : iprop(∃ d, stg c cc0_stg3_0 ((dats m ρ 0 c).before (3 : Fin 6) t₀ d)) ⊢ Pt c vM fullShare (vIn m c) := by
  iintro ⟨%d, %g, %hg, H⟩
  have hx : g = vIn m c := by rw [hg]; unfold Pipeline.Dat.before; rw [if_pos (fetch0_3 t₀)]; rfl
  subst hx
  unfold Pt; rw [View.set_whole]; iexact H
theorem staged4 (c : Dev nD) : iprop(∃ d, stg c cc0_stg4_0 ((dats m ρ 0 c).before (4 : Fin 6) t₀ d)) ⊢ Pt c woM fullShare (woIn m c) := by
  iintro ⟨%d, %g, %hg, H⟩
  have hx : g = woIn m c := by rw [hg]; unfold Pipeline.Dat.before; rw [if_pos (fetch0_4 t₀)]; rfl
  subst hx
  unfold Pt; rw [View.set_whole]; iexact H
theorem staged5 (c : Dev nD) : iprop(∃ d, stg c cc0_stg5_0 ((dats m ρ 0 c).before (5 : Fin 6) t₀ d)) ⊢ Any (F := F) c outM := by
  iintro ⟨%d, %g, %hg, H⟩
  unfold Any; iexists g
  unfold Pt; rw [View.set_whole]; iexact H

theorem unstage (c : Dev nD) (b : Ref sig .tc) (X : b.ty.Contents (Elt F)) :
    (((c : Thread nD τ).loc b) ↦{fullShare} X : sProp 𝕄) ⊢ stg c b X := by
  iintro H; iexists X; isplitr
  · ipureintro; rfl
  · iexact H

/-- The body at its point: from the staged inputs to the staged result, the cells closed. -/
theorem sound_body (c : Dev nD) : bodyPre m ρ c ⊢ Wp c (body0 (F := F)) (fun _ => bodyPost m ρ c) := by
  unfold bodyPre Φ₀ start G'
  iintro ⟨⟨⟨⟨%K, #HR, Hat, Htok⟩, Hp, #Hl⟩, HS⟩, Ho, H0, H1, H2, H3, H4, H5⟩
  ihave H0 := (staged0 m ρ c) $$ H0
  ihave H1 := (staged1 m ρ c) $$ H1
  ihave H2 := (staged2 m ρ c) $$ H2
  ihave H3 := (staged3 m ρ c) $$ H3
  ihave H4 := (staged4 m ρ c) $$ H4
  ihave H5 := (staged5 m ρ c) $$ H5
  unfold Pipeline.Dat.owesAt Pipeline.owesWithin
  icases Ho with ⟨%W, %hW, HO⟩
  rw [show (dats m ρ 0 c).owed t₀.castSucc = owe (debts c) from rfl]
  iapply (run_body m c (K := K)) $$ [Hat Htok Hp HS HO H0 H1 H2 H3 H4 H5]
  · isplitr
    · unfold env; isplitr
      · iexact HR
      · iexact Hl
    isplitl [Hat Htok Hp HO]
    · unfold Ghost owesE
      isplitl [Hat]; · iexact Hat
      isplitl [Hp]; · iexact Hp
      isplitl [Htok]; · iexact Htok
      iexists W; iexact HO
    isplitl [H0 H1 H2 H3 H4]
    · iframe H0 H1 H2 H3 H4
    isplitl [H5]; · iexact H5
    iexact HS
  iintro ⟨HC, ⟨H0, H1, H2, H3, H4⟩, H5, HS⟩
  unfold bodyPost Φ₁ Closed owesE Pipeline.Dat.owesAt Pipeline.owesWithin
  rw [show (dats m ρ 0 c).owed t₀.succ = 0 from rfl]
  icases HC with ⟨Hz, %W', HO⟩
  isplitl [Hz HS]
  · isplitl [Hz]; · iexact Hz
    iexact HS
  isplitl [HO]
  · iexists W'
    isplitr; · ipureintro; exact fun _ _ => Or.inl trivial
    iexact HO
  unfold Pt
  simp only [View.set_whole, Memref.view_whole]
  isplitl [H0]; · iapply (unstage c cc0_stg0_0 (xIn m c)); iexact H0
  isplitl [H1]; · iapply (unstage c cc0_stg1_0 (qIn m c)); iexact H1
  isplitl [H2]; · iapply (unstage c cc0_stg2_0 (kIn m c)); iexact H2
  isplitl [H3]; · iapply (unstage c cc0_stg3_0 (vIn m c)); iexact H3
  isplitl [H4]; · iapply (unstage c cc0_stg4_0 (woIn m c)); iexact H4
  iapply (unstage c cc0_stg5_0 (outV m c)); iexact H5

set_option maxRecDepth 4000 in
/-- The body obligation of device `c`. -/
theorem body_obligation (c : Dev nD) : Pipeline.BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem share_eq (c : Dev nD) (w : Fin cfg0.W) : (dats m ρ 0 c).share w = fullShare := by unfold Pipeline.Dat.share; split <;> rfl

theorem csem_injective : Function.Injective csem := by decide

theorem kcell_injective : Function.Injective (kcell : Dev nD × Fin 41 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl
def allCells : Finset (GSem nD τ sig) := Finset.univ.map ⟨kcell, kcell_injective⟩

/-- Every duty, listed by the device that pays it. -/
def tokL : List (Dev nD × SemLoc sig × Dev nD) := toks 0 ++ (toks 1 ++ (toks 2 ++ toks 3))
abbrev tokOf (x : Dev nD × SemLoc sig × Dev nD) : GSem nD τ sig × ℕ × Dev nD := (((x.1 : Thread nD τ), x.2.1), 0, x.2.2)
theorem tokOf_injective : Function.Injective tokOf := by
  rintro ⟨a, b, c⟩ ⟨a', b', c'⟩ h
  have h1 : a = a' := congrArg (fun g : GSem nD τ sig × ℕ × Dev nD => g.1.1.1) h
  have h2 : b = b' := congrArg (fun g : GSem nD τ sig × ℕ × Dev nD => g.1.2) h
  have h3 : c = c' := congrArg (fun g : GSem nD τ sig × ℕ × Dev nD => g.2.2) h
  subst h1 h2 h3; rfl
set_option maxRecDepth 8000 in
theorem tokL_nodup : tokL.Nodup := by decide
def allToks : Finset (GSem nD τ sig × ℕ × Dev nD) := tokL.toFinset.map ⟨tokOf, tokOf_injective⟩

def u₀ : UU :=
  (initOf (Pipeline.cells cfgs cellOf_inj) (Pipeline.launchToks cfgs cellOf_inj), initOf allCells allToks)

abbrev duties (c : Dev nD) : sProp 𝕄 := bigSepL (toks c) fun x => tok (F := F) x.1 x.2.1 x.2.2

/-- What the launch deals device `c`. -/
def G (c : Dev nD) : sProp 𝕄 :=
  iprop((bigSep Finset.univ fun k : Fin 41 => roundState ER (rd m) (kcell (c, k)) 0)
    ∗ (bigSep Finset.univ fun k : Fin 41 => iprop(atPos ER (kcell (c, k)) 0 ∅ 0 ∗ reached ER (kcell (c, k)) 0)) ∗ duties (F := F) c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 41 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => duties (F := F) c := by
    unfold allToks; rw [bigSep_map, bigSep_eq_bigSepL_of_eq tokL rfl tokL_nodup, bigSep_univ_eq_bigSepL [0, 1, 2, 3] (by decide) (by decide)]
    unfold tokL; rw [bigSepL_append, bigSepL_append, bigSepL_append]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's cells, its barrier first. -/
theorem cells_split (Φ : SemLoc sig → sProp 𝕄) : (bigSep Finset.univ fun k : Fin 41 => Φ (csem k)) = iprop(Φ (.reg barS) ∗ bigSep Finset.univ fun i : Fin 40 => Φ (osem i)) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide), bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide)]; rfl

theorem unscopedSems0_eq (c : Dev nD) : (unscopedSems0 c : sProp 𝕄) = semVal ((c : Thread nD τ), .reg barS) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      = iprop((bigSep Finset.univ fun i : Fin 40 => semVal ((c : Thread nD τ), osem i) 0) ∗ semVal ((c : Thread nD τ), .reg barS) 0 : sProp 𝕄) := by
  rw [unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ duties (F := F) c) := by
  unfold G
  iintro ⟨Hos, Hus, Hst, Hat, Htok⟩
  ihave Hv := (Entails.of_eq (sems0_eq (F := F) c)) $$ [Hos Hus]
  · isplitl [Hos] <;> iassumption
  icases Hv with ⟨Hv, Hb⟩
  ihave Hv := (Entails.of_eq (cells_split (F := F) fun sm => semVal ((c : Thread nD τ), sm) 0).symm) $$ [Hv Hb]
  · isplitl [Hb] <;> iassumption
  imod (show iprop((bigSep Finset.univ fun k : Fin 41 => semVal (kcell (c, k)) 0) ∗ bigSep Finset.univ fun k : Fin 41 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with device `c`: its positions and the duties it pays. -/
def linear (c : Dev nD) : sProp 𝕄 :=
  iprop((bigSep Finset.univ fun k : Fin 41 => atPos ER (kcell (c, k)) 0 ∅ 0) ∗ duties (F := F) c)

theorem deal (K : Dev nD × Fin 41 → ℕ) (c : Dev nD) : iprop(records m K ∗ linear (F := F) c) ⊢ G' m c := by
  unfold linear G'
  iintro ⟨#HR, Ha, Ht⟩
  iexists K
  isplitr; · iexact HR
  isplitl [Ha]; · iexact Ha
  iexact Ht

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ duties (F := F) c) : sProp 𝕄)
      ⊢ bigSep Finset.univ (G' m) := by
  rw [bigSep_sep', bigSep_sep', ← bigSep_univ_prod (fun ck : Dev nD × Fin 41 => iprop(∃ κ : ℕ, cellInv ER (rd m) κ (kcell ck))),
    bigSep_congr (s := Finset.univ) (fun (c : Dev nD) _ => bigSep_sep' Finset.univ (fun k : Fin 41 => (atPos ER (kcell (c, k)) 0 ∅ 0 : sProp 𝕄)) (fun k => reached ER (kcell (c, k)) 0)),
    bigSep_sep', ← bigSep_univ_prod (fun ck : Dev nD × Fin 41 => (reached ER (kcell ck) 0 : sProp 𝕄))]
  iintro ⟨HI, ⟨Hat, #HR⟩, Htok⟩
  ihave HK := (BI.bigSep_exists_pi Finset.univ (fun (ck : Dev nD × Fin 41) (κ : ℕ) => (cellInv ER (rd m) κ (kcell ck) : sProp 𝕄))) $$ HI
  icases HK with ⟨%K, #HI⟩
  iapply (bigSep_with_persistent (R := records m K) fun c _ => deal m K c)
  isplitr
  · unfold records; isplitl; · iexact HI
    iexact HR
  · iapply ((Entails.of_eq (bigSep_sep' Finset.univ (fun c : Dev nD => bigSep Finset.univ fun k : Fin 41 => (atPos ER (kcell (c, k)) 0 ∅ 0 : sProp 𝕄)) (duties (F := F))).symm).trans
      (bigSep_mono fun c _ => show _ ⊢ linear (F := F) c from Entails.of_eq (by unfold linear; rfl)))
    isplitl [Hat]; · iexact Hat
    iexact Htok

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What one unit of a semaphore's traffic counts, and how many come in. -/
def per : SemLoc sig → ℕ | .reg _ => 1 | .dma n => amt n.val
def incoming : SemLoc sig → ℕ | .reg _ => 3 | .dma _ => 1
def cnt (l : List Debt) (c : Dev nD) (sm : SemLoc sig) : ℕ := l.countP fun x => decide (x.1 = c) && decide (x.2.1 = sm)

theorem owe_at (l : List Debt) (hl : ∀ x ∈ l, x.2.2 = per x.2.1) (c : Dev nD) (sm : SemLoc sig) :
    owe l ((c : Thread nD τ), sm) () = cnt l c sm * per sm := by
  induction l with
  | nil => rw [show cnt [] c sm = 0 from rfl, Nat.zero_mul]; rfl
  | cons x xs ih =>
    unfold owe
    rw [Pi.add_apply, Finsupp.add_apply, tallyAt_apply, ih fun y hy => hl y (List.mem_cons_of_mem _ hy)]
    unfold cnt
    rw [List.countP_cons]
    by_cases h : x.1 = c ∧ x.2.1 = sm
    · obtain ⟨h1, h2⟩ := h
      rw [if_pos ⟨by rw [h1, h2], rfl⟩, if_pos (by simp [h1, h2]), hl x (List.mem_cons_self ..), h2, Nat.add_mul, Nat.one_mul]
    · rw [if_neg, if_neg, Nat.add_zero, Nat.add_zero]
      · simpa using h
      · rintro ⟨hg, -⟩
        exact h ⟨(congrArg (fun g : GSem nD τ sig => g.1.1) hg).symm, (congrArg (fun g : GSem nD τ sig => g.2) hg).symm⟩

theorem debts_per (d : Dev nD) : ∀ x ∈ debts d, x.2.2 = per x.2.1 := by
  have h1 (p : Dev nD) : (barD p).2.2 = per (barD p).2.1 := rfl
  have h2 (p : Dev nD) : (exitD p).2.2 = per (exitD p).2.1 := rfl
  have h3 (p : Dev nD) (n : ℕ) (h : n < 45) : (dmaD p n h).2.2 = per (dmaD p n h).2.1 := rfl
  match d with
  | 0 => simp only [debts, List.forall_mem_cons, h1, h2, h3]; exact ⟨trivial, by simp⟩
  | 1 => simp only [debts, List.forall_mem_cons, h1, h2, h3]; exact ⟨trivial, by simp⟩
  | 2 => simp only [debts, List.forall_mem_cons, h1, h2, h3]; exact ⟨trivial, by simp⟩
  | 3 => simp only [debts, List.forall_mem_cons, h1, h2, h3]; exact ⟨trivial, by simp⟩

set_option maxRecDepth 8000 in
theorem passes_cnt : ∀ c : Dev nD, ((passes c).map Prod.fst).Forall fun sm => ∑ d : Dev nD, cnt (debts d) c sm = incoming sm := by decide

theorem passes_per (c : Dev nD) : ∀ x ∈ passes c, x.2 = incoming x.1 * per x.1 := by
  have h (n : DmaSem sig) : amt n.val = incoming (.dma n) * per (.dma n) := (Nat.one_mul _).symm
  have h' (s : Sem sig) : 3 = incoming (.reg s) * per (.reg s) := rfl
  match c with
  | 0 => simp only [passes, List.forall_mem_cons]; exact ⟨h' _, h' _, h q33, h q34, h q35, h q36, h q37, h q39, h q41, h q43, by simp⟩
  | 1 => simp only [passes, List.forall_mem_cons]; exact ⟨h' _, h' _, h q12, h q13, h q14, h q37, h q39, h q41, h q43, by simp⟩
  | 2 => simp only [passes, List.forall_mem_cons]; exact ⟨h' _, h' _, h q12, h q13, h q14, h q33, h q34, h q35, h q36, h q41, h q43, by simp⟩
  | 3 => simp only [passes, List.forall_mem_cons]; exact ⟨h' _, h' _, h q12, h q13, h q14, h q33, h q34, h q35, h q36, h q37, h q39, by simp⟩

set_option maxRecDepth 8000 in
theorem passes_nodup : ∀ c : Dev nD, ((passes c).map Prod.fst).Nodup := by decide

theorem launch_at (c : Dev nD) (x : SemLoc sig × ℕ) (hx : x ∈ passes c) :
    tallyOn ((c : Thread nD τ), x.1) (launchCredit (Pipeline.owing fun d => owe (debts d)) 0 ((c : Thread nD τ), x.1)) = (tallyAt ((c : Thread nD τ), x.1) () x.2 : CellTallies nD τ sig Unit) := by
  unfold tallyAt; refine congrArg _ (Finsupp.ext fun u => ?_); cases u
  rw [Pipeline.launchCredit_owing, Finsupp.single_eq_same, Finset.sum_congr rfl fun d _ => owe_at (debts d) (debts_per d) c x.1, ← Finset.sum_mul,
    List.forall_iff_forall_mem.mp (passes_cnt c) x.1 (List.mem_map_of_mem hx), passes_per c x hx]

theorem bigSepL_congr' {I : Type} (l : List I) (Φ Ψ : I → sProp 𝕄) (h : ∀ i ∈ l, Φ i = Ψ i) : bigSepL l Φ = bigSepL l Ψ := by
  induction l with
  | nil => rfl
  | cons i l ih => rw [bigSepL_cons, bigSepL_cons, h i (List.mem_cons_self ..), ih fun j hj => h j (List.mem_cons_of_mem _ hj)]

theorem creds (c : Dev nD) : (Pipeline.launchCred (fun d => owe (debts d)) c : sProp 𝕄) ⊢ bigSepL (passes c) fun x => pass (F := F) c x.1 x.2 := by
  unfold Pipeline.launchCred
  rw [show (bigSepL (passes c) fun x => pass (F := F) c x.1 x.2)
      = bigSepL ((passes c).map Prod.fst) fun sm => cred (tallyOn ((c : Thread nD τ), sm) (launchCredit (Pipeline.owing fun d => owe (debts d)) 0 ((c : Thread nD τ), sm))) from by
    rw [bigSepL_map]; exact bigSepL_congr' _ _ _ fun x hx => by rw [launch_at c x hx]; rfl]
  rw [← bigSep_eq_bigSepL_of_eq (S := ((passes c).map Prod.fst).toFinset) _ rfl (passes_nodup c)]
  exact bigSep_subset (Finset.subset_univ _)

/-! ### The side conditions -/

theorem start_intro (c : Dev nD) :
    iprop(Pipeline.unscopedRestP Pipeline.Prefetch.none cfg0.spec c (fun b => m ((c : Thread nD τ).loc b)) ∗ levAts L lv
        ∗ Pipeline.launchCred (fun d => owe (debts d)) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scr_eq (c : Dev nD) : (Pipeline.scopedRest (Ix := Unit) (Name := ℕ) (U := UU) (Lvl := ℕ) (Val := Elt F) spec0 c : sProp 𝕄) = Scr (F := F) c := by
  rw [scopedRest0_eq]; unfold Scr Any Pt; simp only [Memref.view_whole, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (Entails.of_eq (scr_eq (F := F) c)); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hz, Hs⟩
  ihave Hz := (Entails.of_eq (cells_split (F := F) fun sm => fin0 (F := F) c sm)) $$ Hz
  icases Hz with ⟨Hb, Ho⟩
  ihave Hb := (Entails.of_eq (show fin0 (F := F) c (.reg barS) = semVal ((c : Thread nD τ), .reg barS) 0 from rfl)) $$ Hb
  ihave Ho := (Entails.of_eq (show (bigSep Finset.univ fun i : Fin 40 => fin0 (F := F) c (osem i)) = Pipeline.ownSems0 osem c from rfl)) $$ Ho
  isplitl [Hb]
  · iapply (Entails.of_eq (unscopedSems0_eq (F := F) c).symm); iexact Hb
  isplitl [Ho]
  · iexact Ho
  iapply (Entails.of_eq (scr_eq (F := F) c).symm); iexact Hs

theorem above_stage : ∀ (c : Dev nD) (q : DmaSem sig), q.val < 6 → above (lvN c (.dma q)) (debts c) = true := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ (debts c) (above_stage c _ (by fin_cases w <;> fin_cases s <;> decide))
    · exact mayWait c _ [] rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution terminates, every device's arrays end at the
    computed contents, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe (debts d)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Argument 0 ends as it began. -/
theorem final0 (c : Dev nD) : finalA m ρ c (0 : Fin 6) = m (win0_0.arr.view.loc (c : Thread nD τ)) :=
  (dats (F := F) m ρ 0 c).arrAt_in (0 : Fin 6) rfl _
/-- Argument 1 ends as it began. -/
theorem final1 (c : Dev nD) : finalA m ρ c (1 : Fin 6) = m (win0_1.arr.view.loc (c : Thread nD τ)) :=
  (dats (F := F) m ρ 0 c).arrAt_in (1 : Fin 6) rfl _
/-- Argument 2 ends as it began. -/
theorem final2 (c : Dev nD) : finalA m ρ c (2 : Fin 6) = m (win0_2.arr.view.loc (c : Thread nD τ)) :=
  (dats (F := F) m ρ 0 c).arrAt_in (2 : Fin 6) rfl _
/-- Argument 3 ends as it began. -/
theorem final3 (c : Dev nD) : finalA m ρ c (3 : Fin 6) = m (win0_3.arr.view.loc (c : Thread nD τ)) :=
  (dats (F := F) m ρ 0 c).arrAt_in (3 : Fin 6) rfl _
/-- Argument 4 ends as it began. -/
theorem final4 (c : Dev nD) : finalA m ρ c (4 : Fin 6) = m (win0_4.arr.view.loc (c : Thread nD τ)) :=
  (dats (F := F) m ρ 0 c).arrAt_in (4 : Fin 6) rfl _

end Cert.RunI

end
-- ==== Proof.RunI.Frames.lean ====
/-
# The frames of both readings of the kernel
-/
module

public import proofs.«01_k».proof.Proof.RunI.Launch
public import proofs.«01_k».proof.Proof.Gen.Kernel.Launch
public import proofs.«01_k».proof.Proof.Gen.Kernel

@[expose] public section

noncomputable section

namespace Cert.RunI

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One run for both readings

The two printed kernels are one text, so what is proved of the one for every float instance holds of the other. -/

set_option maxRecDepth 20000 in
/-- The two kernels' body tables agree: their one label runs one body. -/
theorem defs₀_same : Cert.Kernel.defs₀ (F := F) = Cert.KernelIdeal.defs₀ (F := F) := by
  funext p l x
  cases p with
  | tc =>
    obtain ⟨l, hl⟩ := l
    cases l with
    | zero => obtain ⟨t, s⟩ := x; with_unfolding_all rfl
    | succ n => exact absurd hl (Nat.not_lt.2 (Nat.le_add_left _ _))
  | scScalar _ => rfl
  | scVector _ _ => rfl

set_option maxRecDepth 20000 in
/-- Hence their whole tables. -/
theorem defs_same : Cert.Kernel.defs (F := F) = Cert.KernelIdeal.defs (F := F) :=
  (show Cert.Kernel.defs (F := F) = Pipeline.defs Cert.KernelIdeal.pcfgs (Cert.Kernel.defs₀ (F := F)) by with_unfolding_all rfl).trans
    (congrArg (Pipeline.defs (Cert.KernelIdeal.pcfgs (F := F))) defs₀_same)

/-- A property of the memory after the run. -/
abbrev After (m : (ℓ : Loc nD τ sig) → Buf (Elt F) ℓ) : PUnit × MemSt nD τ sig (Elt F) → Prop := fun r =>
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))

/-- The run leaves every argument as it was. -/
theorem args_kept (m : (ℓ : Loc nD τ sig) → Buf (Elt F) ℓ) (ρ : Dev nD → PrngReg) (r : PUnit × MemSt nD τ sig (Elt F)) (h : QC m ρ r) : After m r :=
  fun c => ⟨(h c (0 : Fin 6)).trans (final0 m ρ c), (h c (1 : Fin 6)).trans (final1 m ρ c), (h c (2 : Fin 6)).trans (final2 m ρ c),
    (h c (3 : Fin 6)).trans (final3 m ρ c), (h c (4 : Fin 6)).trans (final4 m ρ c)⟩

/-- The frame of the kernel read at the extended reals. -/
theorem frame_ideal (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => After m r ∧ r.2.sem = fun _ => 0) :=
  (θ_run _ _ _).mono (fun r h => ⟨args_kept m ρ r h.1, h.2⟩) (run_main m ρ)

/-- The frame of the kernel as printed. -/
theorem frame_printed (m : (ℓ : Loc nD τ sig) → Buf (Elt F) ℓ) (ρ : Dev nD → PrngReg) :
    θ_run (nD := nD) (τ := τ) (sig := sig) (Cert.Kernel.defs (F := F)) (onTc (τ := τ) (Cert.KernelIdeal.main (F := F))) ⟨m, fun _ => 0, ρ⟩ (fun r => After m r ∧ r.2.sem = fun _ => 0) :=
  (congrArg (fun d => θ_run d (onTc (τ := τ) (Cert.KernelIdeal.main (F := F))) ⟨m, fun _ => 0, ρ⟩ (fun r => After m r ∧ r.2.sem = fun _ => 0)) (defs_same (F := F))).mpr
    (frame_ideal m ρ)

end Cert.RunI

end
-- ==== Proof.Algebra.Words.lean ====
/-
# The mask, read as a statement about numbers

Both programs keep the score of query `i` against key `g` when `i` and `g` are at most 128
apart or either is below 32. They say so in 32-bit words; here the words are read as numbers.
-/
module

public import Idealize.ShloMosaic.Lib.ValueIdx

@[expose] public section

noncomputable section

namespace Cert.Algebra

open Idealize.ShloMosaic

/-- Does query `i` attend to key `g`? -/
def keep (i g : Nat) : Bool := decide (i ≤ g + 128 ∧ g ≤ i + 128) || decide (g < 32) || decide (i < 32)

/-- A small word reads as the number it was made from. -/
theorem toInt_small (n : Nat) (h : n < 8192) : (BitVec.ofNat 32 n).toInt = n := by
  rw [BitVec.toInt_eq_toNat_of_lt (by rw [BitVec.toNat_ofNat]; omega), BitVec.toNat_ofNat, Nat.mod_eq_of_lt (by omega)]

/-- A small number's word is below 32 exactly when the number is. -/
theorem word_lt (n : Nat) (h : n < 8192) :
    IntOp.cmpi .slt (BitVec.ofNat 32 n) 32#32 = BitVec.ofBool (decide (n < 32)) := by
  have e : (32#32 : BitVec 32).toInt = 32 := by decide
  unfold IntOp.cmpi
  simp only [BitVec.slt, toInt_small n h, e]
  congr 1
  exact decide_eq_decide.mpr (by omega)

/-- The absolute difference of two small numbers' words is at most 128 exactly when theirs is. -/
theorem word_near (i g : Nat) (hi : i < 8192) (hg : g < 8192) :
    IntOp.cmpi .sle (IntOp.absi (IntOp.subi (BitVec.ofNat 32 i) (BitVec.ofNat 32 g))) 128#32 =
      BitVec.ofBool (decide (i ≤ g + 128 ∧ g ≤ i + 128)) := by
  have e : (128#32 : BitVec 32).toInt = 128 := by decide
  have hs : (BitVec.ofNat 32 i - BitVec.ofNat 32 g).toInt = (i : Int) - g := by
    rw [BitVec.toInt_sub, toInt_small i hi, toInt_small g hg, Int.bmod_eq_of_le] <;> omega
  have ha : (IntOp.absi (BitVec.ofNat 32 i - BitVec.ofNat 32 g)).toInt = |(i : Int) - g| := by
    unfold IntOp.absi
    rw [BitVec.msb_eq_toInt, hs]
    split
    · rename_i hlt
      have hlt : (i : Int) - g < 0 := of_decide_eq_true hlt
      rw [BitVec.toInt_neg, hs, Int.bmod_eq_of_le, abs_of_neg hlt] <;> omega
    · rename_i hge
      have hge : ¬ (i : Int) - g < 0 := fun h => hge (decide_eq_true h)
      rw [hs, abs_of_nonneg (by omega)]
  unfold IntOp.cmpi IntOp.subi
  simp only [BitVec.sle, ha, e]
  congr 1
  exact decide_eq_decide.mpr (by rw [abs_le]; omega)

/-- Or of two one-bit words is or of what they say. -/
theorem or_ofBool (a b : Bool) : IntOp.ori (BitVec.ofBool a) (BitVec.ofBool b) = BitVec.ofBool (a || b) := by
  revert a b; decide

/-- Choosing by a truth value's one-bit word is choosing by the truth value. -/
theorem select_ofBool {α : Type} (b : Bool) (x y : α) :
    Scalar.select (BitVec.ofBool b) x y = if b then x else y := by
  cases b <;> rfl

/-- The mask as the kernel puts it together. -/
theorem mask_kernel (i g : Nat) (hi : i < 8192) (hg : g < 8192) :
    IntOp.ori (IntOp.ori (IntOp.cmpi .sle (IntOp.absi (IntOp.subi (BitVec.ofNat 32 i) (BitVec.ofNat 32 g))) 128#32)
        (IntOp.cmpi .slt (BitVec.ofNat 32 g) 32#32)) (IntOp.cmpi .slt (BitVec.ofNat 32 i) 32#32) =
      BitVec.ofBool (keep i g) := by
  rw [word_near i g hi hg, word_lt g hg, word_lt i hi, or_ofBool, or_ofBool]; rfl

/-- The mask as the reference puts it together. -/
theorem mask_reference (i g : Nat) (hi : i < 8192) (hg : g < 8192) :
    IntOp.ori (IntOp.cmpi .sle (IntOp.absi (IntOp.subi (BitVec.ofNat 32 i) (BitVec.ofNat 32 g))) 128#32)
        (IntOp.ori (IntOp.cmpi .slt (BitVec.ofNat 32 g) 32#32) (IntOp.cmpi .slt (BitVec.ofNat 32 i) 32#32)) =
      BitVec.ofBool (keep i g) := by
  rw [word_near i g hi hg, word_lt g hg, word_lt i hi, or_ofBool, or_ofBool, ← Bool.or_assoc]; rfl

/-- Every query attends to itself. -/
theorem keep_self (i : Nat) : keep i i = true := by
  unfold keep; simp

/-- A query from 32 on attends to no key that is 32 or more and more than 128 away. -/
theorem keep_far (i g : Nat) (hi : 32 ≤ i) (hg : 32 ≤ g) (h : i + 128 < g) : keep i g = false := by
  unfold keep; simp; omega

end Cert.Algebra
-- ==== Proof.Algebra.Core.lean ====
/-
# The arithmetic of one row of attention

What the claim comes to once every operation is read at an index: over the extended reals, a
row of exponentials of masked scores divided by its sum is not changed by first taking the
row's largest score away, and a weighted sum may be divided after it is summed.
-/
module

public import Idealize.ShloMosaic.Lib.ValueIdx
public import Idealize.ShloMosaic.PureOps.Ideal.Laws

@[expose] public section

noncomputable section

namespace Cert.Algebra

open Idealize.ShloMosaic

/-- A finite sum of reals, taken in the extended reals, is the real sum. -/
theorem coe_sum {J : Type*} (s : Finset J) (f : J → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A finite sum of extended reals times a real that is not negative is the sum of the products. -/
theorem sum_mul_coe {J : Type*} (s : Finset J) (f : J → EReal) {c : ℝ} (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The weight of a key whose score is `t`: its exponential where the mask keeps it, else nothing. -/
def wt (p : Bool) (t : ℝ) : ℝ := if p then Real.exp t else 0

/-- The score of a key: `t` where the mask keeps it, else minus infinity. -/
def sc (p : Bool) (t : ℝ) : EReal := if p then (t : EReal) else ⊥

/-- A weight is not negative. -/
theorem wt_nonneg (p : Bool) (t : ℝ) : 0 ≤ wt p t := by
  unfold wt; split <;> positivity

/-- The exponential of a score less a real is the weight times a constant. -/
theorem exp_sc (p : Bool) (t M : ℝ) :
    Ideal.exp (sc p t - (M : EReal)) = ((wt p t * Real.exp (-M) : ℝ) : EReal) := by
  unfold sc wt
  cases p
  · simp
  · simp only [if_true]
    rw [← EReal.coe_sub, Ideal.exp_coe, sub_eq_add_neg, Real.exp_add]

/-- The exponential of a score is the weight. -/
theorem exp_sc_zero (p : Bool) (t : ℝ) : Ideal.exp (sc p t) = ((wt p t : ℝ) : EReal) := by
  unfold sc wt
  cases p
  · simp
  · simp only [if_true]; exact Ideal.exp_coe _

/-- **One row of attention.** The sum of the values weighted by the exponentials of the scores,
divided by the sum of the weights, is the sum of the values weighted by the softmax of the scores
with any real `M` taken away first. -/
theorem row {J : Type*} [Fintype J] (p : J → Bool) (t : J → ℝ) (M : ℝ) (V : J → EReal)
    (hp : ∃ j, p j = true) :
    Ideal.div (∑ j, ((wt (p j) (t j) : ℝ) : EReal) * V j) (∑ j, ((wt (p j) (t j) : ℝ) : EReal)) =
      ∑ j, V j * Ideal.div (Ideal.exp (sc (p j) (t j) - (M : EReal)))
        (∑ j', Ideal.exp (sc (p j') (t j') - (M : EReal))) := by
  obtain ⟨j0, h0⟩ := hp
  have hS : 0 < ∑ j, wt (p j) (t j) :=
    Finset.sum_pos' (fun j _ => wt_nonneg _ _) ⟨j0, Finset.mem_univ _, by
      unfold wt; rw [if_pos h0]; exact Real.exp_pos _⟩
  have he : 0 < Real.exp (-M) := Real.exp_pos _
  simp only [exp_sc, coe_sum]
  rw [← Finset.sum_mul]
  rw [Ideal.div_coe hS.ne', sum_mul_coe _ _ (by positivity)]
  refine Finset.sum_congr rfl fun j _ => ?_
  rw [Ideal.div_coe (mul_pos hS he).ne', ← EReal.coe_mul, mul_comm _ (V j), mul_assoc, ← EReal.coe_mul]
  congr 2
  field_simp

/-- The largest of finitely many extended reals, as a left fold of the maximum, is a real when
every one is below plus infinity and one of them is above minus infinity. -/
theorem foldl_max_real {α : Type*} (l : List α) (f : α → EReal) (b : EReal)
    (hf : ∀ a ∈ l, f a ≠ ⊤) (hb : b ≠ ⊤) (h : b ≠ ⊥ ∨ ∃ a ∈ l, f a ≠ ⊥) :
    ∃ M : ℝ, l.foldl (fun r a => max r (f a)) b = (M : EReal) := by
  induction l generalizing b with
  | nil =>
    rcases h with h | ⟨a, ha, _⟩
    · exact ⟨b.toReal, (EReal.coe_toReal hb h).symm⟩
    · cases ha
  | cons a l ih =>
    refine ih (max b (f a)) (fun x hx => hf x (List.mem_cons_of_mem _ hx)) ?_ ?_
    · rcases max_choice b (f a) with h1 | h1 <;> rw [h1]
      · exact hb
      · exact hf a List.mem_cons_self
    · rcases h with h | ⟨x, hx, hx'⟩
      · left; intro h1; exact h (le_bot_iff.mp (h1 ▸ le_max_left _ _))
      · rcases List.mem_cons.mp hx with rfl | hx
        · left; intro h1; exact hx' (le_bot_iff.mp (h1 ▸ le_max_right _ _))
        · right; exact ⟨x, hx, hx'⟩

/-- A left fold of the one-bit `or` over words one of which is set is set. -/
theorem foldl_or_one {α : Type*} (l : List α) (f : α → BitVec 1) (b : BitVec 1)
    (h : b = 1#1 ∨ ∃ a ∈ l, f a = 1#1) : l.foldl (fun r a => r ||| f a) b = 1#1 := by
  have or_one : ∀ x y : BitVec 1, x = 1#1 ∨ y = 1#1 → x ||| y = 1#1 := by decide
  induction l generalizing b with
  | nil => rcases h with h | ⟨a, ha, _⟩
           · exact h
           · cases ha
  | cons a l ih =>
    refine ih _ ?_
    rcases h with h | ⟨x, hx, hx'⟩
    · exact .inl (or_one _ _ (.inl h))
    · rcases List.mem_cons.mp hx with rfl | hx
      · exact .inl (or_one _ _ (.inr hx'))
      · exact .inr ⟨x, hx, hx'⟩

/-- A product of reals summed and then scaled, in the two orders the programs take it. -/
theorem scaled (J : Type*) [Fintype J] (q k : J → ℝ) (κ : ℝ) :
    ∑ j, (((q j : ℝ) : EReal) * (κ : EReal)) * ((k j : ℝ) : EReal) =
      (∑ j, ((q j : ℝ) : EReal) * ((k j : ℝ) : EReal)) * (κ : EReal) := by
  simp only [← EReal.coe_mul, coe_sum, Finset.sum_mul]
  congr 1
  exact Finset.sum_congr rfl fun j _ => by ring

/-- An entry of a product of two matrices. -/
def proj (x w : Fin 1024 → Fin 1024 → EReal) (i n : Fin 1024) : EReal := ∑ k : Fin 1024, x i k * w k n

end Cert.Algebra
-- ==== Proof.Algebra.Head.lean ====
/-
# One head of the kernel, read at an index

Over the extended reals the kernel's payloads are sums and products of the elements of the
blocks they are given: the scaled queries, one head's weights, their row sums and their
product with the values.
-/
module

public import proofs.«01_k».proof.Proof.RunI.Values
public import proofs.«01_k».proof.Proof.Algebra.Words
public import proofs.«01_k».proof.Proof.Algebra.Core
public import Idealize.ShloMosaic.Lib.Pipeline.Value
public import Idealize.ShloMosaic.PureOps.Ideal.Laws

@[expose] public section

noncomputable section

namespace Cert.RunI

open Cert.KernelIdeal Cert.KernelIdeal.Gen
open Idealize.ShloMosaic Idealize.ShloMosaic.TcCoe
open Idealize.ShloMosaic.ValueIdx
open Cert.Algebra

/-- A product of two square matrices, at an index. -/
theorem mm_square {φ ψ : FTy} (a : FVec Ideal S1024x1024 φ) (b : FVec Ideal S1024x1024 ψ) (i n : Fin 1024) :
    matmul dot_S1024x1024_S1024x1024_S1024x1024_1_0_0_1_n_n none a b (constant (F := Ideal) S1024x1024 .f32 0x00000000#32) (ix2 i n) =
      ∑ k : Fin 1024, a (ix2 i k) * b (ix2 k n) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  congr 2
  · exact Shape.idx_ext₂ rfl ((dot_S1024x1024_S1024x1024_S1024x1024_1_0_0_1_n_n.lhsIdx_val_of_single rfl _ _).trans hk)
  · exact Shape.idx_ext₂ ((dot_S1024x1024_S1024x1024_S1024x1024_1_0_0_1_n_n.rhsIdx_val_of_single rfl _ _).trans hk) rfl

/-- The scores of one head: the rows of the first operand against the rows of the second. -/
theorem mm_scores {φ ψ : FTy} (a : FVec Ideal S1024x128 φ) (b : FVec Ideal S1024x128 ψ) (i j : Fin 1024) :
    matmul dot_S1024x128_S1024x128_S1024x1024_1_1_0_0_n_n none a b (constant (F := Ideal) S1024x1024 .f32 0x00000000#32) (ix2 i j) =
      ∑ d : Fin 128, a (ix2 i d) * b (ix2 j d) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  congr 2
  · exact Shape.idx_ext₂ rfl ((dot_S1024x128_S1024x128_S1024x1024_1_1_0_0_n_n.lhsIdx_val_of_single rfl _ _).trans hk)
  · exact Shape.idx_ext₂ rfl ((dot_S1024x128_S1024x128_S1024x1024_1_1_0_0_n_n.rhsIdx_val_of_single rfl _ _).trans hk)

/-- The weights of one head times its values. -/
theorem mm_values {φ ψ : FTy} (a : FVec Ideal S1024x1024 φ) (b : FVec Ideal S1024x128 ψ) (i : Fin 1024) (d : Fin 128) :
    matmul dot_S1024x1024_S1024x128_S1024x128_1_0_0_1_n_n none a b (constant (F := Ideal) S1024x128 .f32 0x00000000#32) (ix2 i d) =
      ∑ j : Fin 1024, a (ix2 i j) * b (ix2 j d) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  congr 2
  · exact Shape.idx_ext₂ rfl ((dot_S1024x1024_S1024x128_S1024x128_1_0_0_1_n_n.lhsIdx_val_of_single rfl _ _).trans hk)
  · exact Shape.idx_ext₂ ((dot_S1024x1024_S1024x128_S1024x128_1_0_0_1_n_n.rhsIdx_val_of_single rfl _ _).trans hk) rfl

/-- The factor the scores are scaled by is a real number. -/
theorem scale_real : ∃ κ : ℝ, Ideal.ofBits .f32 0x3DB504F3#32 = (κ : EReal) := by
  show ∃ κ : ℝ, Ideal.ieee 8 23 (0x3DB504F3#32 : BitVec 32) = (κ : EReal)
  unfold Ideal.ieee
  dsimp only
  rw [if_neg (by decide), if_neg (by decide)]
  exact ⟨_, rfl⟩

/-- The scaled queries at an index. -/
theorem pay5_apply (x w : Vec Ideal S1024x1024 .bf16) (i n : Fin 1024) :
    k0_pay5 (F := Ideal) x w (ix2 i n) = (∑ k : Fin 1024, x (ix2 i k) * w (ix2 k n)) * Ideal.ofBits .f32 0x3DB504F3#32 := by
  unfold k0_pay5
  simp only [shapeCast_self]
  rw [truncf_apply, mulf_apply, mm_square]
  rfl

/-- The mask of device `c` at an index: its key `j` is key `1024 c + j` of all. -/
theorem pay6_apply (c : Dev nD) (i j : Fin 1024) :
    k0_pay6 c (ix2 i j) = BitVec.ofBool (keep i.val (1024 * c.val + j.val)) := by
  have hc : Scalar.muli (Scalar.remsi (Scalar.divsi (Dev.word c) 1#32) 4#32) 1024#32 = BitVec.ofNat 32 (1024 * c.val) := by
    revert c; decide
  have h1 : c.val < 4 := c.isLt
  rw [← mask_kernel i.val (1024 * c.val + j.val) (by omega) (by omega)]
  have hw : BitVec.ofNat 32 (1024 * c.val + j.val) = BitVec.ofNat 32 j.val + BitVec.ofNat 32 (1024 * c.val) := by
    rw [Nat.add_comm, BitVec.ofNat_add]
  rw [hw, ← hc]
  unfold k0_pay6
  show IntOp.ori (IntOp.ori (IntOp.cmpi .sle (IntOp.absi (IntOp.subi (iota .tc S1024x1024 32 [0] iota_S1024x1024_d0_w32 (ix2 i j))
    (IntOp.addi (iota .tc S1024x1024 32 [1] iota_S1024x1024_d1_w32 (ix2 i j)) _))) 128#32) (IntOp.cmpi .slt
    (IntOp.addi (iota .tc S1024x1024 32 [1] iota_S1024x1024_d1_w32 (ix2 i j)) _) 32#32)) (IntOp.cmpi .slt (iota .tc S1024x1024 32 [0] iota_S1024x1024_d0_w32 (ix2 i j)) 32#32) = _
  rw [iota_single_apply, iota_single_apply]
  rfl

/-- Column `d` of head `h`. -/
def col (h : Fin 8) (d : Fin 128) : Fin 1024 := ⟨128 * h.val + d.val, by have := h.isLt; have := d.isLt; omega⟩

/-- One head's weights at an index: the exponential of the score where the mask keeps it, else zero. -/
theorem headW_apply (q : FVec Ideal S1024x1024 .bf16) (c : Dev nD) (h : Fin 8) (k : Vec Ideal S1024x128 .bf16) (i j : Fin 1024) :
    headW q (k0_pay6 c) h k (ix2 i j) =
      if keep i.val (1024 * c.val + j.val) then Ideal.exp (∑ d : Fin 128, q (ix2 i (col h d)) * k (ix2 j d)) else 0 := by
  unfold headW
  rw [select_apply, pay6_apply, select_ofBool]
  congr 1
  · show Ideal.exp _ = _
    rw [mm_scores]
    congr 1
    refine Finset.sum_congr rfl fun d _ => ?_
    rw [shapeCast_self]
    congr 1
    exact slice2_axis1_apply (128 * h.val) q _ i d (col h d) rfl
  · exact Ideal.ofBits_zero_f32

/-- Their row sums. -/
theorem headL_apply (q : FVec Ideal S1024x1024 .bf16) (mk : IVec S1024x1024 1) (h : Fin 8) (k : Vec Ideal S1024x128 .bf16) (i : Fin 1024) :
    headL q mk h k (ix2 i (0 : Fin 1)) = ∑ j : Fin 1024, headW q mk h k (ix2 i j) := by
  unfold headL
  rw [shapeCast_self, shapeCast_apply _ _ (ix2 i (0 : Fin 1)) (ix1 i) (by
    rewrite [Shape.rowMajor_val_one, Shape.rowMajor_val_two]; show i.val = i.val * 1 + 0; omega)]
  refine (Ideal.multiReduction_add_single _ _ _ _ _ _).trans ?_
  exact Finset.sum_congr rfl fun k _ => congrArg _ (Shape.idx_ext₂ rfl rfl)

/-- Their product with the values. -/
theorem headM_apply (q : FVec Ideal S1024x1024 .bf16) (mk : IVec S1024x1024 1) (h : Fin 8) (k v : Vec Ideal S1024x128 .bf16) (i : Fin 1024) (d : Fin 128) :
    headM q mk h k v (ix2 i d) = ∑ j : Fin 1024, headW q mk h k (ix2 i j) * v (ix2 j d) := by
  unfold headM
  rw [mm_values, shapeCast_self]
  rfl

/-- Rounding for sending changes nothing over the extended reals. -/
theorem headS_eq (q : FVec Ideal S1024x1024 .bf16) (mk : IVec S1024x1024 1) (h : Fin 8) (k v : Vec Ideal S1024x128 .bf16) (i : S1024x128.Idx) :
    headS q mk h k v i = headA q mk h k v i := rfl

/-- The stored product, at an index. -/
theorem headA_apply (q : FVec Ideal S1024x1024 .bf16) (mk : IVec S1024x1024 1) (h : Fin 8) (k v : Vec Ideal S1024x128 .bf16) (i : Fin 1024) (d : Fin 128) :
    headA q mk h k v (ix2 i d) = ∑ j : Fin 1024, headW q mk h k (ix2 i j) * v (ix2 j d) := by
  unfold headA
  rw [shapeCast_self, headM_apply]

end Cert.RunI
-- ==== Proof.Algebra.Totals.lean ====
/-
# The totals every device divides

Whatever order the partial sums arrive in, the totals of every device are the sums of all four
devices' partial sums: the rows a device does not send are rows on which its mask keeps nothing,
so its partial sums are zero there.
-/
module

public import proofs.«01_k».proof.Proof.Algebra.Head

@[expose] public section

noncomputable section

namespace Cert.RunI

open Cert.KernelIdeal Cert.KernelIdeal.Gen
open Idealize.ShloMosaic Idealize.ShloMosaic.TcCoe
open Idealize.ShloMosaic.ValueIdx
open Cert.Algebra

variable (m : (ℓ : Loc nD τ sig) → Buf (Elt Ideal) ℓ)

/-- Device `c`'s weight of query `i` and its key `j` in head `h`. -/
def wK (c : Dev nD) (h : Fin 8) (i j : Fin 1024) : EReal := headW (F := Ideal) (qV m c) (k0_pay6 c) h (kV m c h) (ix2 i j)

/-- A device's own sums, at an index. -/
theorem accT_apply (c : Dev nD) (i n : Fin 1024) :
    accT (F := Ideal) m c (ix2 i n) = ∑ j : Fin 1024, wK m c (hd n) i j * vV (F := Ideal) m c (hd n) (ix2 j (lane n)) :=
  headA_apply _ _ _ _ _ _ _

/-- Its own row sums, at an index. -/
theorem lT_apply (c : Dev nD) (i : Fin 1024) (h : Fin 8) :
    lT (F := Ideal) m c (ix2 i h) = ∑ j : Fin 1024, wK m c h i j :=
  headL_apply _ _ _ _ _

/-- The sums sent are the sums. -/
theorem accS_eq (c : Dev nD) (i : S1024x1024.Idx) : accS (F := Ideal) m c i = accT (F := Ideal) m c i := rfl

/-- Where a device's keys are all far from a query, its weights are zero. -/
theorem wK_far (c : Dev nD) (h : Fin 8) (i j : Fin 1024) (hc : 1 ≤ c.val) (hi : 32 ≤ i.val) (hf : i.val + 128 < 1024 * c.val) :
    wK m c h i j = 0 := by
  unfold wK
  rw [headW_apply, keep_far i.val _ hi (by omega) (by omega)]
  rfl

/-- A device's sums are zero in the rows for which the mask drops all its keys. -/
theorem accT_far (c : Dev nD) (i n : Fin 1024) (hc : 1 ≤ c.val) (hi : 32 ≤ i.val) (hf : i.val + 128 < 1024 * c.val) :
    accT (F := Ideal) m c (ix2 i n) = 0 := by
  rw [accT_apply]
  refine Finset.sum_eq_zero fun j _ => ?_
  rw [wK_far m c (hd n) i j hc hi hf, zero_mul]

/-- So are its row sums. -/
theorem lT_far (c : Dev nD) (i : Fin 1024) (h : Fin 8) (hc : 1 ≤ c.val) (hi : 32 ≤ i.val) (hf : i.val + 128 < 1024 * c.val) :
    lT (F := Ideal) m c (ix2 i h) = 0 := by
  rw [lT_apply]
  exact Finset.sum_eq_zero fun j _ => wK_far m c h i j hc hi hf

/-- A slot's rows added to the totals' rows, at an index. -/
theorem k0_pay1_apply (a : Vec Ideal S32x1024 .f32) (b : Vec Ideal S1x32x1024 .bf16) (r : Fin 32) (n : Fin 1024) :
    k0_pay1 (F := Ideal) a b (ix2 r n) = a (ix2 r n) + b (ix3 (0 : Fin 1) r n) := by
  unfold k0_pay1
  simp only [shapeCast_self]
  exact congrArg (a (ix2 r n) + ·) (shapeCast_1ab_ab_apply b _ r n)

/-- Device 1's sums are added on the first 32 rows. -/
theorem stA1_apply (T : FVec Ideal S1024x1024 .f32) (i : Fin 1024) (n : Fin 1024) :
    stA1 (F := Ideal) m T (ix2 i n) = if i.val < 32 then T (ix2 i n) + accT (F := Ideal) m 1 (ix2 i n) else T (ix2 i n) := by
  unfold stA1 stepA
  refine (congrFun (View.write_whole_slice_unit (Val := Elt Ideal) cc0_scratch6 _ _ inb_S1024x1024_S32x1024_0_0 T _) (ix2 i n)).trans ?_
  unfold updateSlice
  split
  · rename_i hin
    have h0 := hin (0 : Fin 2)
    have h0l : 0 ≤ i.val := h0.1
    have h0u : i.val < 0 + 32 := h0.2
    rw [if_pos (by omega)]
    refine (congrArg _ (Shape.idx_ext₂ (y := ix2 (⟨i.val - 0, by omega⟩ : Fin 32) n) rfl (Nat.sub_zero _))).trans
      ((k0_pay1_apply _ _ _ _).trans ?_)
    refine congrArg₂ (· + ·) ?_ ?_
    · show T _ = T _
      exact congrArg T (Shape.idx_ext₂ (by show 0 + 1 * (i.val - 0) = i.val; omega) (by show 0 + 1 * n.val = n.val; omega))
    · show stripA (F := Ideal) m _ = _
      show accT (F := Ideal) m _ (ix2 (srcRow _) _) = _
      have hs : ∀ (x : Dev nD) (y : S1024x1024.Idx), x = (1 : Dev nD) → y = ix2 i n → accT (F := Ideal) m x y = accT (F := Ideal) m 1 (ix2 i n) := by
        rintro x y rfl rfl; rfl
      refine hs _ _ rfl (Shape.idx_ext₂ ?_ ?_)
      · show (srcRow ⟨0 + 1 * (i.val - 0), by omega⟩).val = i.val
        unfold srcRow
        simp only
        split <;> simp only <;> omega
      · show 0 + 1 * n.val = n.val; omega
  · rename_i hout
    rw [if_neg]
    intro hc
    refine hout fun a => ?_
    match a with
    | ⟨0, _⟩ => exact ⟨(show 0 ≤ i.val by omega), (show i.val < 0 + 32 by omega)⟩
    | ⟨1, _⟩ => exact ⟨Nat.zero_le _, (show n.val < 0 + 1024 by omega)⟩

/-- A slot's rows added to the totals' rows, at an index. -/
theorem k0_pay68_apply (a : Vec Ideal S128x1024 .f32) (b : Vec Ideal S1x128x1024 .bf16) (r : Fin 128) (n : Fin 1024) :
    k0_pay68 (F := Ideal) a b (ix2 r n) = a (ix2 r n) + b (ix3 (0 : Fin 1) r n) := by
  unfold k0_pay68
  simp only [shapeCast_self]
  exact congrArg (a (ix2 r n) + ·) (shapeCast_1ab_ab_apply b _ r n)

/-- Device 1's sums are added on the last 128 rows. -/
theorem stAB_apply (T : FVec Ideal S1024x1024 .f32) (i : Fin 1024) (n : Fin 1024) :
    stAB (F := Ideal) m T (ix2 i n) = if 896 ≤ i.val then T (ix2 i n) + accT (F := Ideal) m 1 (ix2 i n) else T (ix2 i n) := by
  unfold stAB stepA
  refine (congrFun (View.write_whole_slice_unit (Val := Elt Ideal) cc0_scratch6 _ _ inb_S1024x1024_S128x1024_896_0 T _) (ix2 i n)).trans ?_
  unfold updateSlice
  split
  · rename_i hin
    have h0 := hin (0 : Fin 2)
    have h0l : 896 ≤ i.val := h0.1
    have h0u : i.val < 896 + 128 := h0.2
    rw [if_pos (by omega)]
    refine (congrArg _ (Shape.idx_ext₂ (y := ix2 (⟨i.val - 896, by omega⟩ : Fin 128) n) rfl (Nat.sub_zero _))).trans
      ((k0_pay68_apply _ _ _ _).trans ?_)
    refine congrArg₂ (· + ·) ?_ ?_
    · show T _ = T _
      exact congrArg T (Shape.idx_ext₂ (by show 896 + 1 * (i.val - 896) = i.val; omega) (by show 0 + 1 * n.val = n.val; omega))
    · show stripA (F := Ideal) m _ = _
      show accT (F := Ideal) m _ (ix2 (srcRow _) _) = _
      have hs : ∀ (x : Dev nD) (y : S1024x1024.Idx), x = (1 : Dev nD) → y = ix2 i n → accT (F := Ideal) m x y = accT (F := Ideal) m 1 (ix2 i n) := by
        rintro x y rfl rfl; rfl
      refine hs _ _ rfl (Shape.idx_ext₂ ?_ ?_)
      · show (srcRow ⟨32 + 1 * (i.val - 896), by omega⟩).val = i.val
        unfold srcRow
        simp only
        split <;> simp only <;> omega
      · show 0 + 1 * n.val = n.val; omega
  · rename_i hout
    rw [if_neg]
    intro hc
    refine hout fun a => ?_
    match a with
    | ⟨0, _⟩ => exact ⟨(show 896 ≤ i.val by omega), (show i.val < 896 + 128 by omega)⟩
    | ⟨1, _⟩ => exact ⟨Nat.zero_le _, (show n.val < 0 + 1024 by omega)⟩

/-- A slot's rows added to the totals' rows, at an index. -/
theorem k0_pay3_apply (a : Vec Ideal S32x1024 .f32) (b : Vec Ideal S1x32x1024 .bf16) (r : Fin 32) (n : Fin 1024) :
    k0_pay3 (F := Ideal) a b (ix2 r n) = a (ix2 r n) + b (ix3 (0 : Fin 1) r n) := by
  unfold k0_pay3
  simp only [shapeCast_self]
  exact congrArg (a (ix2 r n) + ·) (shapeCast_1ab_ab_apply b _ r n)

/-- Device 2's sums are added on the first 32 rows. -/
theorem stA2_apply (T : FVec Ideal S1024x1024 .f32) (i : Fin 1024) (n : Fin 1024) :
    stA2 (F := Ideal) m T (ix2 i n) = if i.val < 32 then T (ix2 i n) + accT (F := Ideal) m 2 (ix2 i n) else T (ix2 i n) := by
  unfold stA2 stepA
  refine (congrFun (View.write_whole_slice_unit (Val := Elt Ideal) cc0_scratch6 _ _ inb_S1024x1024_S32x1024_0_0 T _) (ix2 i n)).trans ?_
  unfold updateSlice
  split
  · rename_i hin
    have h0 := hin (0 : Fin 2)
    have h0l : 0 ≤ i.val := h0.1
    have h0u : i.val < 0 + 32 := h0.2
    rw [if_pos (by omega)]
    refine (congrArg _ (Shape.idx_ext₂ (y := ix2 (⟨i.val - 0, by omega⟩ : Fin 32) n) rfl (Nat.sub_zero _))).trans
      ((k0_pay3_apply _ _ _ _).trans ?_)
    refine congrArg₂ (· + ·) ?_ ?_
    · show T _ = T _
      exact congrArg T (Shape.idx_ext₂ (by show 0 + 1 * (i.val - 0) = i.val; omega) (by show 0 + 1 * n.val = n.val; omega))
    · show stripA (F := Ideal) m _ = _
      show accT (F := Ideal) m _ (ix2 (srcRow _) _) = _
      have hs : ∀ (x : Dev nD) (y : S1024x1024.Idx), x = (2 : Dev nD) → y = ix2 i n → accT (F := Ideal) m x y = accT (F := Ideal) m 2 (ix2 i n) := by
        rintro x y rfl rfl; rfl
      refine hs _ _ rfl (Shape.idx_ext₂ ?_ ?_)
      · show (srcRow ⟨0 + 1 * (i.val - 0), by omega⟩).val = i.val
        unfold srcRow
        simp only
        split <;> simp only <;> omega
      · show 0 + 1 * n.val = n.val; omega
  · rename_i hout
    rw [if_neg]
    intro hc
    refine hout fun a => ?_
    match a with
    | ⟨0, _⟩ => exact ⟨(show 0 ≤ i.val by omega), (show i.val < 0 + 32 by omega)⟩
    | ⟨1, _⟩ => exact ⟨Nat.zero_le _, (show n.val < 0 + 1024 by omega)⟩

/-- A slot's rows added to the totals' rows, at an index. -/
theorem k0_pay4_apply (a : Vec Ideal S32x1024 .f32) (b : Vec Ideal S1x32x1024 .bf16) (r : Fin 32) (n : Fin 1024) :
    k0_pay4 (F := Ideal) a b (ix2 r n) = a (ix2 r n) + b (ix3 (0 : Fin 1) r n) := by
  unfold k0_pay4
  simp only [shapeCast_self]
  exact congrArg (a (ix2 r n) + ·) (shapeCast_1ab_ab_apply b _ r n)

/-- Device 3's sums are added on the first 32 rows. -/
theorem stA3_apply (T : FVec Ideal S1024x1024 .f32) (i : Fin 1024) (n : Fin 1024) :
    stA3 (F := Ideal) m T (ix2 i n) = if i.val < 32 then T (ix2 i n) + accT (F := Ideal) m 3 (ix2 i n) else T (ix2 i n) := by
  unfold stA3 stepA
  refine (congrFun (View.write_whole_slice_unit (Val := Elt Ideal) cc0_scratch6 _ _ inb_S1024x1024_S32x1024_0_0 T _) (ix2 i n)).trans ?_
  unfold updateSlice
  split
  · rename_i hin
    have h0 := hin (0 : Fin 2)
    have h0l : 0 ≤ i.val := h0.1
    have h0u : i.val < 0 + 32 := h0.2
    rw [if_pos (by omega)]
    refine (congrArg _ (Shape.idx_ext₂ (y := ix2 (⟨i.val - 0, by omega⟩ : Fin 32) n) rfl (Nat.sub_zero _))).trans
      ((k0_pay4_apply _ _ _ _).trans ?_)
    refine congrArg₂ (· + ·) ?_ ?_
    · show T _ = T _
      exact congrArg T (Shape.idx_ext₂ (by show 0 + 1 * (i.val - 0) = i.val; omega) (by show 0 + 1 * n.val = n.val; omega))
    · show stripA (F := Ideal) m _ = _
      show accT (F := Ideal) m _ (ix2 (srcRow _) _) = _
      have hs : ∀ (x : Dev nD) (y : S1024x1024.Idx), x = (3 : Dev nD) → y = ix2 i n → accT (F := Ideal) m x y = accT (F := Ideal) m 3 (ix2 i n) := by
        rintro x y rfl rfl; rfl
      refine hs _ _ rfl (Shape.idx_ext₂ ?_ ?_)
      · show (srcRow ⟨0 + 1 * (i.val - 0), by omega⟩).val = i.val
        unfold srcRow
        simp only
        split <;> simp only <;> omega
      · show 0 + 1 * n.val = n.val; omega
  · rename_i hout
    rw [if_neg]
    intro hc
    refine hout fun a => ?_
    match a with
    | ⟨0, _⟩ => exact ⟨(show 0 ≤ i.val by omega), (show i.val < 0 + 32 by omega)⟩
    | ⟨1, _⟩ => exact ⟨Nat.zero_le _, (show n.val < 0 + 1024 by omega)⟩

/-- Device 0's sums are added everywhere. -/
theorem addA_apply (T : FVec Ideal S1024x1024 .f32) (i : Fin 1024) (n : Fin 1024) :
    addA (F := Ideal) m T (ix2 i n) = T (ix2 i n) + accT (F := Ideal) m 0 (ix2 i n) := by
  unfold addA k0_pay66
  simp only [shapeCast_self]
  rfl

/-- **The totals** of every device are the sums over all four. -/
theorem totA_apply (c : Dev nD) (i : Fin 1024) (n : Fin 1024) :
    totA (F := Ideal) m c (ix2 i n) = ∑ d : Fin 4, accT (F := Ideal) m d (ix2 i n) := by
  have f1 : 32 ≤ i.val → i.val < 896 → accT (F := Ideal) m 1 (ix2 i n) = 0 :=
    fun h h' => accT_far m 1 i n (by decide) h (by show i.val + 128 < 1024 * 1; omega)
  have f2 : 32 ≤ i.val → accT (F := Ideal) m 2 (ix2 i n) = 0 :=
    fun h => accT_far m 2 i n (by decide) h (by show i.val + 128 < 1024 * 2; omega)
  have f3 : 32 ≤ i.val → accT (F := Ideal) m 3 (ix2 i n) = 0 :=
    fun h => accT_far m 3 i n (by decide) h (by show i.val + 128 < 1024 * 3; omega)
  rw [Fin.sum_univ_four]
  match c with
  | ⟨0, _⟩ =>
    show stA3 m (stA2 m (stAB m (stA1 m (accT m 0)))) (ix2 i n) = _
    simp only [stA1_apply, stA2_apply, stA3_apply, stAB_apply]
    rcases lt_or_ge i.val 32 with h | h
    · simp only [if_pos h, if_neg (show ¬ 896 ≤ i.val by omega)]
    · simp only [if_neg (show ¬ i.val < 32 by omega), f2 h, f3 h, add_zero]
      split
      · rfl
      · rw [f1 h (by omega), add_zero]
  | ⟨1, _⟩ =>
    show stA3 m (stA2 m (addA m (accT m 1))) (ix2 i n) = _
    simp only [addA_apply, stA2_apply, stA3_apply]
    rcases lt_or_ge i.val 32 with h | h
    · simp only [if_pos h]; abel
    · simp only [if_neg (show ¬ i.val < 32 by omega), f2 h, f3 h, add_zero]; exact add_comm _ _
  | ⟨2, _⟩ =>
    show stA3 m (stAB m (stA1 m (addA m (accT m 2)))) (ix2 i n) = _
    simp only [addA_apply, stA1_apply, stA3_apply, stAB_apply]
    rcases lt_or_ge i.val 32 with h | h
    · simp only [if_pos h, if_neg (show ¬ 896 ≤ i.val by omega)]; abel
    · simp only [if_neg (show ¬ i.val < 32 by omega), f2 h, f3 h, add_zero, zero_add]
      split
      · rfl
      · rw [f1 h (by omega), add_zero]
  | ⟨3, _⟩ =>
    show stA2 m (stAB m (stA1 m (addA m (accT m 3)))) (ix2 i n) = _
    simp only [addA_apply, stA1_apply, stA2_apply, stAB_apply]
    rcases lt_or_ge i.val 32 with h | h
    · simp only [if_pos h, if_neg (show ¬ 896 ≤ i.val by omega)]; abel
    · simp only [if_neg (show ¬ i.val < 32 by omega), f2 h, f3 h, add_zero, zero_add]
      split
      · rfl
      · rw [f1 h (by omega), add_zero]

/-- A slot's rows added to the totals' rows, at an index. -/
theorem k0_pay2_apply (a : Vec Ideal S32x8 .f32) (b : Vec Ideal S1x32x8 .f32) (r : Fin 32) (n : Fin 8) :
    k0_pay2 (F := Ideal) a b (ix2 r n) = a (ix2 r n) + b (ix3 (0 : Fin 1) r n) := by
  unfold k0_pay2
  simp only [shapeCast_self]
  exact congrArg (a (ix2 r n) + ·) (shapeCast_1ab_ab_apply b _ r n)

/-- Device 1's sums are added on the first 32 rows. -/
theorem stL1_apply (T : FVec Ideal S1024x8 .f32) (i : Fin 1024) (n : Fin 8) :
    stL1 (F := Ideal) m T (ix2 i n) = if i.val < 32 then T (ix2 i n) + lT (F := Ideal) m 1 (ix2 i n) else T (ix2 i n) := by
  unfold stL1 stepL
  refine (congrFun (View.write_whole_slice_unit (Val := Elt Ideal) cc0_scratch7 _ _ inb_S1024x8_S32x8_0_0 T _) (ix2 i n)).trans ?_
  unfold updateSlice
  split
  · rename_i hin
    have h0 := hin (0 : Fin 2)
    have h0l : 0 ≤ i.val := h0.1
    have h0u : i.val < 0 + 32 := h0.2
    rw [if_pos (by omega)]
    refine (congrArg _ (Shape.idx_ext₂ (y := ix2 (⟨i.val - 0, by omega⟩ : Fin 32) n) rfl (Nat.sub_zero _))).trans
      ((k0_pay2_apply _ _ _ _).trans ?_)
    refine congrArg₂ (· + ·) ?_ ?_
    · show T _ = T _
      exact congrArg T (Shape.idx_ext₂ (by show 0 + 1 * (i.val - 0) = i.val; omega) (by show 0 + 1 * n.val = n.val; omega))
    · show stripL (F := Ideal) m _ = _
      show lT (F := Ideal) m _ (ix2 (srcRow _) _) = _
      have hs : ∀ (x : Dev nD) (y : S1024x8.Idx), x = (1 : Dev nD) → y = ix2 i n → lT (F := Ideal) m x y = lT (F := Ideal) m 1 (ix2 i n) := by
        rintro x y rfl rfl; rfl
      refine hs _ _ rfl (Shape.idx_ext₂ ?_ ?_)
      · show (srcRow ⟨0 + 1 * (i.val - 0), by omega⟩).val = i.val
        unfold srcRow
        simp only
        split <;> simp only <;> omega
      · show 0 + 1 * n.val = n.val; omega
  · rename_i hout
    rw [if_neg]
    intro hc
    refine hout fun a => ?_
    match a with
    | ⟨0, _⟩ => exact ⟨(show 0 ≤ i.val by omega), (show i.val < 0 + 32 by omega)⟩
    | ⟨1, _⟩ => exact ⟨Nat.zero_le _, (show n.val < 0 + 8 by omega)⟩

/-- A slot's rows added to the totals' rows, at an index. -/
theorem k0_pay69_apply (a : Vec Ideal S128x8 .f32) (b : Vec Ideal S1x128x8 .f32) (r : Fin 128) (n : Fin 8) :
    k0_pay69 (F := Ideal) a b (ix2 r n) = a (ix2 r n) + b (ix3 (0 : Fin 1) r n) := by
  unfold k0_pay69
  simp only [shapeCast_self]
  exact congrArg (a (ix2 r n) + ·) (shapeCast_1ab_ab_apply b _ r n)

/-- Device 1's sums are added on the last 128 rows. -/
theorem stLB_apply (T : FVec Ideal S1024x8 .f32) (i : Fin 1024) (n : Fin 8) :
    stLB (F := Ideal) m T (ix2 i n) = if 896 ≤ i.val then T (ix2 i n) + lT (F := Ideal) m 1 (ix2 i n) else T (ix2 i n) := by
  unfold stLB stepL
  refine (congrFun (View.write_whole_slice_unit (Val := Elt Ideal) cc0_scratch7 _ _ inb_S1024x8_S128x8_896_0 T _) (ix2 i n)).trans ?_
  unfold updateSlice
  split
  · rename_i hin
    have h0 := hin (0 : Fin 2)
    have h0l : 896 ≤ i.val := h0.1
    have h0u : i.val < 896 + 128 := h0.2
    rw [if_pos (by omega)]
    refine (congrArg _ (Shape.idx_ext₂ (y := ix2 (⟨i.val - 896, by omega⟩ : Fin 128) n) rfl (Nat.sub_zero _))).trans
      ((k0_pay69_apply _ _ _ _).trans ?_)
    refine congrArg₂ (· + ·) ?_ ?_
    · show T _ = T _
      exact congrArg T (Shape.idx_ext₂ (by show 896 + 1 * (i.val - 896) = i.val; omega) (by show 0 + 1 * n.val = n.val; omega))
    · show stripL (F := Ideal) m _ = _
      show lT (F := Ideal) m _ (ix2 (srcRow _) _) = _
      have hs : ∀ (x : Dev nD) (y : S1024x8.Idx), x = (1 : Dev nD) → y = ix2 i n → lT (F := Ideal) m x y = lT (F := Ideal) m 1 (ix2 i n) := by
        rintro x y rfl rfl; rfl
      refine hs _ _ rfl (Shape.idx_ext₂ ?_ ?_)
      · show (srcRow ⟨32 + 1 * (i.val - 896), by omega⟩).val = i.val
        unfold srcRow
        simp only
        split <;> simp only <;> omega
      · show 0 + 1 * n.val = n.val; omega
  · rename_i hout
    rw [if_neg]
    intro hc
    refine hout fun a => ?_
    match a with
    | ⟨0, _⟩ => exact ⟨(show 896 ≤ i.val by omega), (show i.val < 896 + 128 by omega)⟩
    | ⟨1, _⟩ => exact ⟨Nat.zero_le _, (show n.val < 0 + 8 by omega)⟩

/-- A slot's rows added to the totals' rows, at an index. -/
theorem k0_pay70_apply (a : Vec Ideal S32x8 .f32) (b : Vec Ideal S1x32x8 .f32) (r : Fin 32) (n : Fin 8) :
    k0_pay70 (F := Ideal) a b (ix2 r n) = a (ix2 r n) + b (ix3 (0 : Fin 1) r n) := by
  unfold k0_pay70
  simp only [shapeCast_self]
  exact congrArg (a (ix2 r n) + ·) (shapeCast_1ab_ab_apply b _ r n)

/-- Device 2's sums are added on the first 32 rows. -/
theorem stL2_apply (T : FVec Ideal S1024x8 .f32) (i : Fin 1024) (n : Fin 8) :
    stL2 (F := Ideal) m T (ix2 i n) = if i.val < 32 then T (ix2 i n) + lT (F := Ideal) m 2 (ix2 i n) else T (ix2 i n) := by
  unfold stL2 stepL
  refine (congrFun (View.write_whole_slice_unit (Val := Elt Ideal) cc0_scratch7 _ _ inb_S1024x8_S32x8_0_0 T _) (ix2 i n)).trans ?_
  unfold updateSlice
  split
  · rename_i hin
    have h0 := hin (0 : Fin 2)
    have h0l : 0 ≤ i.val := h0.1
    have h0u : i.val < 0 + 32 := h0.2
    rw [if_pos (by omega)]
    refine (congrArg _ (Shape.idx_ext₂ (y := ix2 (⟨i.val - 0, by omega⟩ : Fin 32) n) rfl (Nat.sub_zero _))).trans
      ((k0_pay70_apply _ _ _ _).trans ?_)
    refine congrArg₂ (· + ·) ?_ ?_
    · show T _ = T _
      exact congrArg T (Shape.idx_ext₂ (by show 0 + 1 * (i.val - 0) = i.val; omega) (by show 0 + 1 * n.val = n.val; omega))
    · show stripL (F := Ideal) m _ = _
      show lT (F := Ideal) m _ (ix2 (srcRow _) _) = _
      have hs : ∀ (x : Dev nD) (y : S1024x8.Idx), x = (2 : Dev nD) → y = ix2 i n → lT (F := Ideal) m x y = lT (F := Ideal) m 2 (ix2 i n) := by
        rintro x y rfl rfl; rfl
      refine hs _ _ rfl (Shape.idx_ext₂ ?_ ?_)
      · show (srcRow ⟨0 + 1 * (i.val - 0), by omega⟩).val = i.val
        unfold srcRow
        simp only
        split <;> simp only <;> omega
      · show 0 + 1 * n.val = n.val; omega
  · rename_i hout
    rw [if_neg]
    intro hc
    refine hout fun a => ?_
    match a with
    | ⟨0, _⟩ => exact ⟨(show 0 ≤ i.val by omega), (show i.val < 0 + 32 by omega)⟩
    | ⟨1, _⟩ => exact ⟨Nat.zero_le _, (show n.val < 0 + 8 by omega)⟩

/-- A slot's rows added to the totals' rows, at an index. -/
theorem k0_pay71_apply (a : Vec Ideal S32x8 .f32) (b : Vec Ideal S1x32x8 .f32) (r : Fin 32) (n : Fin 8) :
    k0_pay71 (F := Ideal) a b (ix2 r n) = a (ix2 r n) + b (ix3 (0 : Fin 1) r n) := by
  unfold k0_pay71
  simp only [shapeCast_self]
  exact congrArg (a (ix2 r n) + ·) (shapeCast_1ab_ab_apply b _ r n)

/-- Device 3's sums are added on the first 32 rows. -/
theorem stL3_apply (T : FVec Ideal S1024x8 .f32) (i : Fin 1024) (n : Fin 8) :
    stL3 (F := Ideal) m T (ix2 i n) = if i.val < 32 then T (ix2 i n) + lT (F := Ideal) m 3 (ix2 i n) else T (ix2 i n) := by
  unfold stL3 stepL
  refine (congrFun (View.write_whole_slice_unit (Val := Elt Ideal) cc0_scratch7 _ _ inb_S1024x8_S32x8_0_0 T _) (ix2 i n)).trans ?_
  unfold updateSlice
  split
  · rename_i hin
    have h0 := hin (0 : Fin 2)
    have h0l : 0 ≤ i.val := h0.1
    have h0u : i.val < 0 + 32 := h0.2
    rw [if_pos (by omega)]
    refine (congrArg _ (Shape.idx_ext₂ (y := ix2 (⟨i.val - 0, by omega⟩ : Fin 32) n) rfl (Nat.sub_zero _))).trans
      ((k0_pay71_apply _ _ _ _).trans ?_)
    refine congrArg₂ (· + ·) ?_ ?_
    · show T _ = T _
      exact congrArg T (Shape.idx_ext₂ (by show 0 + 1 * (i.val - 0) = i.val; omega) (by show 0 + 1 * n.val = n.val; omega))
    · show stripL (F := Ideal) m _ = _
      show lT (F := Ideal) m _ (ix2 (srcRow _) _) = _
      have hs : ∀ (x : Dev nD) (y : S1024x8.Idx), x = (3 : Dev nD) → y = ix2 i n → lT (F := Ideal) m x y = lT (F := Ideal) m 3 (ix2 i n) := by
        rintro x y rfl rfl; rfl
      refine hs _ _ rfl (Shape.idx_ext₂ ?_ ?_)
      · show (srcRow ⟨0 + 1 * (i.val - 0), by omega⟩).val = i.val
        unfold srcRow
        simp only
        split <;> simp only <;> omega
      · show 0 + 1 * n.val = n.val; omega
  · rename_i hout
    rw [if_neg]
    intro hc
    refine hout fun a => ?_
    match a with
    | ⟨0, _⟩ => exact ⟨(show 0 ≤ i.val by omega), (show i.val < 0 + 32 by omega)⟩
    | ⟨1, _⟩ => exact ⟨Nat.zero_le _, (show n.val < 0 + 8 by omega)⟩

/-- Device 0's sums are added everywhere. -/
theorem addL_apply (T : FVec Ideal S1024x8 .f32) (i : Fin 1024) (n : Fin 8) :
    addL (F := Ideal) m T (ix2 i n) = T (ix2 i n) + lT (F := Ideal) m 0 (ix2 i n) := by
  unfold addL k0_pay67
  simp only [shapeCast_self]
  rfl

/-- **The totals** of every device are the sums over all four. -/
theorem totL_apply (c : Dev nD) (i : Fin 1024) (n : Fin 8) :
    totL (F := Ideal) m c (ix2 i n) = ∑ d : Fin 4, lT (F := Ideal) m d (ix2 i n) := by
  have f1 : 32 ≤ i.val → i.val < 896 → lT (F := Ideal) m 1 (ix2 i n) = 0 :=
    fun h h' => lT_far m 1 i n (by decide) h (by show i.val + 128 < 1024 * 1; omega)
  have f2 : 32 ≤ i.val → lT (F := Ideal) m 2 (ix2 i n) = 0 :=
    fun h => lT_far m 2 i n (by decide) h (by show i.val + 128 < 1024 * 2; omega)
  have f3 : 32 ≤ i.val → lT (F := Ideal) m 3 (ix2 i n) = 0 :=
    fun h => lT_far m 3 i n (by decide) h (by show i.val + 128 < 1024 * 3; omega)
  rw [Fin.sum_univ_four]
  match c with
  | ⟨0, _⟩ =>
    show stL3 m (stL2 m (stLB m (stL1 m (lT m 0)))) (ix2 i n) = _
    simp only [stL1_apply, stL2_apply, stL3_apply, stLB_apply]
    rcases lt_or_ge i.val 32 with h | h
    · simp only [if_pos h, if_neg (show ¬ 896 ≤ i.val by omega)]
    · simp only [if_neg (show ¬ i.val < 32 by omega), f2 h, f3 h, add_zero]
      split
      · rfl
      · rw [f1 h (by omega), add_zero]
  | ⟨1, _⟩ =>
    show stL3 m (stL2 m (addL m (lT m 1))) (ix2 i n) = _
    simp only [addL_apply, stL2_apply, stL3_apply]
    rcases lt_or_ge i.val 32 with h | h
    · simp only [if_pos h]; abel
    · simp only [if_neg (show ¬ i.val < 32 by omega), f2 h, f3 h, add_zero]; exact add_comm _ _
  | ⟨2, _⟩ =>
    show stL3 m (stLB m (stL1 m (addL m (lT m 2)))) (ix2 i n) = _
    simp only [addL_apply, stL1_apply, stL3_apply, stLB_apply]
    rcases lt_or_ge i.val 32 with h | h
    · simp only [if_pos h, if_neg (show ¬ 896 ≤ i.val by omega)]; abel
    · simp only [if_neg (show ¬ i.val < 32 by omega), f2 h, f3 h, add_zero, zero_add]
      split
      · rfl
      · rw [f1 h (by omega), add_zero]
  | ⟨3, _⟩ =>
    show stL2 m (stLB m (stL1 m (addL m (lT m 3)))) (ix2 i n) = _
    simp only [addL_apply, stL1_apply, stL2_apply, stLB_apply]
    rcases lt_or_ge i.val 32 with h | h
    · simp only [if_pos h, if_neg (show ¬ 896 ≤ i.val by omega)]; abel
    · simp only [if_neg (show ¬ i.val < 32 by omega), f2 h, f3 h, add_zero, zero_add]
      split
      · rfl
      · rw [f1 h (by omega), add_zero]

end Cert.RunI
-- ==== Proof.Algebra.Out.lean ====
/-
# A device's result, read at an index

Every device divides its totals by the row totals, head by head, and multiplies by the output
weights.
-/
module

public import proofs.«01_k».proof.Proof.Algebra.Totals
public import proofs.«01_k».proof.Proof.RunI.Launch

@[expose] public section

noncomputable section

namespace Cert.RunI

open Cert.KernelIdeal Cert.KernelIdeal.Gen
open Idealize.ShloMosaic Idealize.ShloMosaic.TcCoe
open Idealize.ShloMosaic.ValueIdx
open Cert.Algebra

/-- A head's one column lies inside the row totals. -/
theorem cutCol (h : Fin 8) : S1024x8.Slices ![0, h.val] S1024x1 := by
  revert h; decide

/-- One head's totals divided by its row totals. -/
def quot (T : FVec Ideal S1024x1024 .f32) (L : FVec Ideal S1024x8 .f32) (h : Fin 8) : FVec Ideal S1024x128 .f32 :=
  divf (extractStridedSlice S1024x128 ![0, 128 * h.val] T (cutCols h))
    (broadcastTo S1024x128 (extractStridedSlice S1024x1 ![0, h.val] L (cutCol h)) broadcasts_S1024x1_S1024x128)

/-- A head's quotient, at an index. -/
theorem quot_apply (T : FVec Ideal S1024x1024 .f32) (L : FVec Ideal S1024x8 .f32) (h : Fin 8) (i : Fin 1024) (d : Fin 128) :
    quot T L h (ix2 i d) = Ideal.div (T (ix2 i (col h d))) (L (ix2 i h)) := by
  unfold quot
  rw [divf_apply]
  congr 1
  · exact slice2_axis1_apply (128 * h.val) T _ i d (col h d) rfl
  · refine (broadcastTo_apply _ _ _ (ix2 i (0 : Fin 1)) fun a => ?_).trans
      (slice2_axis1_apply h.val L _ i (0 : Fin 1) h rfl)
    match a with
    | ⟨0, _⟩ => rfl
    | ⟨1, _⟩ => rfl

/-- The eight heads make up the whole width. -/
theorem quots_concat : Shape.Concatenates ((List.ofFn fun h : Fin 8 => (⟨S1024x128, (fun _ => 0 : S1024x128.Idx → EReal)⟩ : (s : Shape) × (s.Idx → EReal))).map (·.1)) S1024x1024 1 :=
  concatenates_S1024x128_S1024x128_S1024x128_S1024x128_S1024x128_S1024x128_S1024x128_S1024x128_S1024x1024_d1

/-- The eight heads' quotients side by side. -/
theorem pay74_eq (T : FVec Ideal S1024x1024 .f32) (L : FVec Ideal S1024x8 .f32) (w : Vec Ideal S1024x1024 .bf16) :
    k0_pay74 (F := Ideal) T L (k0_pay72 T) (k0_pay73 L) w =
      matmul (φ₂ := .bf16) dot_S1024x1024_S1024x1024_S1024x1024_1_0_0_1_n_n none
        (truncf .bf16 (concatenate S1024x1024 1 (List.ofFn fun h : Fin 8 => (⟨S1024x128, quot T L h⟩ : (s : Shape) × (s.Idx → EReal)))
          quots_concat : FVec Ideal S1024x1024 .f32) bitsLt_bf16_f32)
        (shapeCast S1024x1024 w shapeCasts_S1024x1024_S1024x1024) (constant (F := Ideal) S1024x1024 .f32 0x00000000#32) := rfl

/-- The quotients times the output weights, at an index. -/
theorem pay74_apply (T : FVec Ideal S1024x1024 .f32) (L : FVec Ideal S1024x8 .f32) (w : Vec Ideal S1024x1024 .bf16) (i n : Fin 1024) :
    k0_pay74 (F := Ideal) T L (k0_pay72 T) (k0_pay73 L) w (ix2 i n) =
      ∑ k : Fin 1024, Ideal.div (T (ix2 i k)) (L (ix2 i (hd k))) * w (ix2 k n) := by
  rw [pay74_eq, mm_square, shapeCast_self]
  refine Finset.sum_congr rfl fun k _ => ?_
  rw [truncf_apply]
  congr 1
  refine (concatenate_ofFn_apply (t := S1024x1024) (s₁ := S1024x128) 1 (fun h => quot T L h) _ rfl 128 rfl (ix2 i k) (hd k) rfl (ix2 i (lane k)) rfl ?_).trans ?_
  · intro b hb
    match b with
    | ⟨0, _⟩ => rfl
    | ⟨1, _⟩ => exact absurd rfl hb
  · rw [quot_apply]
    congr 2
    exact Shape.idx_ext₂ rfl (by show 128 * (k.val / 128) + k.val % 128 = k.val; omega)

variable (m : (ℓ : Loc nD τ sig) → Buf (Elt Ideal) ℓ)

/-- **A device's result** at an index. -/
theorem outV_apply (c : Dev nD) (i n : Fin 1024) :
    outV (F := Ideal) m c (ix2 i n) =
      ∑ k : Fin 1024, Ideal.div (∑ d : Fin 4, accT (F := Ideal) m d (ix2 i k)) (∑ d : Fin 4, lT (F := Ideal) m d (ix2 i (hd k))) *
        woIn (F := Ideal) m c (ix2 k n) := by
  unfold outV
  rw [pay74_apply]
  simp only [totA_apply, totL_apply]

/-! ## The staged operands are the arguments -/

/-- The inputs. -/
theorem xIn_apply (c : Dev nD) (i k : Fin 1024) : xIn (F := Ideal) m c (ix2 i k) = m ((c : Thread nD τ).loc main_arg0) (ix2 i k) :=
  congrArg (m ((c : Thread nD τ).loc main_arg0)) (Shape.idx_ext₂ (by show 0 + 1 * i.val = i.val; omega) (by show 0 + 1 * k.val = k.val; omega))
/-- The query weights. -/
theorem qIn_apply (c : Dev nD) (i k : Fin 1024) : qIn (F := Ideal) m c (ix2 i k) = m ((c : Thread nD τ).loc main_arg1) (ix2 i k) :=
  congrArg (m ((c : Thread nD τ).loc main_arg1)) (Shape.idx_ext₂ (by show 0 + 1 * i.val = i.val; omega) (by show 0 + 1 * k.val = k.val; omega))
/-- The keys. -/
theorem kIn_apply (c : Dev nD) (i k : Fin 1024) : kIn (F := Ideal) m c (ix2 i k) = m ((c : Thread nD τ).loc main_arg2) (ix2 i k) :=
  congrArg (m ((c : Thread nD τ).loc main_arg2)) (Shape.idx_ext₂ (by show 0 + 1 * i.val = i.val; omega) (by show 0 + 1 * k.val = k.val; omega))
/-- The values. -/
theorem vIn_apply (c : Dev nD) (i k : Fin 1024) : vIn (F := Ideal) m c (ix2 i k) = m ((c : Thread nD τ).loc main_arg3) (ix2 i k) :=
  congrArg (m ((c : Thread nD τ).loc main_arg3)) (Shape.idx_ext₂ (by show 0 + 1 * i.val = i.val; omega) (by show 0 + 1 * k.val = k.val; omega))
/-- The output weights. -/
theorem woIn_apply (c : Dev nD) (i k : Fin 1024) : woIn (F := Ideal) m c (ix2 i k) = m ((c : Thread nD τ).loc main_arg4) (ix2 i k) :=
  congrArg (m ((c : Thread nD τ).loc main_arg4)) (Shape.idx_ext₂ (by show 0 + 1 * i.val = i.val; omega) (by show 0 + 1 * k.val = k.val; omega))

/-- Head `h`'s columns of the keys and values. -/
theorem kV_apply (c : Dev nD) (h : Fin 8) (j : Fin 1024) (d : Fin 128) :
    kV (F := Ideal) m c h (ix2 j d) = m ((c : Thread nD τ).loc main_arg2) (ix2 j (col h d)) := by
  refine Eq.trans ?_ (kIn_apply m c j (col h d))
  show kIn (F := Ideal) m c _ = _
  exact congrArg (kIn (F := Ideal) m c) (Shape.idx_ext₂ (by show 0 + 1 * j.val = j.val; omega) (by show 128 * h.val + 1 * d.val = 128 * h.val + d.val; omega))
/-- Head `h`'s columns of the values. -/
theorem vV_apply (c : Dev nD) (h : Fin 8) (j : Fin 1024) (d : Fin 128) :
    vV (F := Ideal) m c h (ix2 j d) = m ((c : Thread nD τ).loc main_arg3) (ix2 j (col h d)) := by
  refine Eq.trans ?_ (vIn_apply m c j (col h d))
  show vIn (F := Ideal) m c _ = _
  exact congrArg (vIn (F := Ideal) m c) (Shape.idx_ext₂ (by show 0 + 1 * j.val = j.val; omega) (by show 128 * h.val + 1 * d.val = 128 * h.val + d.val; omega))

/-- The scaled queries. -/
theorem qV_apply (c : Dev nD) (i n : Fin 1024) :
    qV (F := Ideal) m c (ix2 i n) = proj (fun a b => m ((c : Thread nD τ).loc main_arg0) (ix2 a b)) (fun a b => m ((c : Thread nD τ).loc main_arg1) (ix2 a b)) i n *
      Ideal.ofBits .f32 0x3DB504F3#32 := by
  unfold qV
  rw [pay5_apply]
  refine congrArg (· * Ideal.ofBits .f32 0x3DB504F3#32) (Finset.sum_congr rfl fun k _ => ?_)
  exact congr (congrArg HMul.hMul (xIn_apply m c i k)) (qIn_apply m c k n)

variable (ρ : Dev nD → PrngReg)

/-- **The array the result is written to ends with the device's result.** -/
theorem final5 (c : Dev nD) : finalA (F := Ideal) m ρ c 5 = outV (F := Ideal) m c := by
  refine (dats (F := Ideal) m ρ 0 c).arrAt_eq_of_cover (5 : Fin 6) (outV (F := Ideal) m c) ?_ ?_
  · intro t _
    refine funext fun i => ?_
    show outV (F := Ideal) m c i = outV (F := Ideal) m c _
    refine congrArg (outV (F := Ideal) m c) (Shape.idx_ext₂ ?_ ?_)
    · show (i 0).val = 0 + 1 * (i 0).val; omega
    · show (i 1).val = 0 + 1 * (i 1).val; omega
  · intro i
    refine ⟨t₀, by decide, ?_⟩
    have : ((cfg0.win (5 : Fin 6)).blk t₀).view.emb i = i :=
      Shape.idx_ext₂ (by show 0 + 1 * (i 0).val = (i 0).val; omega) (by show 0 + 1 * (i 1).val = (i 1).val; omega)
    exact this ▸ ((cfg0.win (5 : Fin 6)).blk t₀).view.emb_mem_set i

end Cert.RunI
-- ==== Proof.Algebra.Reference.lean ====
/-
# The reference, read at an index
-/
module

public import proofs.«01_k».proof.Proof.Algebra.Head
public import proofs.«01_k».proof.Proof.Gen.ReferenceIdeal.Read

@[expose] public section

noncomputable section

namespace Cert.RefI

open Cert.ReferenceIdeal Cert.ReferenceIdeal.Gen Cert.ReferenceIdeal.Read
open Idealize.ShloMosaic Idealize.ShloMosaic.TcCoe
open Idealize.ShloMosaic.ValueIdx
open Cert.Algebra
open Cert.RunI (col)

/-- A square array's contents and a long one's. -/
abbrev Sq := (⟨S1024x1024, .bf16⟩ : BufTy).Contents (Elt Ideal)
/-- A long array's contents. -/
abbrev Lg := (⟨S4096x1024, .bf16⟩ : BufTy).Contents (Elt Ideal)

/-- The factor a score is multiplied by. -/
abbrev κ : EReal := Ideal.ofBits .f32 0x3DB504F3#32

variable (x w : Sq) (K V : Lg) (o : Sq)

/-- The queries. -/
abbrev qR (i n : Fin 1024) : EReal := proj (fun a b => x (ix2 a b)) (fun a b => w (ix2 a b)) i n

/-- The inputs. -/
theorem v1_at (i k : Fin 1024) : val_main_v1 (F := Ideal) x (ix3 (0 : Fin 1) i k) = x (ix2 i k) := by
  rw [val_main_v1_apply, val_main_v0_apply]
  refine congrArg x (Shape.idx_ext₂ ?_ ?_)
  · show ((0 * 1024 + i.val) * 1024 + k.val) / 1024 = i.val; omega
  · show ((0 * 1024 + i.val) * 1024 + k.val) % 1024 = k.val; omega

/-- The queries, with all heads joined. -/
theorem v8_at (i n : Fin 1024) : val_main_v8 (F := Ideal) x w (ix3 (0 : Fin 1) i n) = qR x w i n := by
  rw [val_main_v8_apply]
  refine (val_main_v7_apply x w (ix3 (0 : Fin 1) i n)).trans (Finset.sum_congr rfl fun k _ => ?_)
  refine congr (congrArg HMul.hMul ?_) ?_
  · exact (congrArg (val_main_v1 (F := Ideal) x) (eq_ix3 _)).trans (v1_at x i k)
  · exact congrArg w (eq_ix2 _)

/-- The queries, head by head. -/
theorem v28_at (i : Fin 1024) (h : Fin 8) (d : Fin 128) :
    val_main_v28 (F := Ideal) x w (ix4 (0 : Fin 1) i h d) = qR x w i (col h d) := by
  rw [val_main_v28_apply]
  refine (val_main_v9_apply x w (ix4 (0 : Fin 1) i h d)).trans ?_
  refine (congrArg (val_main_v8 (F := Ideal) x w) ?_).trans (v8_at x w i (col h d))
  funext a
  match a with
  | ⟨0, _⟩ => rfl
  | ⟨1, _⟩ => exact Fin.ext (by show (((0 * 1024 + i.val) * 8 + h.val) * 128 + d.val) / 1024 % 1024 = i.val; omega)
  | ⟨2, _⟩ => exact Fin.ext (by show (((0 * 1024 + i.val) * 8 + h.val) * 128 + d.val) % 1024 = 128 * h.val + d.val; omega)

/-- The keys, head by head. -/
theorem v3_at (g : Fin 4096) (h : Fin 8) (d : Fin 128) :
    val_main_v3 (F := Ideal) K (ix4 (0 : Fin 1) g h d) = K (ix2 g (col h d)) := by
  rw [val_main_v3_apply]
  refine (val_main_v2_apply K (ix4 (0 : Fin 1) g h d)).trans (congrArg K (Shape.idx_ext₂ ?_ ?_))
  · show (((0 * 4096 + g.val) * 8 + h.val) * 128 + d.val) / 1024 = g.val; omega
  · show (((0 * 4096 + g.val) * 8 + h.val) * 128 + d.val) % 1024 = 128 * h.val + d.val; omega

/-- The values, head by head. -/
theorem v5_at (g : Fin 4096) (h : Fin 8) (d : Fin 128) :
    val_main_v5 (F := Ideal) V (ix4 (0 : Fin 1) g h d) = V (ix2 g (col h d)) := by
  rw [val_main_v5_apply]
  refine (val_main_v4_apply V (ix4 (0 : Fin 1) g h d)).trans (congrArg V (Shape.idx_ext₂ ?_ ?_))
  · show (((0 * 4096 + g.val) * 8 + h.val) * 128 + d.val) / 1024 = g.val; omega
  · show (((0 * 4096 + g.val) * 8 + h.val) * 128 + d.val) % 1024 = 128 * h.val + d.val; omega

/-- A score before the mask. -/
def raw (h : Fin 8) (i : Fin 1024) (g : Fin 4096) : EReal :=
  (∑ d : Fin 128, qR x w i (col h d) * K (ix2 g (col h d))) * κ

/-- The scaled scores. -/
theorem v33_at (h : Fin 8) (i : Fin 1024) (g : Fin 4096) :
    val_main_v33 (F := Ideal) x w K (ix4 (0 : Fin 1) h i g) = raw x w K h i g := by
  rw [val_main_v33_apply, val_main_v31_apply, val_main_v30_apply, val_main_v32_apply, val_main_cst_apply]
  refine congrArg (· * κ) ?_
  refine (val_main_v29_apply x w K (ix4 (0 : Fin 1) h i g)).trans (Finset.sum_congr rfl fun d _ => ?_)
  refine congr (congrArg HMul.hMul ?_) ?_
  · exact (congrArg (val_main_v28 (F := Ideal) x w) (eq_ix4 _)).trans (v28_at x w i h d)
  · exact (congrArg (val_main_v3 (F := Ideal) K) (eq_ix4 _)).trans (v3_at K g h d)

/-- The mask keeps the keys near a query, and the first thirty-two queries and keys. -/
theorem v27_at (i : Fin 1024) (g : Fin 4096) :
    val_main_v27 (F := Ideal) (ix2 i g) = BitVec.ofBool (keep i.val g.val) :=
  (show val_main_v27 (F := Ideal) (ix2 i g) = _ by
    simp only [val_main_v27_apply, val_main_v19_apply, val_main_v17_apply, val_main_v16_apply, val_main_v14_apply, val_main_v11_apply, val_main_v10_apply,
      val_main_v15_apply, val_main_v13_apply, val_main_v12_apply, val_main_v18_apply, val_main_c_apply, val_main_v26_apply, val_main_v24_apply,
      val_main_v21_apply, val_main_v20_apply, val_main_c_0_apply, val_main_v25_apply, val_main_v23_apply, val_main_v22_apply, val_main_c_1_apply]
    exact mask_reference i.val g.val (by omega) (by omega))

/-- The masked scores. -/
def score (h : Fin 8) (i : Fin 1024) (g : Fin 4096) : EReal := if keep i.val g.val then raw x w K h i g else ⊥

/-- The scores after the mask. -/
theorem v35_at (h : Fin 8) (i : Fin 1024) (g : Fin 4096) :
    val_main_v35 (F := Ideal) x w K (ix4 (0 : Fin 1) h i g) = score x w K h i g := by
  rw [val_main_v35_apply, val_main_call0_v1_apply, val_main_v34_apply, val_main_call0_v2_apply, val_main_call0_v0_apply, val_main_cst_2_apply, v33_at]
  have e : val_main_v27 (F := Ideal) (idx_main_v34 (idx_main_call0_v1 (ix4 (0 : Fin 1) h i g))) = BitVec.ofBool (keep i.val g.val) :=
    (congrArg (val_main_v27 (F := Ideal)) (eq_ix2 _)).trans (v27_at i g)
  rw [e, select_ofBool]
  have b : (FloatOps.ofBits (F := Ideal) .f32 0xFF800000#32 : EReal) = ⊥ := by
    show Ideal.ofBits .f32 0xFF800000#32 = ⊥
    simp [Ideal.ofBits, Ideal.ieee]
  rw [b]; rfl

/-- A row's largest score. -/
def top (h : Fin 8) (i : Fin 1024) : EReal := val_main_v36 (F := Ideal) x w K (ix3 (0 : Fin 1) h i)

/-- It is a real number when the scores the mask keeps are. -/
theorem top_real (h : Fin 8) (i : Fin 1024) (hr : ∀ g, ∃ t : ℝ, raw x w K h i g = ↑t) : ∃ M : ℝ, top x w K h i = ↑M := by
  unfold top val_main_v36 Host.reduce
  have b : val_main_cst_3 (F := Ideal) (Shape.Idx.first h_S_) = (⊥ : EReal) := by
    show Ideal.ofBits .f32 0xFF800000#32 = ⊥
    simp [Ideal.ofBits, Ideal.ieee]
  have nt : ∀ (g : Fin 4096) , score x w K h i g ≠ ⊤ := by
    intro g; unfold score; obtain ⟨t, ht⟩ := hr g; rw [ht]; split <;> simp
  refine foldl_max_real _ (fun n => val_main_v35 (F := Ideal) x w K (S1x8x1024x4096.rowMajor.symm n)) _ ?_ ?_ (Or.inr ?_)
  · intro n hn
    have hd := of_decide_eq_true (List.mem_filter.mp hn).2
    set q := S1x8x1024x4096.rowMajor.symm n with hq
    have e1 : q 1 = h := congrFun hd 1
    have e2 : q 2 = i := congrFun hd 2
    let g : Fin 4096 := q 3
    have e : q = ix4 (0 : Fin 1) h i g := by
      funext a
      match a with
      | ⟨0, _⟩ => exact Fin.ext (by have : (q 0).val < 1 := (q 0).isLt; show (q 0).val = 0; omega)
      | ⟨1, _⟩ => exact e1
      | ⟨2, _⟩ => exact e2
      | ⟨3, _⟩ => rfl
    show val_main_v35 (F := Ideal) x w K q ≠ ⊤
    rw [e]
    exact (v35_at x w K h i g).symm ▸ nt g
  · rw [b]; simp
  · let g : Fin 4096 := ⟨i.val, by omega⟩
    refine ⟨S1x8x1024x4096.rowMajor (ix4 (0 : Fin 1) h i g), List.mem_filter.mpr ⟨List.mem_finRange _, decide_eq_true ?_⟩, ?_⟩
    · rw [Equiv.symm_apply_apply]
      exact eq_ix3 _
    · show val_main_v35 (F := Ideal) x w K (S1x8x1024x4096.rowMajor.symm (S1x8x1024x4096.rowMajor (ix4 (0 : Fin 1) h i g))) ≠ ⊥
      rw [Equiv.symm_apply_apply, v35_at]
      unfold score
      obtain ⟨t, ht⟩ := hr g
      rw [if_pos (keep_self i.val), ht]; simp

/-- Every row keeps a key. -/
theorem v41_at (i : Fin 1024) : val_main_v41 (F := Ideal) (ix1 i) = 1#1 := by
  unfold val_main_v41 Host.reduce
  refine foldl_or_one _ (fun n => val_main_v27 (F := Ideal) (S1024x4096.rowMajor.symm n)) _ (Or.inr ?_)
  let g : Fin 4096 := ⟨i.val, by omega⟩
  refine ⟨S1024x4096.rowMajor (ix2 i g), List.mem_filter.mpr ⟨List.mem_finRange _, decide_eq_true ?_⟩, ?_⟩
  · rw [Equiv.symm_apply_apply]
    exact eq_ix1 _
  · show val_main_v27 (F := Ideal) (S1024x4096.rowMajor.symm (S1024x4096.rowMajor (ix2 i g))) = 1#1
    rw [Equiv.symm_apply_apply, v27_at, keep_self i.val]; rfl

/-- A score's exponential, measured from the row's largest. -/
def ex (h : Fin 8) (i : Fin 1024) (g : Fin 4096) : EReal := Ideal.exp (score x w K h i g - top x w K h i)

/-- The exponentials. -/
theorem v40_at (h : Fin 8) (i : Fin 1024) (g : Fin 4096) :
    val_main_v40 (F := Ideal) x w K (ix4 (0 : Fin 1) h i g) = ex x w K h i g := by
  rw [val_main_v40_apply, val_main_v39_apply, v35_at, val_main_v38_apply, val_main_v37_apply]
  have e : idx_main_v37 (idx_main_v38 (ix4 (0 : Fin 1) h i g)) = ix3 (0 : Fin 1) h i := eq_ix3 _
  rw [e]
  rfl

/-- A row's weights. -/
theorem v49_at (h : Fin 8) (i : Fin 1024) (g : Fin 4096) :
    val_main_v49 (F := Ideal) x w K (ix4 (0 : Fin 1) h i g) = Ideal.div (ex x w K h i g) (∑ g', ex x w K h i g') := by
  have one : ∀ j : S1024.Idx, val_main_v41 (F := Ideal) j = 1#1 := fun j => (congrArg _ (eq_ix1 j)).trans (v41_at (j 0))
  rw [val_main_v49_apply, val_main_call2_v1_apply, val_main_v48_apply, one, val_main_v47_apply, v40_at, val_main_v46_apply, val_main_v45_apply,
    val_main_call1_v1_apply, val_main_v42_apply, one, val_main_v44_apply]
  have s : val_main_v43 (F := Ideal) x w K (idx_main_v44 (idx_main_v46 (ix4 (0 : Fin 1) h i g))) = ∑ g', ex x w K h i g' := by
    rw [val_main_v43_apply, val_main_cst_5_apply]
    have z : (FloatOps.ofBits (F := Ideal) .f32 0x00000000#32 : EReal) = 0 := Ideal.ofBits_zero_f32
    rw [z, zero_add]
    refine Finset.sum_congr rfl fun g' _ => ?_
    exact (congrArg (val_main_v40 (F := Ideal) x w K) (eq_ix4 _)).trans (v40_at x w K h i g')
  rw [s]
  rfl

/-- The heads' results side by side. -/
theorem v52_at (i k : Fin 1024) (h : Fin 8) (d : Fin 128) (hk : k = col h d) :
    val_main_v52 (F := Ideal) x w K V (ix3 (0 : Fin 1) i k) =
      ∑ g : Fin 4096, V (ix2 g k) * Ideal.div (ex x w K h i g) (∑ g', ex x w K h i g') := by
  have hkv : k.val = 128 * h.val + d.val := congrArg Fin.val hk
  rw [val_main_v52_apply, val_main_v51_apply]
  have e : idx_main_v51 (idx_main_v52 (ix3 (0 : Fin 1) i k)) = ix4 (0 : Fin 1) h d i := by
    funext a
    match a with
    | ⟨0, _⟩ => rfl
    | ⟨1, _⟩ => exact Fin.ext (by show ((0 * 1024 + i.val) * 1024 + k.val) / 128 % 8 = h.val; omega)
    | ⟨2, _⟩ => exact Fin.ext (by show ((0 * 1024 + i.val) * 1024 + k.val) % 128 = d.val; omega)
    | ⟨3, _⟩ => exact Fin.ext (by show ((0 * 1024 + i.val) * 1024 + k.val) / 1024 % 1024 = i.val; omega)
  rw [e]
  refine (val_main_v50_apply x w K V (ix4 (0 : Fin 1) h d i)).trans (Finset.sum_congr rfl fun g _ => ?_)
  refine congr (congrArg HMul.hMul ?_) ?_
  · rw [hk]; exact (congrArg (val_main_v5 (F := Ideal) V) (eq_ix4 _)).trans (v5_at V g h d)
  · exact (congrArg (val_main_v49 (F := Ideal) x w K) (eq_ix4 _)).trans (v49_at x w K h i g)

/-- **The reference's result** at an index. -/
theorem v55_at (i n : Fin 1024) :
    val_main_v55 (F := Ideal) x w K V o (ix2 i n) =
      ∑ k : Fin 1024, val_main_v52 (F := Ideal) x w K V (ix3 (0 : Fin 1) i k) * o (ix2 k n) := by
  rw [val_main_v55_apply]
  have e : idx_main_v55 (ix2 i n) = ix3 (0 : Fin 1) i n := by
    funext a
    match a with
    | ⟨0, _⟩ => rfl
    | ⟨1, _⟩ => exact Fin.ext (by show (i.val * 1024 + n.val) / 1024 % 1024 = i.val; omega)
    | ⟨2, _⟩ => exact Fin.ext (by show (i.val * 1024 + n.val) % 1024 = n.val; omega)
  rw [e]
  refine (val_main_v54_apply x w K V o (ix3 (0 : Fin 1) i n)).trans (Finset.sum_congr rfl fun k _ => ?_)
  refine congr (congrArg HMul.hMul ?_) ?_
  · exact congrArg (val_main_v52 (F := Ideal) x w K V) (eq_ix3 _)
  · exact congrArg o (eq_ix2 _)

end Cert.RefI
-- ==== Proof.Algebra.Join.lean ====
/-
# The kernel's result is the reference's

The four devices' sums are one sum over all the keys; a softmax computed with no maximum taken off is
the softmax, since the scores are real numbers.
-/
module

public import proofs.«01_k».proof.Proof.Algebra.Out
public import proofs.«01_k».proof.Proof.Algebra.Reference
public import proofs.«01_k».proof.Proof.Gen.Pre_finite_KernelIdeal
public import Idealize.ShloMosaic.Lib.Layout

@[expose] public section

noncomputable section

namespace Cert.Join

open Idealize.ShloMosaic Idealize.ShloMosaic.TcCoe
open Idealize.ShloMosaic.ValueIdx
open Cert.Algebra
open Cert.RunI (col hd lane)
open Cert.RefI (Sq Lg)

/-! ## The precondition -/

/-- An extended real whose absolute value is below infinity is a real number. -/
theorem real_of_abs (y : EReal) (h : max y (-y) < ⊤) : ∃ r : ℝ, y = ↑r := by
  induction y with
  | bot => simp at h
  | top => simp at h
  | coe r => exact ⟨r, rfl⟩

section
open Cert.Pre_finite_KernelIdeal Cert.Pre_finite_KernelIdeal.Gen

/-- What the precondition says of one entry. -/
theorem real_of_cmp (y : EReal)
    (h : Ideal.cmp .olt (max y (-y)) (Ideal.ofBits .bf16 0x7F80#16) = 1#1) : ∃ r : ℝ, y = ↑r := by
  refine real_of_abs y ?_
  have t : Ideal.ofBits .bf16 0x7F80#16 = ⊤ := by simp [Ideal.ofBits, Ideal.ieee]
  rw [t] at h
  by_contra hc
  have : Ideal.cmp .olt (max y (-y)) ⊤ = 0#1 := by
    show BitVec.ofBool (decide (max y (-y) < ⊤)) = 0#1
    rw [decide_eq_false hc]; rfl
  rw [this] at h
  exact absurd h (by decide)

/-- Under it the entries of the first three arguments are real numbers. -/
theorem pre_real (x w k v o : FVec Ideal Cert.Pre_finite_KernelIdeal.S1024x1024 .bf16)
    (h : Cert.Pre_finite_KernelIdeal.fn (F := Ideal) x w k v o = fun _ => 1#1) (i j : Fin 1024) :
    (∃ r : ℝ, x (ix2 i j) = ↑r) ∧ (∃ r : ℝ, w (ix2 i j) = ↑r) ∧ (∃ r : ℝ, k (ix2 i j) = ↑r) := by
  have at' : ∀ q : Cert.Pre_finite_KernelIdeal.S3072x1024.Idx, ∃ r : ℝ,
      concatenate Cert.Pre_finite_KernelIdeal.S3072x1024 0 [⟨Cert.Pre_finite_KernelIdeal.S1024x1024, x⟩, ⟨Cert.Pre_finite_KernelIdeal.S1024x1024, w⟩, ⟨Cert.Pre_finite_KernelIdeal.S1024x1024, k⟩]
        Facts.concatenates_S1024x1024_S1024x1024_S1024x1024_S3072x1024_d0 q = ↑r :=
    fun q => real_of_cmp _ (congrFun h q)
  have off : ∀ (n : Nat) (hn : n + i.val < 3072) (b : Fin 2), b.cast (rfl : 2 = 2) ≠ (0 : Fin 2) →
      ((ix2 i j : Cert.Pre_finite_KernelIdeal.S1024x1024.Idx) b).val = ((ix2 (⟨n + i.val, hn⟩ : Fin 3072) j : Cert.Pre_finite_KernelIdeal.S3072x1024.Idx) b).val := by
    intro n hn b hb
    match b with
    | ⟨0, _⟩ => exact absurd rfl hb
    | ⟨1, _⟩ => rfl
  refine ⟨?_, ?_, ?_⟩
  · obtain ⟨r, hr⟩ := at' (ix2 (⟨0 + i.val, by omega⟩ : Fin 3072) j)
    exact ⟨r, (concatenate_apply_piece (t := Cert.Pre_finite_KernelIdeal.S3072x1024) 0 _ _ _ 0 (by show 0 < 3; omega) _ x rfl rfl 0 rfl (ix2 i j) (off 0 _) rfl).symm.trans hr⟩
  · obtain ⟨r, hr⟩ := at' (ix2 (⟨1024 + i.val, by omega⟩ : Fin 3072) j)
    exact ⟨r, (concatenate_apply_piece (t := Cert.Pre_finite_KernelIdeal.S3072x1024) 0 _ _ _ 1 (by show 1 < 3; omega) _ w rfl rfl 1024 rfl (ix2 i j) (off 1024 _) rfl).symm.trans hr⟩
  · obtain ⟨r, hr⟩ := at' (ix2 (⟨2048 + i.val, by omega⟩ : Fin 3072) j)
    exact ⟨r, (concatenate_apply_piece (t := Cert.Pre_finite_KernelIdeal.S3072x1024) 0 _ _ _ 2 (by show 2 < 3; omega) _ k rfl rfl 2048 rfl (ix2 i j) (off 2048 _) rfl).symm.trans hr⟩

end

/-! ## The keys of all devices -/

/-- Device `c`'s key `j` among all the keys. -/
def gl (c : Fin 4) (j : Fin 1024) : Fin 4096 := ⟨1024 * c.val + j.val, by omega⟩

/-- Summing over the devices and each device's keys is summing over all the keys. -/
theorem sum_gl (f : Fin 4096 → EReal) : ∑ d : Fin 4, ∑ j : Fin 1024, f (gl d j) = ∑ g : Fin 4096, f g := by
  rw [← Fintype.sum_prod_type' (f := fun d j => f (gl d j)), ← (finProdFinEquiv (m := 4) (n := 1024)).sum_comp f]
  refine Finset.sum_congr rfl fun p _ => congrArg f (Fin.ext ?_)
  show 1024 * p.1.val + p.2.val = p.2.val + 1024 * p.1.val
  omega

/-- Every key is some device's. -/
theorem gl_div (g : Fin 4096) : gl ⟨g.val / 1024, by omega⟩ ⟨g.val % 1024, by omega⟩ = g :=
  Fin.ext (by show 1024 * (g.val / 1024) + g.val % 1024 = g.val; omega)

/-! ## The scores as real numbers -/

section
variable (xr wr : Fin 1024 → Fin 1024 → ℝ) (kr : Fin 4096 → Fin 1024 → ℝ) (κ : ℝ)

/-- A query. -/
def qr (i n : Fin 1024) : ℝ := ∑ k : Fin 1024, xr i k * wr k n

/-- A score before the mask. -/
def tr (h : Fin 8) (i : Fin 1024) (g : Fin 4096) : ℝ := (∑ d : Fin 128, qr xr wr i (col h d) * kr g (col h d)) * κ

/-- A query of real inputs and real weights is a real number. -/
theorem proj_coe (x w : Fin 1024 → Fin 1024 → EReal) (hx : ∀ i k, x i k = ↑(xr i k)) (hw : ∀ i k, w i k = ↑(wr i k)) (i n : Fin 1024) :
    proj x w i n = ↑(qr xr wr i n) := by
  unfold proj qr
  rw [← coe_sum]
  refine Finset.sum_congr rfl fun k _ => ?_
  rw [hx, hw, EReal.coe_mul]

/-- A score of real queries and real keys is a real number. -/
theorem tr_coe (h : Fin 8) (i : Fin 1024) (g : Fin 4096) :
    (∑ d : Fin 128, ((qr xr wr i (col h d) : ℝ) : EReal) * ((kr g (col h d) : ℝ) : EReal)) * (κ : EReal) = ↑(tr xr wr kr κ h i g) := by
  unfold tr
  rw [EReal.coe_mul, ← coe_sum]
  refine congrArg (· * (κ : EReal)) (Finset.sum_congr rfl fun k _ => ?_)
  rw [EReal.coe_mul]

end

/-! ## The two results -/

section
open Cert.KernelIdeal Cert.KernelIdeal.Gen

variable (m : (ℓ : Loc nD τ sig) → Buf (Elt Ideal) ℓ) (x w : Sq) (K V : Lg) (o : Sq)
  (xr wr : Fin 1024 → Fin 1024 → ℝ) (kr : Fin 4096 → Fin 1024 → ℝ) (κ : ℝ)

/-- The four devices hold their parts of the reference's arguments. -/
structure Held : Prop where
  h0 : ∀ (c : Dev nD) (i j : Fin 1024), m ((c : Thread nD τ).loc main_arg0) (ix2 i j) = x (ix2 i j)
  h1 : ∀ (c : Dev nD) (i j : Fin 1024), m ((c : Thread nD τ).loc main_arg1) (ix2 i j) = w (ix2 i j)
  h2 : ∀ (c : Dev nD) (i j : Fin 1024), m ((c : Thread nD τ).loc main_arg2) (ix2 i j) = K (ix2 (gl c i) j)
  h3 : ∀ (c : Dev nD) (i j : Fin 1024), m ((c : Thread nD τ).loc main_arg3) (ix2 i j) = V (ix2 (gl c i) j)
  h4 : ∀ (c : Dev nD) (i j : Fin 1024), m ((c : Thread nD τ).loc main_arg4) (ix2 i j) = o (ix2 i j)

/-- The first three arguments' entries, and the factor, are real numbers. -/
structure Reals : Prop where
  hx : ∀ i j : Fin 1024, x (ix2 i j) = ((xr i j : ℝ) : EReal)
  hw : ∀ i j : Fin 1024, w (ix2 i j) = ((wr i j : ℝ) : EReal)
  hk : ∀ (g : Fin 4096) (j : Fin 1024), K (ix2 g j) = ((kr g j : ℝ) : EReal)
  hκ : Ideal.ofBits .f32 0x3DB504F3#32 = ((κ : ℝ) : EReal)

variable {m x w K V o xr wr kr κ}

/-- A device's weight. -/
theorem wK_real (H : Held m x w K V o) (R : Reals x w K xr wr kr κ) (c : Dev nD) (h : Fin 8) (i j : Fin 1024) :
    Cert.RunI.wK m c h i j = ((wt (keep i.val (gl c j).val) (tr xr wr kr κ h i (gl c j)) : ℝ) : EReal) := by
  unfold Cert.RunI.wK
  rw [Cert.RunI.headW_apply]
  have e : (∑ d : Fin 128, Cert.RunI.qV (F := Ideal) m c (ix2 i (col h d)) * Cert.RunI.kV (F := Ideal) m c h (ix2 j d)) = ((tr xr wr kr κ h i (gl c j) : ℝ) : EReal) := by
    rw [← tr_coe, ← scaled]
    refine Finset.sum_congr rfl fun d _ => ?_
    refine congr (congrArg HMul.hMul ?_) ?_
    · rw [Cert.RunI.qV_apply, R.hκ]
      refine congrArg (· * (κ : EReal)) (proj_coe xr wr _ _ (fun a b => ?_) (fun a b => ?_) i (col h d))
      · exact (H.h0 c a b).trans (R.hx a b)
      · exact (H.h1 c a b).trans (R.hw a b)
    · exact (Cert.RunI.kV_apply m c h j d).trans ((H.h2 c j (col h d)).trans (R.hk _ _))
  rw [e]
  show (if keep i.val (gl c j).val = true then Ideal.exp ((tr xr wr kr κ h i (gl c j) : ℝ) : EReal) else 0) = _
  unfold wt
  cases keep i.val (gl c j).val
  · simp
  · simp

/-- A column is its place in its head. -/
theorem col_hd (k : Fin 1024) : col (hd k) (lane k) = k :=
  Fin.ext (by show 128 * (k.val / 128) + k.val % 128 = k.val; omega)

/-- The reference's scores. -/
theorem raw_real (R : Reals x w K xr wr kr κ) (h : Fin 8) (i : Fin 1024) (g : Fin 4096) :
    Cert.RefI.raw x w K h i g = ((tr xr wr kr κ h i g : ℝ) : EReal) := by
  rw [← tr_coe]
  unfold Cert.RefI.raw
  refine congr (congrArg HMul.hMul (Finset.sum_congr rfl fun d _ => ?_)) R.hκ
  refine congr (congrArg HMul.hMul ?_) (R.hk _ _)
  exact proj_coe xr wr _ _ R.hx R.hw i (col h d)

/-- The reference's masked scores. -/
theorem score_real (R : Reals x w K xr wr kr κ) (h : Fin 8) (i : Fin 1024) (g : Fin 4096) :
    Cert.RefI.score x w K h i g = sc (keep i.val g.val) (tr xr wr kr κ h i g) := by
  unfold Cert.RefI.score sc
  rw [raw_real R]

/-- **The kernel's result at an index is the reference's.** -/
theorem out_eq (H : Held m x w K V o) (R : Reals x w K xr wr kr κ) (c : Dev nD) (i n : Fin 1024) :
    Cert.RunI.outV (F := Ideal) m c (ix2 i n) = Cert.ReferenceIdeal.Read.val_main_v55 (F := Ideal) x w K V o (ix2 i n) := by
  rw [Cert.RunI.outV_apply, Cert.RefI.v55_at]
  refine Finset.sum_congr rfl fun k _ => ?_
  refine congr (congrArg HMul.hMul ?_) ((Cert.RunI.woIn_apply m c k n).trans (H.h4 c k n))
  rw [Cert.RefI.v52_at x w K V i k (hd k) (lane k) (col_hd k).symm]
  obtain ⟨M, hM⟩ := Cert.RefI.top_real x w K (hd k) i fun g => ⟨_, raw_real R (hd k) i g⟩
  have el : (∑ d : Fin 4, Cert.RunI.lT (F := Ideal) m d (ix2 i (hd k))) =
      ∑ g : Fin 4096, ((wt (keep i.val g.val) (tr xr wr kr κ (hd k) i g) : ℝ) : EReal) := by
    rw [← sum_gl]
    refine Finset.sum_congr rfl fun d _ => ?_
    rw [Cert.RunI.lT_apply]
    exact Finset.sum_congr rfl fun j _ => wK_real H R d (hd k) i j
  have ea : (∑ d : Fin 4, Cert.RunI.accT (F := Ideal) m d (ix2 i k)) =
      ∑ g : Fin 4096, ((wt (keep i.val g.val) (tr xr wr kr κ (hd k) i g) : ℝ) : EReal) * V (ix2 g k) := by
    rw [← sum_gl fun g => ((wt (keep i.val g.val) (tr xr wr kr κ (hd k) i g) : ℝ) : EReal) * V (ix2 g k)]
    refine Finset.sum_congr rfl fun d _ => ?_
    rw [Cert.RunI.accT_apply]
    refine Finset.sum_congr rfl fun j _ => congr (congrArg HMul.hMul (wK_real H R d (hd k) i j)) ?_
    exact (Cert.RunI.vV_apply m d (hd k) j (lane k)).trans ((congrArg (fun q => m ((d : Thread nD τ).loc main_arg3) (ix2 j q)) (col_hd k)).trans (H.h3 d j k))
  rw [ea, el]
  refine (row (fun g : Fin 4096 => keep i.val g.val) (fun g => tr xr wr kr κ (hd k) i g) M (fun g => V (ix2 g k))
    ⟨⟨i.val, by omega⟩, keep_self i.val⟩).trans ?_
  have ex_eq : ∀ g : Fin 4096, Ideal.exp (sc (keep i.val g.val) (tr xr wr kr κ (hd k) i g) - ↑M) = Cert.RefI.ex x w K (hd k) i g := by
    intro g; unfold Cert.RefI.ex; rw [score_real R, hM]
  simp only [ex_eq]

end

/-! ## From the claim's hypotheses -/

section
open Cert.KernelIdeal Cert.KernelIdeal.Gen

/-- An index of a block, in the whole array. -/
theorem block_at (c : Fin 4) (v : Lg) (i j : Fin 1024) :
    Layout.block ⟨2, ![1024, 1024]⟩ ⟨2, ![4096, 1024]⟩ 0 4 c v (by decide) (ix2 i j) = v (ix2 (gl c i) j) :=
  congrArg v (Shape.idx_ext₂ (by show c.val * 1024 + i.val = 1024 * c.val + i.val; omega) rfl)

/-- **Every device ends with the reference's result.** -/
theorem out_whole (m : (ℓ : Loc nD τ sig) → Buf (Elt Ideal) ℓ) (x w : Sq) (K V : Lg) (o : Sq)
    (H : Held m x w K V o)
    (hpre : ∀ (c : Dev nD) (i j : Fin 1024), (∃ r : ℝ, x (ix2 i j) = ↑r) ∧ (∃ r : ℝ, w (ix2 i j) = ↑r) ∧ (∃ r : ℝ, K (ix2 (gl c i) j) = ↑r))
    (c : Dev nD) :
    Cert.RunI.outV (F := Ideal) m c = Cert.ReferenceIdeal.Read.val_main_v55 (F := Ideal) x w K V o := by
  choose xr hx using fun i j => (hpre c i j).1
  choose wr hw using fun i j => (hpre c i j).2.1
  have hk' : ∀ (g : Fin 4096) (j : Fin 1024), ∃ r : ℝ, K (ix2 g j) = ((r : ℝ) : EReal) := fun g j =>
    gl_div g ▸ (hpre (⟨g.val / 1024, by omega⟩ : Fin 4) ⟨g.val % 1024, by omega⟩ j).2.2
  choose kr hk using hk'
  obtain ⟨κ, hκ⟩ := Cert.RunI.scale_real
  funext q
  exact (congrArg _ (eq_ix2 q)).trans ((out_eq H ⟨hx, hw, hk, hκ⟩ c (q 0) (q 1)).trans (congrArg _ (eq_ix2 q)).symm)

end

end Cert.Join
-- ==== Proof.lean ====
/- The proof of the certificate's claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.RunI.Frames
public import proofs.«01_k».proof.Proof.Algebra.Join
public import proofs.«01_k».proof.Proof.Gen.Pre_finite_KernelIdeal
public import proofs.«01_k».proof.Proof.Gen.Pre_finite_ReferenceIdeal
public import Idealize.ShloMosaic.Adequacy
public import Idealize.ShloMosaic.Init

@[expose] public section

noncomputable section

namespace Cert.Proof

open Idealize.ShloMosaic Idealize.SL.Sem

/-- The kernel as printed leaves its arguments and every semaphore as they were. -/
theorem frame_kernel : Cert.quiescent_Kernel (hKernel := Cert.Kernel.Gen.facts) :=
  fun m g _ => Cert.RunI.frame_printed (F := Bits) m g

/-- So does the kernel read at the extended reals. -/
theorem frame_kernelIdeal : Cert.quiescent_KernelIdeal (hKernelIdeal := Cert.KernelIdeal.Gen.facts) :=
  fun m g _ => Cert.RunI.frame_ideal (F := Ideal) m g

/-- The reference runs on one device and signals nothing. -/
theorem frame_reference : Cert.quiescent_ReferenceIdeal (hReferenceIdeal := Cert.ReferenceIdeal.Gen.facts) :=
  fun m g _ => (θ_run Cert.ReferenceIdeal.defs _ _).mono (fun r h => ⟨fun c => (h c).2, sem_eq_zero_of_no_sems (by decide) r.2⟩)
    (Cert.ReferenceIdeal.Value.run (F := Ideal) m g)

/-- The two frames under the precondition follow from the two without it. -/
theorem frame_kernelIdeal_finite : Cert.quiescent_KernelIdeal_pre_finite_KernelIdeal (hKernelIdeal := Cert.KernelIdeal.Gen.facts)
    (hPre_finite_KernelIdeal := Cert.Pre_finite_KernelIdeal.Gen.facts) :=
  fun m g _ => Cert.RunI.frame_ideal (F := Ideal) m g

theorem frame_reference_finite : Cert.quiescent_ReferenceIdeal_pre_finite_ReferenceIdeal (hReferenceIdeal := Cert.ReferenceIdeal.Gen.facts)
    (hPre_finite_ReferenceIdeal := Cert.Pre_finite_ReferenceIdeal.Gen.facts) :=
  fun m g _ => frame_reference m g trivial

/-- On finite inputs, queries, keys and their weights, every device ends with the reference's result. -/
theorem algebra : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hargs
  have H : Cert.Join.Held m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c i j => congrFun (hargs c).1 _, fun c i j => congrFun (hargs c).2.1 _,
      fun c i j => (congrFun (hargs c).2.2.1 _).trans (Cert.Join.block_at c _ i j),
      fun c i j => (congrFun (hargs c).2.2.2.1 _).trans (Cert.Join.block_at c _ i j),
      fun c i j => congrFun (hargs c).2.2.2.2 _⟩
  have P := fun (c : Dev Cert.KernelIdeal.nD) (i j : Fin 1024) => Cert.Join.pre_real _ _ _ _ _ (hpre c) i j
  have out := Cert.Join.out_whole m _ _ _ _ _ H fun c i j =>
    ⟨(P c i j).1.imp fun r hr => (H.h0 c i j).symm.trans hr, (P c i j).2.1.imp fun r hr => (H.h1 c i j).symm.trans hr,
      (P c i j).2.2.imp fun r hr => (H.h2 c i j).symm.trans hr⟩
  refine ⟨_, (θ_run _ _ _).mono (fun r h c => ⟨((h.1 c (5 : Fin 6)).trans (Cert.RunI.final5 m g c)).trans (out c), Cert.RunI.args_kept m g r h.1 c⟩)
      (Cert.RunI.run_main (F := Ideal) m g),
    (θ_run Cert.ReferenceIdeal.defs _ _).mono (fun r h => ⟨(h 0).1.trans (Cert.ReferenceIdeal.Read.val_main_v55_eq m' 0), (h 0).2⟩)
      (Cert.ReferenceIdeal.Value.run (F := Ideal) m' g')⟩

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, frame_kernelIdeal_finite, frame_reference, frame_reference_finite, trivial, algebra⟩

end Cert.Proof

end
